-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S4224x2x128 Cert.KernelIdeal.S4224x1x128
  ∧ IdealRules.bf16_pair.Statement Cert.KernelIdeal.S1x1x32x1x2x128 Cert.KernelIdeal.S1x1x32x1x1x128
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S128x2x128 Cert.KernelIdeal.S128x1x128
  ∧ IdealRules.named_const.Statement Cert.KernelIdeal.κ "scale_log2e" .f32 0x3E38AA3B#32 (((8 * (Real.log 2))⁻¹ : ℝ) : EReal)
  ∧ IdealRules.bf16_pair.Statement Cert.KernelIdeal.S32x128 Cert.KernelIdeal.S16x128
  ∧ IdealRules.bf16_pair.SelectZeroStatement Cert.KernelIdeal.S8x128
  ∧ IdealRules.bf16_pair.Statement Cert.KernelIdeal.S128x128 Cert.KernelIdeal.S64x128
  ∧ IdealRules.bf16_pair.Statement Cert.KernelIdeal.S8x2x128 Cert.KernelIdeal.S8x1x128
  ∧ IdealRules.bf16_pair.Statement Cert.KernelIdeal.S16x128 Cert.KernelIdeal.S8x128
  ∧ IdealRules.bf16_pair.Statement Cert.KernelIdeal.S64x128 Cert.KernelIdeal.S32x128
  ∧ IdealRules.bf16_pair.Statement Cert.KernelIdeal.S1x1x128x2x128 Cert.KernelIdeal.S1x1x128x1x128

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3x16384x10x16 : Shape := ⟨4, ![3, 16384, 10, 16]⟩
abbrev S3x10 : Shape := ⟨2, ![3, 10]⟩
abbrev S3x16384x10x64 : Shape := ⟨4, ![3, 16384, 10, 64]⟩
abbrev S3 : Shape := ⟨1, ![3]⟩
abbrev S_ : Shape := ⟨0, ![]⟩
abbrev S1x3x16384x10x16 : Shape := ⟨5, ![1, 3, 16384, 10, 16]⟩
abbrev S4x3x16384x10x16 : Shape := ⟨5, ![4, 3, 16384, 10, 16]⟩

class Facts : Prop where
  bcast_S_S3x10 : S_.BroadcastsInDim S3x10 (![] : Fin 0 → Fin S3x10.rank)
  reducesTo_S3x10_S_d0_1 : S3x10.ReducesTo [0, 1] S_
  h_S_ : 0 < S_.numel
  bcast_S_S3x16384x10x16 : S_.BroadcastsInDim S3x16384x10x16 (![] : Fin 0 → Fin S3x16384x10x16.rank)
  bcast_S3x16384x10x16_S1x3x16384x10x16_1_2_3_4 : S3x16384x10x16.BroadcastsInDim S1x3x16384x10x16 (![1, 2, 3, 4] : Fin 4 → Fin S1x3x16384x10x16.rank)
  concatenates_S1x3x16384x10x16_S1x3x16384x10x16_S1x3x16384x10x16_S1x3x16384x10x16_S4x3x16384x10x16_d0 : Shape.Concatenates [S1x3x16384x10x16, S1x3x16384x10x16, S1x3x16384x10x16, S1x3x16384x10x16] S4x3x16384x10x16 0
  reducesTo_S4x3x16384x10x16_S_d0_1_2_3_4 : S4x3x16384x10x16.ReducesTo [0, 1, 2, 3, 4] S_

variable [Facts]

def fn_part4 {F : FTy → Type} [FloatOps F] (main_v44 : IVec S_ 1) (main_v50 : IVec S3x16384x10x16 1) (main_v56 : IVec S3x16384x10x16 1) (main_v62 : IVec S3x16384x10x16 1) (main_v64 : IVec S3x16384x10x16 32) (main_v65 : IVec S3x16384x10x16 32) : IVec S_ 1 :=
  let main_v66 : IVec S3x16384x10x16 32 := andi main_v64 main_v65
  let main_c_28 : IVec S_ 32 := constantI S_ 32 127#32
  let main_v67 : IVec S3x16384x10x16 32 := broadcastInDim S3x16384x10x16 ![] bcast_S_S3x16384x10x16 main_c_28
  let main_v68 : IVec S3x16384x10x16 1 := cmpi .eq main_v66 main_v67
  let main_v69 : IVec S1x3x16384x10x16 1 := broadcastInDim S1x3x16384x10x16 ![1, 2, 3, 4] bcast_S3x16384x10x16_S1x3x16384x10x16_1_2_3_4 main_v50
  let main_v70 : IVec S1x3x16384x10x16 1 := broadcastInDim S1x3x16384x10x16 ![1, 2, 3, 4] bcast_S3x16384x10x16_S1x3x16384x10x16_1_2_3_4 main_v56
  let main_v71 : IVec S1x3x16384x10x16 1 := broadcastInDim S1x3x16384x10x16 ![1, 2, 3, 4] bcast_S3x16384x10x16_S1x3x16384x10x16_1_2_3_4 main_v62
  let main_v72 : IVec S1x3x16384x10x16 1 := broadcastInDim S1x3x16384x10x16 ![1, 2, 3, 4] bcast_S3x16384x10x16_S1x3x16384x10x16_1_2_3_4 main_v68
  let main_v73 : IVec S4x3x16384x10x16 1 := concatenate S4x3x16384x10x16 0 [⟨S1x3x16384x10x16, main_v69⟩, ⟨S1x3x16384x10x16, main_v70⟩, ⟨S1x3x16384x10x16, main_v71⟩, ⟨S1x3x16384x10x16, main_v72⟩] concatenates_S1x3x16384x10x16_S1x3x16384x10x16_S1x3x16384x10x16_S1x3x16384x10x16_S4x3x16384x10x16_d0
  let main_c_29 : IVec S_ 1 := constantI S_ 1 0#1
  let main_v74 : IVec S_ 1 := (fun x v => Host.reduce IntOp.ori x v reducesTo_S4x3x16384x10x16_S_d0_1_2_3_4 h_S_) main_v73 main_c_29
  let main_v75 : IVec S_ 1 := noti main_v74
  let main_v76 : IVec S_ 1 := andi main_v44 main_v75
  main_v76

def fn_part3 {F : FTy → Type} [FloatOps F] (main_arg1 : IVec S3x16384x10x16 32) (main_v44 : IVec S_ 1) (main_v48 : IVec S3x16384x10x16 32) (main_v49 : IVec S3x16384x10x16 32) : IVec S_ 1 :=
  let main_v50 : IVec S3x16384x10x16 1 := cmpi .eq main_v48 main_v49
  let main_c_20 : IVec S_ 32 := constantI S_ 32 8#32
  let main_v51 : IVec S3x16384x10x16 32 := broadcastInDim S3x16384x10x16 ![] bcast_S_S3x16384x10x16 main_c_20
  let main_v52 : IVec S3x16384x10x16 32 := Host.shrsi main_arg1 main_v51
  let main_c_21 : IVec S_ 32 := constantI S_ 32 127#32
  let main_v53 : IVec S3x16384x10x16 32 := broadcastInDim S3x16384x10x16 ![] bcast_S_S3x16384x10x16 main_c_21
  let main_v54 : IVec S3x16384x10x16 32 := andi main_v52 main_v53
  let main_c_22 : IVec S_ 32 := constantI S_ 32 127#32
  let main_v55 : IVec S3x16384x10x16 32 := broadcastInDim S3x16384x10x16 ![] bcast_S_S3x16384x10x16 main_c_22
  let main_v56 : IVec S3x16384x10x16 1 := cmpi .eq main_v54 main_v55
  let main_c_23 : IVec S_ 32 := constantI S_ 32 16#32
  let main_v57 : IVec S3x16384x10x16 32 := broadcastInDim S3x16384x10x16 ![] bcast_S_S3x16384x10x16 main_c_23
  let main_v58 : IVec S3x16384x10x16 32 := Host.shrsi main_arg1 main_v57
  let main_c_24 : IVec S_ 32 := constantI S_ 32 127#32
  let main_v59 : IVec S3x16384x10x16 32 := broadcastInDim S3x16384x10x16 ![] bcast_S_S3x16384x10x16 main_c_24
  let main_v60 : IVec S3x16384x10x16 32 := andi main_v58 main_v59
  let main_c_25 : IVec S_ 32 := constantI S_ 32 127#32
  let main_v61 : IVec S3x16384x10x16 32 := broadcastInDim S3x16384x10x16 ![] bcast_S_S3x16384x10x16 main_c_25
  let main_v62 : IVec S3x16384x10x16 1 := cmpi .eq main_v60 main_v61
  let main_c_26 : IVec S_ 32 := constantI S_ 32 24#32
  let main_v63 : IVec S3x16384x10x16 32 := broadcastInDim S3x16384x10x16 ![] bcast_S_S3x16384x10x16 main_c_26
  let main_v64 : IVec S3x16384x10x16 32 := Host.shrsi main_arg1 main_v63
  let main_c_27 : IVec S_ 32 := constantI S_ 32 127#32
  let main_v65 : IVec S3x16384x10x16 32 := broadcastInDim S3x16384x10x16 ![] bcast_S_S3x16384x10x16 main_c_27
  fn_part4 (F := F) main_v44 main_v50 main_v56 main_v62 main_v64 main_v65

def fn_part2 {F : FTy → Type} [FloatOps F] (main_arg0 : IVec S3x16384x10x16 32) (main_arg1 : IVec S3x16384x10x16 32) (main_v12 : IVec S_ 1) (main_v18 : IVec S3x16384x10x16 1) (main_v24 : IVec S3x16384x10x16 1) (main_v30 : IVec S3x16384x10x16 1) (main_v31 : IVec S3x16384x10x16 32) : IVec S_ 1 :=
  let main_v32 : IVec S3x16384x10x16 32 := Host.shrsi main_arg0 main_v31
  let main_c_14 : IVec S_ 32 := constantI S_ 32 127#32
  let main_v33 : IVec S3x16384x10x16 32 := broadcastInDim S3x16384x10x16 ![] bcast_S_S3x16384x10x16 main_c_14
  let main_v34 : IVec S3x16384x10x16 32 := andi main_v32 main_v33
  let main_c_15 : IVec S_ 32 := constantI S_ 32 127#32
  let main_v35 : IVec S3x16384x10x16 32 := broadcastInDim S3x16384x10x16 ![] bcast_S_S3x16384x10x16 main_c_15
  let main_v36 : IVec S3x16384x10x16 1 := cmpi .eq main_v34 main_v35
  let main_v37 : IVec S1x3x16384x10x16 1 := broadcastInDim S1x3x16384x10x16 ![1, 2, 3, 4] bcast_S3x16384x10x16_S1x3x16384x10x16_1_2_3_4 main_v18
  let main_v38 : IVec S1x3x16384x10x16 1 := broadcastInDim S1x3x16384x10x16 ![1, 2, 3, 4] bcast_S3x16384x10x16_S1x3x16384x10x16_1_2_3_4 main_v24
  let main_v39 : IVec S1x3x16384x10x16 1 := broadcastInDim S1x3x16384x10x16 ![1, 2, 3, 4] bcast_S3x16384x10x16_S1x3x16384x10x16_1_2_3_4 main_v30
  let main_v40 : IVec S1x3x16384x10x16 1 := broadcastInDim S1x3x16384x10x16 ![1, 2, 3, 4] bcast_S3x16384x10x16_S1x3x16384x10x16_1_2_3_4 main_v36
  let main_v41 : IVec S4x3x16384x10x16 1 := concatenate S4x3x16384x10x16 0 [⟨S1x3x16384x10x16, main_v37⟩, ⟨S1x3x16384x10x16, main_v38⟩, ⟨S1x3x16384x10x16, main_v39⟩, ⟨S1x3x16384x10x16, main_v40⟩] concatenates_S1x3x16384x10x16_S1x3x16384x10x16_S1x3x16384x10x16_S1x3x16384x10x16_S4x3x16384x10x16_d0
  let main_c_16 : IVec S_ 1 := constantI S_ 1 0#1
  let main_v42 : IVec S_ 1 := (fun x v => Host.reduce IntOp.ori x v reducesTo_S4x3x16384x10x16_S_d0_1_2_3_4 h_S_) main_v41 main_c_16
  let main_v43 : IVec S_ 1 := noti main_v42
  let main_v44 : IVec S_ 1 := andi main_v12 main_v43
  let main_c_17 : IVec S_ 32 := constantI S_ 32 0#32
  let main_v45 : IVec S3x16384x10x16 32 := broadcastInDim S3x16384x10x16 ![] bcast_S_S3x16384x10x16 main_c_17
  let main_v46 : IVec S3x16384x10x16 32 := Host.shrsi main_arg1 main_v45
  let main_c_18 : IVec S_ 32 := constantI S_ 32 127#32
  let main_v47 : IVec S3x16384x10x16 32 := broadcastInDim S3x16384x10x16 ![] bcast_S_S3x16384x10x16 main_c_18
  let main_v48 : IVec S3x16384x10x16 32 := andi main_v46 main_v47
  let main_c_19 : IVec S_ 32 := constantI S_ 32 127#32
  let main_v49 : IVec S3x16384x10x16 32 := broadcastInDim S3x16384x10x16 ![] bcast_S_S3x16384x10x16 main_c_19
  fn_part3 (F := F) main_arg1 main_v44 main_v48 main_v49

def fn_part1 {F : FTy → Type} [FloatOps F] (main_arg0 : IVec S3x16384x10x16 32) (main_arg1 : IVec S3x16384x10x16 32) (main_v12 : IVec S_ 1) (main_v14 : IVec S3x16384x10x16 32) (main_v15 : IVec S3x16384x10x16 32) : IVec S_ 1 :=
  let main_v16 : IVec S3x16384x10x16 32 := andi main_v14 main_v15
  let main_c_6 : IVec S_ 32 := constantI S_ 32 127#32
  let main_v17 : IVec S3x16384x10x16 32 := broadcastInDim S3x16384x10x16 ![] bcast_S_S3x16384x10x16 main_c_6
  let main_v18 : IVec S3x16384x10x16 1 := cmpi .eq main_v16 main_v17
  let main_c_7 : IVec S_ 32 := constantI S_ 32 8#32
  let main_v19 : IVec S3x16384x10x16 32 := broadcastInDim S3x16384x10x16 ![] bcast_S_S3x16384x10x16 main_c_7
  let main_v20 : IVec S3x16384x10x16 32 := Host.shrsi main_arg0 main_v19
  let main_c_8 : IVec S_ 32 := constantI S_ 32 127#32
  let main_v21 : IVec S3x16384x10x16 32 := broadcastInDim S3x16384x10x16 ![] bcast_S_S3x16384x10x16 main_c_8
  let main_v22 : IVec S3x16384x10x16 32 := andi main_v20 main_v21
  let main_c_9 : IVec S_ 32 := constantI S_ 32 127#32
  let main_v23 : IVec S3x16384x10x16 32 := broadcastInDim S3x16384x10x16 ![] bcast_S_S3x16384x10x16 main_c_9
  let main_v24 : IVec S3x16384x10x16 1 := cmpi .eq main_v22 main_v23
  let main_c_10 : IVec S_ 32 := constantI S_ 32 16#32
  let main_v25 : IVec S3x16384x10x16 32 := broadcastInDim S3x16384x10x16 ![] bcast_S_S3x16384x10x16 main_c_10
  let main_v26 : IVec S3x16384x10x16 32 := Host.shrsi main_arg0 main_v25
  let main_c_11 : IVec S_ 32 := constantI S_ 32 127#32
  let main_v27 : IVec S3x16384x10x16 32 := broadcastInDim S3x16384x10x16 ![] bcast_S_S3x16384x10x16 main_c_11
  let main_v28 : IVec S3x16384x10x16 32 := andi main_v26 main_v27
  let main_c_12 : IVec S_ 32 := constantI S_ 32 127#32
  let main_v29 : IVec S3x16384x10x16 32 := broadcastInDim S3x16384x10x16 ![] bcast_S_S3x16384x10x16 main_c_12
  let main_v30 : IVec S3x16384x10x16 1 := cmpi .eq main_v28 main_v29
  let main_c_13 : IVec S_ 32 := constantI S_ 32 24#32
  let main_v31 : IVec S3x16384x10x16 32 := broadcastInDim S3x16384x10x16 ![] bcast_S_S3x16384x10x16 main_c_13
  fn_part2 (F := F) main_arg0 main_arg1 main_v12 main_v18 main_v24 main_v30 main_v31

def fn {F : FTy → Type} [FloatOps F] (main_arg0 : IVec S3x16384x10x16 32) (main_arg1 : IVec S3x16384x10x16 32) (main_arg2 : FVec F S3x10 .f32) (main_arg3 : FVec F S3x10 .f32) (main_arg4 : FVec F S3x16384x10x64 .bf16) (main_arg5 : IVec S3 32) : IVec S_ 1 :=
  let main_cst : FVec F S_ .f32 := constant S_ .f32 0x00000000#32
  let main_v0 : FVec F S3x10 .f32 := broadcastInDim S3x10 ![] bcast_S_S3x10 main_cst
  let main_v1 : IVec S3x10 1 := cmpf .ogt main_arg2 main_v0
  let main_cst_0 : FVec F S_ .f32 := constant S_ .f32 0x7F800000#32
  let main_v2 : FVec F S3x10 .f32 := broadcastInDim S3x10 ![] bcast_S_S3x10 main_cst_0
  let main_v3 : IVec S3x10 1 := cmpf .olt main_arg2 main_v2
  let main_v4 : IVec S3x10 1 := andi main_v1 main_v3
  let main_c : IVec S_ 1 := constantI S_ 1 1#1
  let main_v5 : IVec S_ 1 := (fun x v => Host.reduce IntOp.andi x v reducesTo_S3x10_S_d0_1 h_S_) main_v4 main_c
  let main_cst_1 : FVec F S_ .f32 := constant S_ .f32 0x00000000#32
  let main_v6 : FVec F S3x10 .f32 := broadcastInDim S3x10 ![] bcast_S_S3x10 main_cst_1
  let main_v7 : IVec S3x10 1 := cmpf .ogt main_arg3 main_v6
  let main_cst_2 : FVec F S_ .f32 := constant S_ .f32 0x7F800000#32
  let main_v8 : FVec F S3x10 .f32 := broadcastInDim S3x10 ![] bcast_S_S3x10 main_cst_2
  let main_v9 : IVec S3x10 1 := cmpf .olt main_arg3 main_v8
  let main_v10 : IVec S3x10 1 := andi main_v7 main_v9
  let main_c_3 : IVec S_ 1 := constantI S_ 1 1#1
  let main_v11 : IVec S_ 1 := (fun x v => Host.reduce IntOp.andi x v reducesTo_S3x10_S_d0_1 h_S_) main_v10 main_c_3
  let main_v12 : IVec S_ 1 := andi main_v5 main_v11
  let main_c_4 : IVec S_ 32 := constantI S_ 32 0#32
  let main_v13 : IVec S3x16384x10x16 32 := broadcastInDim S3x16384x10x16 ![] bcast_S_S3x16384x10x16 main_c_4
  let main_v14 : IVec S3x16384x10x16 32 := Host.shrsi main_arg0 main_v13
  let main_c_5 : IVec S_ 32 := constantI S_ 32 127#32
  let main_v15 : IVec S3x16384x10x16 32 := broadcastInDim S3x16384x10x16 ![] bcast_S_S3x16384x10x16 main_c_5
  fn_part1 (F := F) main_arg0 main_arg1 main_v12 main_v14 main_v15
-- ==== Kernel.lean ====
abbrev S3x16384x10x16 : Shape := ⟨4, ![3, 16384, 10, 16]⟩
abbrev S3x10 : Shape := ⟨2, ![3, 10]⟩
abbrev S3x16384x10x64 : Shape := ⟨4, ![3, 16384, 10, 64]⟩
abbrev S3 : Shape := ⟨1, ![3]⟩
abbrev S3x10x64x16384 : Shape := ⟨4, ![3, 10, 64, 16384]⟩
abbrev S30x8x8x128x128 : Shape := ⟨5, ![30, 8, 8, 128, 128]⟩
abbrev S30x8x128x8x128 : Shape := ⟨5, ![30, 8, 128, 8, 128]⟩
abbrev S30x8x32x4x8x128 : Shape := ⟨6, ![30, 8, 32, 4, 8, 128]⟩
abbrev S3x10x16x16384 : Shape := ⟨4, ![3, 10, 16, 16384]⟩
abbrev S30x2x8x128x128 : Shape := ⟨5, ![30, 2, 8, 128, 128]⟩
abbrev S30x2x128x8x128 : Shape := ⟨5, ![30, 2, 128, 8, 128]⟩
abbrev S30x1x1 : Shape := ⟨3, ![30, 1, 1]⟩
abbrev S30x8x128 : Shape := ⟨3, ![30, 8, 128]⟩
abbrev S1x2x128x8x128 : Shape := ⟨5, ![1, 2, 128, 8, 128]⟩
abbrev S1x8x128 : Shape := ⟨3, ![1, 8, 128]⟩
abbrev S1x8x32x1x8x128 : Shape := ⟨6, ![1, 8, 32, 1, 8, 128]⟩
abbrev S1x8x128x8x128 : Shape := ⟨5, ![1, 8, 128, 8, 128]⟩
abbrev S3072x128 : Shape := ⟨2, ![3072, 128]⟩
abbrev S2048x128 : Shape := ⟨2, ![2048, 128]⟩
abbrev S2112x128 : Shape := ⟨2, ![2112, 128]⟩
abbrev S4224x128 : Shape := ⟨2, ![4224, 128]⟩
abbrev S1 : Shape := ⟨1, ![1]⟩
abbrev S8x128 : Shape := ⟨2, ![8, 128]⟩
abbrev S1x1x1x8x128 : Shape := ⟨5, ![1, 1, 1, 8, 128]⟩
abbrev S24x128 : Shape := ⟨2, ![24, 128]⟩
abbrev S32x128 : Shape := ⟨2, ![32, 128]⟩
abbrev S1536x128 : Shape := ⟨2, ![1536, 128]⟩
abbrev S128x128 : Shape := ⟨2, ![128, 128]⟩
abbrev S1056x128 : Shape := ⟨2, ![1056, 128]⟩
abbrev S1024x128 : Shape := ⟨2, ![1024, 128]⟩
abbrev S1x4x32x1x8x128 : Shape := ⟨6, ![1, 4, 32, 1, 8, 128]⟩
abbrev S4x32x8x128 : Shape := ⟨4, ![4, 32, 8, 128]⟩
abbrev S512x128 : Shape := ⟨2, ![512, 128]⟩
abbrev S1x1x32x1x2x128 : Shape := ⟨6, ![1, 1, 32, 1, 2, 128]⟩
abbrev S1x1x32x1x1x128 : Shape := ⟨6, ![1, 1, 32, 1, 1, 128]⟩
abbrev S1x128 : Shape := ⟨2, ![1, 128]⟩
abbrev S1996x128 : Shape := ⟨2, ![1996, 128]⟩
abbrev S64x128 : Shape := ⟨2, ![64, 128]⟩
abbrev S256x128 : Shape := ⟨2, ![256, 128]⟩
abbrev S32x256 : Shape := ⟨2, ![32, 256]⟩
abbrev S64x256 : Shape := ⟨2, ![64, 256]⟩
abbrev S256x256 : Shape := ⟨2, ![256, 256]⟩
abbrev S128 : Shape := ⟨1, ![128]⟩
abbrev S16x128 : Shape := ⟨2, ![16, 128]⟩
abbrev S4108x128 : Shape := ⟨2, ![4108, 128]⟩
abbrev S2x128x8x128 : Shape := ⟨4, ![2, 128, 8, 128]⟩
abbrev S1x1x128x2x128 : Shape := ⟨5, ![1, 1, 128, 2, 128]⟩
abbrev S1x1x128x1x128 : Shape := ⟨5, ![1, 1, 128, 1, 128]⟩

abbrev nBuf : Space → Nat
  | .hbm => 23
  | .vmem => 24
  | .smem => 1
  | _ => 0

abbrev bufTy : (tb : Table) → Fin (tcTables nBuf tb) → BufTy
  | .hbm, ⟨0, _⟩ => ⟨S3x16384x10x16, .i32⟩
  | .hbm, ⟨1, _⟩ => ⟨S3x16384x10x16, .i32⟩
  | .hbm, ⟨2, _⟩ => ⟨S3x10, .f32⟩
  | .hbm, ⟨3, _⟩ => ⟨S3x10, .f32⟩
  | .hbm, ⟨4, _⟩ => ⟨S3x16384x10x64, .bf16⟩
  | .hbm, ⟨5, _⟩ => ⟨S3x10x64x16384, .bf16⟩
  | .hbm, ⟨6, _⟩ => ⟨S30x8x8x128x128, .bf16⟩
  | .hbm, ⟨7, _⟩ => ⟨S30x8x128x8x128, .bf16⟩
  | .hbm, ⟨8, _⟩ => ⟨S30x8x32x4x8x128, .bf16⟩
  | .hbm, ⟨9, _⟩ => ⟨S3x10x16x16384, .i32⟩
  | .hbm, ⟨10, _⟩ => ⟨S30x2x8x128x128, .i32⟩
  | .hbm, ⟨11, _⟩ => ⟨S30x2x128x8x128, .i32⟩
  | .hbm, ⟨12, _⟩ => ⟨S3x10x16x16384, .i32⟩
  | .hbm, ⟨13, _⟩ => ⟨S30x2x8x128x128, .i32⟩
  | .hbm, ⟨14, _⟩ => ⟨S30x2x128x8x128, .i32⟩
  | .hbm, ⟨15, _⟩ => ⟨S30x1x1, .f32⟩
  | .hbm, ⟨16, _⟩ => ⟨S30x8x128, .f32⟩
  | .hbm, ⟨17, _⟩ => ⟨S30x1x1, .f32⟩
  | .hbm, ⟨18, _⟩ => ⟨S30x8x128, .f32⟩
  | .hbm, ⟨19, _⟩ => ⟨S30x8x128x8x128, .bf16⟩
  | .hbm, ⟨20, _⟩ => ⟨S30x8x8x128x128, .bf16⟩
  | .hbm, ⟨21, _⟩ => ⟨S3x10x64x16384, .bf16⟩
  | .hbm, ⟨22, _⟩ => ⟨S3x16384x10x64, .bf16⟩
  | .local _ .vmem, ⟨0, _⟩ => ⟨S1x2x128x8x128, .i32⟩
  | .local _ .vmem, ⟨1, _⟩ => ⟨S1x2x128x8x128, .i32⟩
  | .local _ .vmem, ⟨2, _⟩ => ⟨S1x2x128x8x128, .i32⟩
  | .local _ .vmem, ⟨3, _⟩ => ⟨S1x2x128x8x128, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x32x1x8x128, .bf16⟩
  | .local _ .vmem, ⟨9, _⟩ => ⟨S1x8x32x1x8x128, .bf16⟩
  | .local _ .vmem, ⟨10, _⟩ => ⟨S1x8x32x1x8x128, .bf16⟩
  | .local _ .vmem, ⟨11, _⟩ => ⟨S1x8x32x1x8x128, .bf16⟩
  | .local _ .vmem, ⟨12, _⟩ => ⟨S1x8x32x1x8x128, .bf16⟩
  | .local _ .vmem, ⟨13, _⟩ => ⟨S1x8x32x1x8x128, .bf16⟩
  | .local _ .vmem, ⟨14, _⟩ => ⟨S1x8x32x1x8x128, .bf16⟩
  | .local _ .vmem, ⟨15, _⟩ => ⟨S1x8x32x1x8x128, .bf16⟩
  | .local _ .vmem, ⟨16, _⟩ => ⟨S1x8x128x8x128, .bf16⟩
  | .local _ .vmem, ⟨17, _⟩ => ⟨S1x8x128x8x128, .bf16⟩
  | .local _ .vmem, ⟨18, _⟩ => ⟨S3072x128, .i32⟩
  | .local _ .vmem, ⟨19, _⟩ => ⟨S2048x128, .i32⟩
  | .local _ .vmem, ⟨20, _⟩ => ⟨S2112x128, .i32⟩
  | .local _ .vmem, ⟨21, _⟩ => ⟨S2112x128, .i32⟩
  | .local _ .vmem, ⟨22, _⟩ => ⟨S4224x128, .i32⟩
  | .local _ .vmem, ⟨23, _⟩ => ⟨S4224x128, .i32⟩
  | .local _ .smem, ⟨0, _⟩ => ⟨S3, .i32⟩
  | _, _ => ⟨S3x16384x10x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨1, ![30], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c10_i32 : BitVec 32 := 10#32
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let v0 : BitVec 32 := Scalar.divsi arg0 c10_i32
  let c1_i32 : BitVec 32 := 1#32
  let v15 : BitVec 32 := Scalar.subi v0 c1_i32
  let v16 : BitVec 32 := Scalar.select v14 v15 v0
  let v17 : Index := Scalar.indexCast v16
  ![v17.toNat]
@[reducible] def k0_t1_loop : Scf.Loop 32 :=
  let c0_i32_9 : BitVec 32 := 0#32
  let c8_i32 : BitVec 32 := 8#32
  let v23 : BitVec 32 := Scalar.addi c0_i32_9 c8_i32
  let c1_i32_10 : BitVec 32 := 1#32
  ⟨c0_i32_9, v23, c1_i32_10⟩
def k0_off2 (k0_t1 : Fin k0_t1_loop.trips) (c0_i32_64 : BitVec 32) (c0_i32_66 : BitVec 32) (c0_i32_67 : BitVec 32) : Fin 5 → Nat :=
  let c0_68 : Index := 0#32
  let c0_69 : Index := 0#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let v147 : BitVec 32 := Scalar.addi v146 c0_i32_64
  let c4_i32_65 : BitVec 32 := 4#32
  let v148 : BitVec 32 := Scalar.muli v147 c4_i32_65
  let v149 : BitVec 32 := Scalar.addi v148 c0_i32_66
  let v150 : BitVec 32 := Scalar.addi v149 c0_i32_67
  let v151 : Index := Scalar.indexCast v150
  let c0_70 : Index := 0#32
  let c0_71 : Index := 0#32
  ![0, 0, v151.toNat, 0, 0]
def k0_mult1 (k0_t1 : Fin k0_t1_loop.trips) : BitVec 32 :=
  let c0_i32_72 : BitVec 32 := 0#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v154 : BitVec 32 := Scalar.addi c0_i32_72 v149
  let c12_i32 : BitVec 32 := 12#32
  let v155 : BitVec 32 := Scalar.muli v154 c12_i32
  v155
def k0_off3 (k0_t1 : Fin k0_t1_loop.trips) (c0_i32_72 : BitVec 32) (c0_i32_64 : BitVec 32) (c0_i32_66 : BitVec 32) : Fin 2 → Nat :=
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let v147 : BitVec 32 := Scalar.addi v146 c0_i32_64
  let c4_i32_65 : BitVec 32 := 4#32
  let v148 : BitVec 32 := Scalar.muli v147 c4_i32_65
  let v149 : BitVec 32 := Scalar.addi v148 c0_i32_66
  let v154 : BitVec 32 := Scalar.addi c0_i32_72 v149
  let c12_i32 : BitVec 32 := 12#32
  let v155 : BitVec 32 := Scalar.muli v154 c12_i32
  let v156 : BitVec 32 := v155
  let c0_i32_73 : BitVec 32 := 0#32
  ![v156.toNat, 0]
def k0_mult2 (k0_t1 : Fin k0_t1_loop.trips) : BitVec 32 :=
  let c0_i32_81 : BitVec 32 := 0#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v165 : BitVec 32 := Scalar.addi c0_i32_81 v149
  let c12_i32_82 : BitVec 32 := 12#32
  let v166 : BitVec 32 := Scalar.muli v165 c12_i32_82
  v166
def k0_off4 (k0_t1 : Fin k0_t1_loop.trips) (c0_i32_64 : BitVec 32) (c0_i32_66 : BitVec 32) (c0_i32_85 : BitVec 32) : Fin 5 → Nat :=
  let c0_86 : Index := 0#32
  let c1 : Index := 1#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let v147 : BitVec 32 := Scalar.addi v146 c0_i32_64
  let c4_i32_65 : BitVec 32 := 4#32
  let v148 : BitVec 32 := Scalar.muli v147 c4_i32_65
  let v149 : BitVec 32 := Scalar.addi v148 c0_i32_66
  let v172 : BitVec 32 := Scalar.addi v149 c0_i32_85
  let v173 : Index := Scalar.indexCast v172
  let c0_87 : Index := 0#32
  let c0_88 : Index := 0#32
  ![0, 1, v173.toNat, 0, 0]
def k0_mult3 (k0_t1 : Fin k0_t1_loop.trips) : BitVec 32 :=
  let c128_i32 : BitVec 32 := 128#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v176 : BitVec 32 := Scalar.addi c128_i32 v149
  let c12_i32_89 : BitVec 32 := 12#32
  let v177 : BitVec 32 := Scalar.muli v176 c12_i32_89
  v177
def k0_mult4 (k0_t1 : Fin k0_t1_loop.trips) : BitVec 32 :=
  let c128_i32_98 : BitVec 32 := 128#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v187 : BitVec 32 := Scalar.addi c128_i32_98 v149
  let c12_i32_99 : BitVec 32 := 12#32
  let v188 : BitVec 32 := Scalar.muli v187 c12_i32_99
  v188
def k0_mult5 (k0_t1 : Fin k0_t1_loop.trips) : BitVec 32 :=
  let c0_i32_132 : BitVec 32 := 0#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v218 : BitVec 32 := Scalar.addi c0_i32_132 v213
  let c12_i32_133 : BitVec 32 := 12#32
  let v219 : BitVec 32 := Scalar.muli v218 c12_i32_133
  v219
def k0_mult6 (k0_t1 : Fin k0_t1_loop.trips) : BitVec 32 :=
  let c0_i32_142 : BitVec 32 := 0#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v229 : BitVec 32 := Scalar.addi c0_i32_142 v213
  let c12_i32_143 : BitVec 32 := 12#32
  let v230 : BitVec 32 := Scalar.muli v229 c12_i32_143
  v230
def k0_mult7 (k0_t1 : Fin k0_t1_loop.trips) : BitVec 32 :=
  let c128_i32_152 : BitVec 32 := 128#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v240 : BitVec 32 := Scalar.addi c128_i32_152 v213
  let c12_i32_153 : BitVec 32 := 12#32
  let v241 : BitVec 32 := Scalar.muli v240 c12_i32_153
  v241
def k0_mult8 (k0_t1 : Fin k0_t1_loop.trips) : BitVec 32 :=
  let c128_i32_162 : BitVec 32 := 128#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v251 : BitVec 32 := Scalar.addi c128_i32_162 v213
  let c12_i32_163 : BitVec 32 := 12#32
  let v252 : BitVec 32 := Scalar.muli v251 c12_i32_163
  v252
def k0_mult9 (k0_t1 : Fin k0_t1_loop.trips) : BitVec 32 :=
  let c0_i32_196 : BitVec 32 := 0#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v282 : BitVec 32 := Scalar.addi c0_i32_196 v277
  let c12_i32_197 : BitVec 32 := 12#32
  let v283 : BitVec 32 := Scalar.muli v282 c12_i32_197
  v283
def k0_mult10 (k0_t1 : Fin k0_t1_loop.trips) : BitVec 32 :=
  let c0_i32_206 : BitVec 32 := 0#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v293 : BitVec 32 := Scalar.addi c0_i32_206 v277
  let c12_i32_207 : BitVec 32 := 12#32
  let v294 : BitVec 32 := Scalar.muli v293 c12_i32_207
  v294
def k0_mult11 (k0_t1 : Fin k0_t1_loop.trips) : BitVec 32 :=
  let c128_i32_216 : BitVec 32 := 128#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v304 : BitVec 32 := Scalar.addi c128_i32_216 v277
  let c12_i32_217 : BitVec 32 := 12#32
  let v305 : BitVec 32 := Scalar.muli v304 c12_i32_217
  v305
def k0_mult12 (k0_t1 : Fin k0_t1_loop.trips) : BitVec 32 :=
  let c128_i32_226 : BitVec 32 := 128#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v315 : BitVec 32 := Scalar.addi c128_i32_226 v277
  let c12_i32_227 : BitVec 32 := 12#32
  let v316 : BitVec 32 := Scalar.muli v315 c12_i32_227
  v316
def k0_mult13 (k0_t1 : Fin k0_t1_loop.trips) : BitVec 32 :=
  let c0_i32_260 : BitVec 32 := 0#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v346 : BitVec 32 := Scalar.addi c0_i32_260 v341
  let c12_i32_261 : BitVec 32 := 12#32
  let v347 : BitVec 32 := Scalar.muli v346 c12_i32_261
  v347
def k0_mult14 (k0_t1 : Fin k0_t1_loop.trips) : BitVec 32 :=
  let c0_i32_270 : BitVec 32 := 0#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v357 : BitVec 32 := Scalar.addi c0_i32_270 v341
  let c12_i32_271 : BitVec 32 := 12#32
  let v358 : BitVec 32 := Scalar.muli v357 c12_i32_271
  v358
def k0_mult15 (k0_t1 : Fin k0_t1_loop.trips) : BitVec 32 :=
  let c128_i32_280 : BitVec 32 := 128#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v368 : BitVec 32 := Scalar.addi c128_i32_280 v341
  let c12_i32_281 : BitVec 32 := 12#32
  let v369 : BitVec 32 := Scalar.muli v368 c12_i32_281
  v369
def k0_mult16 (k0_t1 : Fin k0_t1_loop.trips) : BitVec 32 :=
  let c128_i32_290 : BitVec 32 := 128#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v379 : BitVec 32 := Scalar.addi c128_i32_290 v341
  let c12_i32_291 : BitVec 32 := 12#32
  let v380 : BitVec 32 := Scalar.muli v379 c12_i32_291
  v380
def k0_mult17 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_336 : BitVec 32 := 4#32
  let v454 : BitVec 32 := Scalar.muli arg17 c4_i32_336
  let c0_i32_337 : BitVec 32 := 0#32
  let v455 : BitVec 32 := Scalar.addi v454 c0_i32_337
  let c0_i32_338 : BitVec 32 := 0#32
  let v456 : BitVec 32 := Scalar.addi v455 c0_i32_338
  let c64_i32 : BitVec 32 := 64#32
  let v457 : BitVec 32 := Scalar.muli v456 c64_i32
  let c0_i32_339 : BitVec 32 := 0#32
  let v458 : BitVec 32 := Scalar.addi v457 c0_i32_339
  v458
def k0_off5 (k0_t1 : Fin k0_t1_loop.trips) (c0_i32_337 : BitVec 32) (c0_i32_338 : BitVec 32) (c0_i32_339 : BitVec 32) : Fin 2 → Nat :=
  let c0_i32_9 : BitVec 32 := 0#32
  let c1_i32_10 : BitVec 32 := 1#32
  let arg17 : BitVec 32 := Scf.iv c0_i32_9 c1_i32_10 k0_t1
  let c4_i32_336 : BitVec 32 := 4#32
  let v454 : BitVec 32 := Scalar.muli arg17 c4_i32_336
  let v455 : BitVec 32 := Scalar.addi v454 c0_i32_337
  let v456 : BitVec 32 := Scalar.addi v455 c0_i32_338
  let c64_i32 : BitVec 32 := 64#32
  let v457 : BitVec 32 := Scalar.muli v456 c64_i32
  let v458 : BitVec 32 := Scalar.addi v457 c0_i32_339
  let v459 : BitVec 32 := v458
  let c0_i32_340 : BitVec 32 := 0#32
  ![v459.toNat, 0]
def k0_mult18 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_374 : BitVec 32 := 4#32
  let v528 : BitVec 32 := Scalar.muli arg17 c4_i32_374
  let c0_i32_375 : BitVec 32 := 0#32
  let v529 : BitVec 32 := Scalar.addi v528 c0_i32_375
  let c1_i32_376 : BitVec 32 := 1#32
  let v530 : BitVec 32 := Scalar.addi v529 c1_i32_376
  let c64_i32_377 : BitVec 32 := 64#32
  let v531 : BitVec 32 := Scalar.muli v530 c64_i32_377
  let c0_i32_378 : BitVec 32 := 0#32
  let v532 : BitVec 32 := Scalar.addi v531 c0_i32_378
  v532
def k0_mult19 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_415 : BitVec 32 := 4#32
  let v602 : BitVec 32 := Scalar.muli arg17 c4_i32_415
  let c0_i32_416 : BitVec 32 := 0#32
  let v603 : BitVec 32 := Scalar.addi v602 c0_i32_416
  let c0_i32_417 : BitVec 32 := 0#32
  let v604 : BitVec 32 := Scalar.addi v603 c0_i32_417
  let c64_i32_418 : BitVec 32 := 64#32
  let v605 : BitVec 32 := Scalar.muli v604 c64_i32_418
  let c32_i32 : BitVec 32 := 32#32
  let v606 : BitVec 32 := Scalar.addi v605 c32_i32
  v606
def k0_mult20 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_455 : BitVec 32 := 4#32
  let v676 : BitVec 32 := Scalar.muli arg17 c4_i32_455
  let c0_i32_456 : BitVec 32 := 0#32
  let v677 : BitVec 32 := Scalar.addi v676 c0_i32_456
  let c1_i32_457 : BitVec 32 := 1#32
  let v678 : BitVec 32 := Scalar.addi v677 c1_i32_457
  let c64_i32_458 : BitVec 32 := 64#32
  let v679 : BitVec 32 := Scalar.muli v678 c64_i32_458
  let c32_i32_459 : BitVec 32 := 32#32
  let v680 : BitVec 32 := Scalar.addi v679 c32_i32_459
  v680
def k0_mult21 (k0_t1 : Fin k0_t1_loop.trips) : BitVec 32 :=
  let c0_i32_481 : BitVec 32 := 0#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v706 : BitVec 32 := Scalar.addi c0_i32_481 v701
  let c12_i32_482 : BitVec 32 := 12#32
  let v707 : BitVec 32 := Scalar.muli v706 c12_i32_482
  v707
def k0_mult22 (k0_t1 : Fin k0_t1_loop.trips) : BitVec 32 :=
  let c0_i32_491 : BitVec 32 := 0#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v717 : BitVec 32 := Scalar.addi c0_i32_491 v701
  let c12_i32_492 : BitVec 32 := 12#32
  let v718 : BitVec 32 := Scalar.muli v717 c12_i32_492
  v718
def k0_mult23 (k0_t1 : Fin k0_t1_loop.trips) : BitVec 32 :=
  let c128_i32_501 : BitVec 32 := 128#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v728 : BitVec 32 := Scalar.addi c128_i32_501 v701
  let c12_i32_502 : BitVec 32 := 12#32
  let v729 : BitVec 32 := Scalar.muli v728 c12_i32_502
  v729
def k0_mult24 (k0_t1 : Fin k0_t1_loop.trips) : BitVec 32 :=
  let c128_i32_511 : BitVec 32 := 128#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v739 : BitVec 32 := Scalar.addi c128_i32_511 v701
  let c12_i32_512 : BitVec 32 := 12#32
  let v740 : BitVec 32 := Scalar.muli v739 c12_i32_512
  v740
def k0_mult25 (k0_t1 : Fin k0_t1_loop.trips) : BitVec 32 :=
  let c0_i32_545 : BitVec 32 := 0#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v770 : BitVec 32 := Scalar.addi c0_i32_545 v765
  let c12_i32_546 : BitVec 32 := 12#32
  let v771 : BitVec 32 := Scalar.muli v770 c12_i32_546
  v771
def k0_mult26 (k0_t1 : Fin k0_t1_loop.trips) : BitVec 32 :=
  let c0_i32_555 : BitVec 32 := 0#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v781 : BitVec 32 := Scalar.addi c0_i32_555 v765
  let c12_i32_556 : BitVec 32 := 12#32
  let v782 : BitVec 32 := Scalar.muli v781 c12_i32_556
  v782
def k0_mult27 (k0_t1 : Fin k0_t1_loop.trips) : BitVec 32 :=
  let c128_i32_565 : BitVec 32 := 128#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v792 : BitVec 32 := Scalar.addi c128_i32_565 v765
  let c12_i32_566 : BitVec 32 := 12#32
  let v793 : BitVec 32 := Scalar.muli v792 c12_i32_566
  v793
def k0_mult28 (k0_t1 : Fin k0_t1_loop.trips) : BitVec 32 :=
  let c128_i32_575 : BitVec 32 := 128#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v803 : BitVec 32 := Scalar.addi c128_i32_575 v765
  let c12_i32_576 : BitVec 32 := 12#32
  let v804 : BitVec 32 := Scalar.muli v803 c12_i32_576
  v804
def k0_mult29 (k0_t1 : Fin k0_t1_loop.trips) : BitVec 32 :=
  let c0_i32_609 : BitVec 32 := 0#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v834 : BitVec 32 := Scalar.addi c0_i32_609 v829
  let c12_i32_610 : BitVec 32 := 12#32
  let v835 : BitVec 32 := Scalar.muli v834 c12_i32_610
  v835
def k0_mult30 (k0_t1 : Fin k0_t1_loop.trips) : BitVec 32 :=
  let c0_i32_619 : BitVec 32 := 0#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v845 : BitVec 32 := Scalar.addi c0_i32_619 v829
  let c12_i32_620 : BitVec 32 := 12#32
  let v846 : BitVec 32 := Scalar.muli v845 c12_i32_620
  v846
def k0_mult31 (k0_t1 : Fin k0_t1_loop.trips) : BitVec 32 :=
  let c128_i32_629 : BitVec 32 := 128#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v856 : BitVec 32 := Scalar.addi c128_i32_629 v829
  let c12_i32_630 : BitVec 32 := 12#32
  let v857 : BitVec 32 := Scalar.muli v856 c12_i32_630
  v857
def k0_mult32 (k0_t1 : Fin k0_t1_loop.trips) : BitVec 32 :=
  let c128_i32_639 : BitVec 32 := 128#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v867 : BitVec 32 := Scalar.addi c128_i32_639 v829
  let c12_i32_640 : BitVec 32 := 12#32
  let v868 : BitVec 32 := Scalar.muli v867 c12_i32_640
  v868
def k0_mult33 (k0_t1 : Fin k0_t1_loop.trips) : BitVec 32 :=
  let c0_i32_673 : BitVec 32 := 0#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v898 : BitVec 32 := Scalar.addi c0_i32_673 v893
  let c12_i32_674 : BitVec 32 := 12#32
  let v899 : BitVec 32 := Scalar.muli v898 c12_i32_674
  v899
def k0_mult34 (k0_t1 : Fin k0_t1_loop.trips) : BitVec 32 :=
  let c0_i32_683 : BitVec 32 := 0#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v909 : BitVec 32 := Scalar.addi c0_i32_683 v893
  let c12_i32_684 : BitVec 32 := 12#32
  let v910 : BitVec 32 := Scalar.muli v909 c12_i32_684
  v910
def k0_mult35 (k0_t1 : Fin k0_t1_loop.trips) : BitVec 32 :=
  let c128_i32_693 : BitVec 32 := 128#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v920 : BitVec 32 := Scalar.addi c128_i32_693 v893
  let c12_i32_694 : BitVec 32 := 12#32
  let v921 : BitVec 32 := Scalar.muli v920 c12_i32_694
  v921
def k0_mult36 (k0_t1 : Fin k0_t1_loop.trips) : BitVec 32 :=
  let c128_i32_703 : BitVec 32 := 128#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v931 : BitVec 32 := Scalar.addi c128_i32_703 v893
  let c12_i32_704 : BitVec 32 := 12#32
  let v932 : BitVec 32 := Scalar.muli v931 c12_i32_704
  v932
def k0_mult37 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_752 : BitVec 32 := 4#32
  let v1006 : BitVec 32 := Scalar.muli arg17 c4_i32_752
  let c2_i32_753 : BitVec 32 := 2#32
  let v1007 : BitVec 32 := Scalar.addi v1006 c2_i32_753
  let c0_i32_754 : BitVec 32 := 0#32
  let v1008 : BitVec 32 := Scalar.addi v1007 c0_i32_754
  let c64_i32_755 : BitVec 32 := 64#32
  let v1009 : BitVec 32 := Scalar.muli v1008 c64_i32_755
  let c0_i32_756 : BitVec 32 := 0#32
  let v1010 : BitVec 32 := Scalar.addi v1009 c0_i32_756
  v1010
def k0_mult38 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_793 : BitVec 32 := 4#32
  let v1080 : BitVec 32 := Scalar.muli arg17 c4_i32_793
  let c2_i32_794 : BitVec 32 := 2#32
  let v1081 : BitVec 32 := Scalar.addi v1080 c2_i32_794
  let c1_i32_795 : BitVec 32 := 1#32
  let v1082 : BitVec 32 := Scalar.addi v1081 c1_i32_795
  let c64_i32_796 : BitVec 32 := 64#32
  let v1083 : BitVec 32 := Scalar.muli v1082 c64_i32_796
  let c0_i32_797 : BitVec 32 := 0#32
  let v1084 : BitVec 32 := Scalar.addi v1083 c0_i32_797
  v1084
def k0_mult39 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_834 : BitVec 32 := 4#32
  let v1154 : BitVec 32 := Scalar.muli arg17 c4_i32_834
  let c2_i32_835 : BitVec 32 := 2#32
  let v1155 : BitVec 32 := Scalar.addi v1154 c2_i32_835
  let c0_i32_836 : BitVec 32 := 0#32
  let v1156 : BitVec 32 := Scalar.addi v1155 c0_i32_836
  let c64_i32_837 : BitVec 32 := 64#32
  let v1157 : BitVec 32 := Scalar.muli v1156 c64_i32_837
  let c32_i32_838 : BitVec 32 := 32#32
  let v1158 : BitVec 32 := Scalar.addi v1157 c32_i32_838
  v1158
def k0_mult40 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_875 : BitVec 32 := 4#32
  let v1228 : BitVec 32 := Scalar.muli arg17 c4_i32_875
  let c2_i32_876 : BitVec 32 := 2#32
  let v1229 : BitVec 32 := Scalar.addi v1228 c2_i32_876
  let c1_i32_877 : BitVec 32 := 1#32
  let v1230 : BitVec 32 := Scalar.addi v1229 c1_i32_877
  let c64_i32_878 : BitVec 32 := 64#32
  let v1231 : BitVec 32 := Scalar.muli v1230 c64_i32_878
  let c32_i32_879 : BitVec 32 := 32#32
  let v1232 : BitVec 32 := Scalar.addi v1231 c32_i32_879
  v1232
@[reducible] def k0_t2_loop : Scf.Loop 32 :=
  let c0_i32_12 : BitVec 32 := 0#32
  let c2_i32 : BitVec 32 := 2#32
  let v24 : BitVec 32 := Scalar.addi c0_i32_12 c2_i32
  let c1_i32_13 : BitVec 32 := 1#32
  ⟨c0_i32_12, v24, c1_i32_13⟩
def k0_mult41 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1536_i32 : BitVec 32 := 1536#32
  let v146 : BitVec 32 := Scalar.muli arg17 c1536_i32
  v146
def k0_mult42 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1056_i32 : BitVec 32 := 1056#32
  let v148 : BitVec 32 := Scalar.muli arg17 c1056_i32
  v148
def k0_mult43 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1024_i32 : BitVec 32 := 1024#32
  let v150 : BitVec 32 := Scalar.muli arg17 c1024_i32
  v150
def k0_mult44 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1056_i32_63 : BitVec 32 := 1056#32
  let v152 : BitVec 32 := Scalar.muli arg17 c1056_i32_63
  v152
def k0_mult45 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c2112_i32 : BitVec 32 := 2112#32
  let v158 : BitVec 32 := Scalar.muli arg17 c2112_i32
  v158
def k0_off6 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c1536_i32 : BitVec 32 := 1536#32
  let v146 : BitVec 32 := Scalar.muli arg17 c1536_i32
  let v147 : BitVec 32 := v146
  let c0_i32_68 : BitVec 32 := 0#32
  ![v147.toNat, 0]
def k0_off7 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c1056_i32 : BitVec 32 := 1056#32
  let v148 : BitVec 32 := Scalar.muli arg17 c1056_i32
  let v149 : BitVec 32 := v148
  let c0_i32_71 : BitVec 32 := 0#32
  ![v149.toNat, 0]
def k0_off8 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c1024_i32 : BitVec 32 := 1024#32
  let v150 : BitVec 32 := Scalar.muli arg17 c1024_i32
  let v151 : BitVec 32 := v150
  let c0_i32_74 : BitVec 32 := 0#32
  ![v151.toNat, 0]
def k0_off9 (k0_t2 : Fin k0_t2_loop.trips) : Fin 6 → Nat :=
  let c0_i32_80 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_81 : BitVec 32 := 0#32
  let c0_i32_82 : BitVec 32 := 0#32
  let c0_i32_83 : BitVec 32 := 0#32
  let c0_i32_84 : BitVec 32 := 0#32
  ![0, v154.toNat, 0, 0, 0, 0]
def k0_off10 (k0_t2 : Fin k0_t2_loop.trips) : Fin 6 → Nat :=
  let c0_i32_80 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_81 : BitVec 32 := 0#32
  let c0_i32_82 : BitVec 32 := 0#32
  let c0_i32_83 : BitVec 32 := 0#32
  let c0_i32_84 : BitVec 32 := 0#32
  ![0, v154.toNat, 0, 0, 0, 0]
def k0_off11 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c2112_i32 : BitVec 32 := 2112#32
  let v158 : BitVec 32 := Scalar.muli arg17 c2112_i32
  let v159 : BitVec 32 := v158
  let c0_i32_108 : BitVec 32 := 0#32
  ![v159.toNat, 0]
def k0_off12 (k0_t2 : Fin k0_t2_loop.trips) : Fin 6 → Nat :=
  let c0_i32_111 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_112 : BitVec 32 := 0#32
  let c0_i32_113 : BitVec 32 := 0#32
  let c0_i32_115 : BitVec 32 := 0#32
  ![0, v154.toNat, 0, 0, 2, 0]
def k0_off13 (k0_t2 : Fin k0_t2_loop.trips) : Fin 6 → Nat :=
  let c0_i32_153 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_154 : BitVec 32 := 0#32
  let c0_i32_155 : BitVec 32 := 0#32
  let c0_i32_157 : BitVec 32 := 0#32
  ![0, v154.toNat, 0, 0, 4, 0]
def k0_off14 (k0_t2 : Fin k0_t2_loop.trips) : Fin 6 → Nat :=
  let c0_i32_184 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_185 : BitVec 32 := 0#32
  let c0_i32_186 : BitVec 32 := 0#32
  let c0_i32_188 : BitVec 32 := 0#32
  ![0, v154.toNat, 0, 0, 6, 0]
def k0_off15 (k0_t2 : Fin k0_t2_loop.trips) : Fin 6 → Nat :=
  let c0_i32_226 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_227 : BitVec 32 := 0#32
  let c0_i32_228 : BitVec 32 := 0#32
  let c0_i32_229 : BitVec 32 := 0#32
  let c0_i32_230 : BitVec 32 := 0#32
  ![0, Nat.add v154.toNat 1, 0, 0, 0, 0]
def k0_off16 (k0_t2 : Fin k0_t2_loop.trips) : Fin 6 → Nat :=
  let c0_i32_258 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_259 : BitVec 32 := 0#32
  let c0_i32_260 : BitVec 32 := 0#32
  let c0_i32_262 : BitVec 32 := 0#32
  ![0, Nat.add v154.toNat 1, 0, 0, 2, 0]
def k0_off17 (k0_t2 : Fin k0_t2_loop.trips) : Fin 6 → Nat :=
  let c0_i32_300 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_301 : BitVec 32 := 0#32
  let c0_i32_302 : BitVec 32 := 0#32
  let c0_i32_304 : BitVec 32 := 0#32
  ![0, Nat.add v154.toNat 1, 0, 0, 4, 0]
def k0_off18 (k0_t2 : Fin k0_t2_loop.trips) : Fin 6 → Nat :=
  let c0_i32_331 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_332 : BitVec 32 := 0#32
  let c0_i32_333 : BitVec 32 := 0#32
  let c0_i32_335 : BitVec 32 := 0#32
  ![0, Nat.add v154.toNat 1, 0, 0, 6, 0]
def k0_off19 (k0_t2 : Fin k0_t2_loop.trips) : Fin 6 → Nat :=
  let c0_i32_372 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_373 : BitVec 32 := 0#32
  let c0_i32_374 : BitVec 32 := 0#32
  let c0_i32_375 : BitVec 32 := 0#32
  let c0_i32_376 : BitVec 32 := 0#32
  ![0, Nat.add v154.toNat 2, 0, 0, 0, 0]
def k0_off20 (k0_t2 : Fin k0_t2_loop.trips) : Fin 6 → Nat :=
  let c0_i32_404 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_405 : BitVec 32 := 0#32
  let c0_i32_406 : BitVec 32 := 0#32
  let c0_i32_408 : BitVec 32 := 0#32
  ![0, Nat.add v154.toNat 2, 0, 0, 2, 0]
def k0_off21 (k0_t2 : Fin k0_t2_loop.trips) : Fin 6 → Nat :=
  let c0_i32_445 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_446 : BitVec 32 := 0#32
  let c0_i32_447 : BitVec 32 := 0#32
  let c0_i32_449 : BitVec 32 := 0#32
  ![0, Nat.add v154.toNat 2, 0, 0, 4, 0]
def k0_off22 (k0_t2 : Fin k0_t2_loop.trips) : Fin 6 → Nat :=
  let c0_i32_476 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_477 : BitVec 32 := 0#32
  let c0_i32_478 : BitVec 32 := 0#32
  let c0_i32_480 : BitVec 32 := 0#32
  ![0, Nat.add v154.toNat 2, 0, 0, 6, 0]
def k0_off23 (k0_t2 : Fin k0_t2_loop.trips) : Fin 6 → Nat :=
  let c0_i32_517 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_518 : BitVec 32 := 0#32
  let c0_i32_519 : BitVec 32 := 0#32
  let c0_i32_520 : BitVec 32 := 0#32
  let c0_i32_521 : BitVec 32 := 0#32
  ![0, Nat.add v154.toNat 3, 0, 0, 0, 0]
def k0_off24 (k0_t2 : Fin k0_t2_loop.trips) : Fin 6 → Nat :=
  let c0_i32_549 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_550 : BitVec 32 := 0#32
  let c0_i32_551 : BitVec 32 := 0#32
  let c0_i32_553 : BitVec 32 := 0#32
  ![0, Nat.add v154.toNat 3, 0, 0, 2, 0]
def k0_off25 (k0_t2 : Fin k0_t2_loop.trips) : Fin 6 → Nat :=
  let c0_i32_590 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_591 : BitVec 32 := 0#32
  let c0_i32_592 : BitVec 32 := 0#32
  let c0_i32_594 : BitVec 32 := 0#32
  ![0, Nat.add v154.toNat 3, 0, 0, 4, 0]
def k0_off26 (k0_t2 : Fin k0_t2_loop.trips) : Fin 6 → Nat :=
  let c0_i32_621 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_622 : BitVec 32 := 0#32
  let c0_i32_623 : BitVec 32 := 0#32
  let c0_i32_625 : BitVec 32 := 0#32
  ![0, Nat.add v154.toNat 3, 0, 0, 6, 0]
@[reducible] def k0_t3_loop : Scf.Loop 32 :=
  let c0_i32_55 : BitVec 32 := 0#32
  let c8_i32_56 : BitVec 32 := 8#32
  let v144 : BitVec 32 := Scalar.addi c0_i32_55 c8_i32_56
  let c1_i32_57 : BitVec 32 := 1#32
  ⟨c0_i32_55, v144, c1_i32_57⟩
def k0_mult46 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32 : BitVec 32 := 16#32
  let v146 : BitVec 32 := Scalar.muli arg17 c16_i32
  v146
def k0_mult47 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32_63 : BitVec 32 := 16#32
  let v148 : BitVec 32 := Scalar.muli arg17 c16_i32_63
  v148
def k0_mult48 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32_64 : BitVec 32 := 16#32
  let v150 : BitVec 32 := Scalar.muli arg17 c16_i32_64
  v150
def k0_mult49 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32_65 : BitVec 32 := 16#32
  let v152 : BitVec 32 := Scalar.muli arg17 c16_i32_65
  v152
def k0_off27 (k0_t3 : Fin k0_t3_loop.trips) : Fin 2 → Nat :=
  let c0_i32_55 : BitVec 32 := 0#32
  let c1_i32_57 : BitVec 32 := 1#32
  let arg17 : BitVec 32 := Scf.iv c0_i32_55 c1_i32_57 k0_t3
  let c16_i32 : BitVec 32 := 16#32
  let v146 : BitVec 32 := Scalar.muli arg17 c16_i32
  let v147 : BitVec 32 := v146
  let c0_i32_66 : BitVec 32 := 0#32
  ![v147.toNat, 0]
def k0_off28 (k0_t3 : Fin k0_t3_loop.trips) : Fin 2 → Nat :=
  let c0_i32_55 : BitVec 32 := 0#32
  let c1_i32_57 : BitVec 32 := 1#32
  let arg17 : BitVec 32 := Scf.iv c0_i32_55 c1_i32_57 k0_t3
  let c16_i32_64 : BitVec 32 := 16#32
  let v150 : BitVec 32 := Scalar.muli arg17 c16_i32_64
  let v151 : BitVec 32 := v150
  let c0_i32_99 : BitVec 32 := 0#32
  ![v151.toNat, 0]
@[reducible] def k0_t4_loop : Scf.Loop 32 :=
  let c0_i32_59 : BitVec 32 := 0#32
  let c4_i32_60 : BitVec 32 := 4#32
  let v145 : BitVec 32 := Scalar.addi c0_i32_59 c4_i32_60
  let c1_i32_61 : BitVec 32 := 1#32
  ⟨c0_i32_59, v145, c1_i32_61⟩
def k0_mult50 (k0_t4 : Fin k0_t4_loop.trips) : BitVec 32 :=
  let c0_i32_59 : BitVec 32 := 0#32
  let c1_i32_61 : BitVec 32 := 1#32
  let arg17 : BitVec 32 := Scf.iv c0_i32_59 c1_i32_61 k0_t4
  let c8_i32_63 : BitVec 32 := 8#32
  let v146 : BitVec 32 := Scalar.muli arg17 c8_i32_63
  let c132_i32 : BitVec 32 := 132#32
  let v147 : BitVec 32 := Scalar.muli v146 c132_i32
  v147
def k0_off29 (k0_t4 : Fin k0_t4_loop.trips) : Fin 2 → Nat :=
  let c0_i32_59 : BitVec 32 := 0#32
  let c1_i32_61 : BitVec 32 := 1#32
  let arg17 : BitVec 32 := Scf.iv c0_i32_59 c1_i32_61 k0_t4
  let c8_i32_63 : BitVec 32 := 8#32
  let v146 : BitVec 32 := Scalar.muli arg17 c8_i32_63
  let c132_i32 : BitVec 32 := 132#32
  let v147 : BitVec 32 := Scalar.muli v146 c132_i32
  let v148 : BitVec 32 := v147
  let c0_i32_65 : BitVec 32 := 0#32
  ![v148.toNat, 0]
def k0_off30 (k0_t4 : Fin k0_t4_loop.trips) : Fin 5 → Nat :=
  let c0_i32_68 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_69 : BitVec 32 := 0#32
  let c0_i32_70 : BitVec 32 := 0#32
  let c0_i32_71 : BitVec 32 := 0#32
  ![0, v149.toNat, 0, 0, 0]
def k0_off31 (k0_t4 : Fin k0_t4_loop.trips) : Fin 5 → Nat :=
  let c0_i32_68 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_69 : BitVec 32 := 0#32
  let c0_i32_70 : BitVec 32 := 0#32
  let c0_i32_71 : BitVec 32 := 0#32
  ![0, v149.toNat, 0, 0, 0]
def k0_off32 (k0_t4 : Fin k0_t4_loop.trips) : Fin 5 → Nat :=
  let c0_i32_78 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_79 : BitVec 32 := 0#32
  let c0_i32_81 : BitVec 32 := 0#32
  ![0, v149.toNat, 0, 2, 0]
def k0_off33 (k0_t4 : Fin k0_t4_loop.trips) : Fin 5 → Nat :=
  let c0_i32_87 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_88 : BitVec 32 := 0#32
  let c0_i32_90 : BitVec 32 := 0#32
  ![0, v149.toNat, 0, 4, 0]
def k0_off34 (k0_t4 : Fin k0_t4_loop.trips) : Fin 5 → Nat :=
  let c0_i32_96 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_97 : BitVec 32 := 0#32
  let c0_i32_99 : BitVec 32 := 0#32
  ![0, v149.toNat, 0, 6, 0]
def k0_off35 (k0_t4 : Fin k0_t4_loop.trips) : Fin 5 → Nat :=
  let c0_i32_105 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_106 : BitVec 32 := 0#32
  let c0_i32_107 : BitVec 32 := 0#32
  let c0_i32_108 : BitVec 32 := 0#32
  ![0, Nat.add v149.toNat 1, 0, 0, 0]
def k0_off36 (k0_t4 : Fin k0_t4_loop.trips) : Fin 5 → Nat :=
  let c0_i32_114 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_115 : BitVec 32 := 0#32
  let c0_i32_117 : BitVec 32 := 0#32
  ![0, Nat.add v149.toNat 1, 0, 2, 0]
def k0_off37 (k0_t4 : Fin k0_t4_loop.trips) : Fin 5 → Nat :=
  let c0_i32_123 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_124 : BitVec 32 := 0#32
  let c0_i32_126 : BitVec 32 := 0#32
  ![0, Nat.add v149.toNat 1, 0, 4, 0]
def k0_off38 (k0_t4 : Fin k0_t4_loop.trips) : Fin 5 → Nat :=
  let c0_i32_132 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_133 : BitVec 32 := 0#32
  let c0_i32_135 : BitVec 32 := 0#32
  ![0, Nat.add v149.toNat 1, 0, 6, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_5 (i : grid0.Coords) : Fin 6 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![arg0.toNat, c0_i32.toNat, c0_i32_0.toNat, c1_i32.toNat, c0_i32_1.toNat, c0_i32_2.toNat]

def cc0_transform_6 (i : grid0.Coords) : Fin 6 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  let c0_i32_2 : BitVec 32 := 0#32
  let c0_i32_3 : BitVec 32 := 0#32
  ![arg0.toNat, c0_i32.toNat, c0_i32_0.toNat, c2_i32.toNat, c0_i32_1.toNat, c0_i32_2.toNat]

def cc0_transform_7 (i : grid0.Coords) : Fin 6 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  let c0_i32_2 : BitVec 32 := 0#32
  let c0_i32_3 : BitVec 32 := 0#32
  ![arg0.toNat, c0_i32.toNat, c0_i32_0.toNat, c3_i32.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x2x128x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x1x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x32x1x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x32x1x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x1x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S3x16384x10x16 : Shape := ⟨4, ![3, 16384, 10, 16]⟩
abbrev S3x10 : Shape := ⟨2, ![3, 10]⟩
abbrev S3x16384x10x64 : Shape := ⟨4, ![3, 16384, 10, 64]⟩
abbrev S3 : Shape := ⟨1, ![3]⟩
abbrev S3x10x64x16384 : Shape := ⟨4, ![3, 10, 64, 16384]⟩
abbrev S30x8x8x128x128 : Shape := ⟨5, ![30, 8, 8, 128, 128]⟩
abbrev S30x8x128x8x128 : Shape := ⟨5, ![30, 8, 128, 8, 128]⟩
abbrev S30x8x32x4x8x128 : Shape := ⟨6, ![30, 8, 32, 4, 8, 128]⟩
abbrev S3x10x16x16384 : Shape := ⟨4, ![3, 10, 16, 16384]⟩
abbrev S30x2x8x128x128 : Shape := ⟨5, ![30, 2, 8, 128, 128]⟩
abbrev S30x2x128x8x128 : Shape := ⟨5, ![30, 2, 128, 8, 128]⟩
abbrev S30x1x1 : Shape := ⟨3, ![30, 1, 1]⟩
abbrev S30x8x128 : Shape := ⟨3, ![30, 8, 128]⟩
abbrev S1x2x128x8x128 : Shape := ⟨5, ![1, 2, 128, 8, 128]⟩
abbrev S1x8x128 : Shape := ⟨3, ![1, 8, 128]⟩
abbrev S1x8x32x1x8x128 : Shape := ⟨6, ![1, 8, 32, 1, 8, 128]⟩
abbrev S1x8x128x8x128 : Shape := ⟨5, ![1, 8, 128, 8, 128]⟩
abbrev S3072x128 : Shape := ⟨2, ![3072, 128]⟩
abbrev S2048x128 : Shape := ⟨2, ![2048, 128]⟩
abbrev S2112x128 : Shape := ⟨2, ![2112, 128]⟩
abbrev S4224x128 : Shape := ⟨2, ![4224, 128]⟩
abbrev S4224x2x128 : Shape := ⟨3, ![4224, 2, 128]⟩
abbrev S4224x1x128 : Shape := ⟨3, ![4224, 1, 128]⟩
abbrev S1 : Shape := ⟨1, ![1]⟩
abbrev S8x128 : Shape := ⟨2, ![8, 128]⟩
abbrev S1x1x1x8x128 : Shape := ⟨5, ![1, 1, 1, 8, 128]⟩
abbrev S24x128 : Shape := ⟨2, ![24, 128]⟩
abbrev S32x128 : Shape := ⟨2, ![32, 128]⟩
abbrev S1536x128 : Shape := ⟨2, ![1536, 128]⟩
abbrev S128x128 : Shape := ⟨2, ![128, 128]⟩
abbrev S1056x128 : Shape := ⟨2, ![1056, 128]⟩
abbrev S1024x128 : Shape := ⟨2, ![1024, 128]⟩
abbrev S1x4x32x1x8x128 : Shape := ⟨6, ![1, 4, 32, 1, 8, 128]⟩
abbrev S4x32x8x128 : Shape := ⟨4, ![4, 32, 8, 128]⟩
abbrev S512x128 : Shape := ⟨2, ![512, 128]⟩
abbrev S1x1x32x1x2x128 : Shape := ⟨6, ![1, 1, 32, 1, 2, 128]⟩
abbrev S1x1x32x1x1x128 : Shape := ⟨6, ![1, 1, 32, 1, 1, 128]⟩
abbrev S256x128 : Shape := ⟨2, ![256, 128]⟩
abbrev S2112x2x128 : Shape := ⟨3, ![2112, 2, 128]⟩
abbrev S128x2x128 : Shape := ⟨3, ![128, 2, 128]⟩
abbrev S128x1x128 : Shape := ⟨3, ![128, 1, 128]⟩
abbrev S1x128 : Shape := ⟨2, ![1, 128]⟩
abbrev S1996x128 : Shape := ⟨2, ![1996, 128]⟩
abbrev S64x128 : Shape := ⟨2, ![64, 128]⟩
abbrev S32x256 : Shape := ⟨2, ![32, 256]⟩
abbrev S64x256 : Shape := ⟨2, ![64, 256]⟩
abbrev S256x256 : Shape := ⟨2, ![256, 256]⟩
abbrev S128 : Shape := ⟨1, ![128]⟩
abbrev S16x128 : Shape := ⟨2, ![16, 128]⟩
abbrev S4108x2x128 : Shape := ⟨3, ![4108, 2, 128]⟩
abbrev S8x2x128 : Shape := ⟨3, ![8, 2, 128]⟩
abbrev S8x1x128 : Shape := ⟨3, ![8, 1, 128]⟩
abbrev S1056x2x128 : Shape := ⟨3, ![1056, 2, 128]⟩
abbrev S2x128x8x128 : Shape := ⟨4, ![2, 128, 8, 128]⟩
abbrev S1x1x128x2x128 : Shape := ⟨5, ![1, 1, 128, 2, 128]⟩
abbrev S1x1x128x1x128 : Shape := ⟨5, ![1, 1, 128, 1, 128]⟩

abbrev nBuf : Space → Nat
  | .hbm => 23
  | .vmem => 24
  | .smem => 1
  | _ => 0

abbrev bufTy : (tb : Table) → Fin (tcTables nBuf tb) → BufTy
  | .hbm, ⟨0, _⟩ => ⟨S3x16384x10x16, .i32⟩
  | .hbm, ⟨1, _⟩ => ⟨S3x16384x10x16, .i32⟩
  | .hbm, ⟨2, _⟩ => ⟨S3x10, .f32⟩
  | .hbm, ⟨3, _⟩ => ⟨S3x10, .f32⟩
  | .hbm, ⟨4, _⟩ => ⟨S3x16384x10x64, .bf16⟩
  | .hbm, ⟨5, _⟩ => ⟨S3x10x64x16384, .bf16⟩
  | .hbm, ⟨6, _⟩ => ⟨S30x8x8x128x128, .bf16⟩
  | .hbm, ⟨7, _⟩ => ⟨S30x8x128x8x128, .bf16⟩
  | .hbm, ⟨8, _⟩ => ⟨S30x8x32x4x8x128, .bf16⟩
  | .hbm, ⟨9, _⟩ => ⟨S3x10x16x16384, .i32⟩
  | .hbm, ⟨10, _⟩ => ⟨S30x2x8x128x128, .i32⟩
  | .hbm, ⟨11, _⟩ => ⟨S30x2x128x8x128, .i32⟩
  | .hbm, ⟨12, _⟩ => ⟨S3x10x16x16384, .i32⟩
  | .hbm, ⟨13, _⟩ => ⟨S30x2x8x128x128, .i32⟩
  | .hbm, ⟨14, _⟩ => ⟨S30x2x128x8x128, .i32⟩
  | .hbm, ⟨15, _⟩ => ⟨S30x1x1, .f32⟩
  | .hbm, ⟨16, _⟩ => ⟨S30x8x128, .f32⟩
  | .hbm, ⟨17, _⟩ => ⟨S30x1x1, .f32⟩
  | .hbm, ⟨18, _⟩ => ⟨S30x8x128, .f32⟩
  | .hbm, ⟨19, _⟩ => ⟨S30x8x128x8x128, .bf16⟩
  | .hbm, ⟨20, _⟩ => ⟨S30x8x8x128x128, .bf16⟩
  | .hbm, ⟨21, _⟩ => ⟨S3x10x64x16384, .bf16⟩
  | .hbm, ⟨22, _⟩ => ⟨S3x16384x10x64, .bf16⟩
  | .local _ .vmem, ⟨0, _⟩ => ⟨S1x2x128x8x128, .i32⟩
  | .local _ .vmem, ⟨1, _⟩ => ⟨S1x2x128x8x128, .i32⟩
  | .local _ .vmem, ⟨2, _⟩ => ⟨S1x2x128x8x128, .i32⟩
  | .local _ .vmem, ⟨3, _⟩ => ⟨S1x2x128x8x128, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x32x1x8x128, .bf16⟩
  | .local _ .vmem, ⟨9, _⟩ => ⟨S1x8x32x1x8x128, .bf16⟩
  | .local _ .vmem, ⟨10, _⟩ => ⟨S1x8x32x1x8x128, .bf16⟩
  | .local _ .vmem, ⟨11, _⟩ => ⟨S1x8x32x1x8x128, .bf16⟩
  | .local _ .vmem, ⟨12, _⟩ => ⟨S1x8x32x1x8x128, .bf16⟩
  | .local _ .vmem, ⟨13, _⟩ => ⟨S1x8x32x1x8x128, .bf16⟩
  | .local _ .vmem, ⟨14, _⟩ => ⟨S1x8x32x1x8x128, .bf16⟩
  | .local _ .vmem, ⟨15, _⟩ => ⟨S1x8x32x1x8x128, .bf16⟩
  | .local _ .vmem, ⟨16, _⟩ => ⟨S1x8x128x8x128, .bf16⟩
  | .local _ .vmem, ⟨17, _⟩ => ⟨S1x8x128x8x128, .bf16⟩
  | .local _ .vmem, ⟨18, _⟩ => ⟨S3072x128, .i32⟩
  | .local _ .vmem, ⟨19, _⟩ => ⟨S2048x128, .i32⟩
  | .local _ .vmem, ⟨20, _⟩ => ⟨S2112x128, .i32⟩
  | .local _ .vmem, ⟨21, _⟩ => ⟨S2112x128, .i32⟩
  | .local _ .vmem, ⟨22, _⟩ => ⟨S4224x2x128, .bf16⟩
  | .local _ .vmem, ⟨23, _⟩ => ⟨S4224x2x128, .bf16⟩
  | .local _ .smem, ⟨0, _⟩ => ⟨S3, .i32⟩
  | _, _ => ⟨S3x16384x10x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "scale_log2e" => some (((8 * (Real.log 2))⁻¹ : ℝ) : EReal)
  | _ => none

abbrev grid0 : Pipeline.Grid := ⟨1, ![30], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c10_i32 : BitVec 32 := 10#32
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let v0 : BitVec 32 := Scalar.divsi arg0 c10_i32
  let c1_i32 : BitVec 32 := 1#32
  let v15 : BitVec 32 := Scalar.subi v0 c1_i32
  let v16 : BitVec 32 := Scalar.select v14 v15 v0
  let v17 : Index := Scalar.indexCast v16
  ![v17.toNat]
@[reducible] def k0_t1_loop : Scf.Loop 32 :=
  let c0_i32_9 : BitVec 32 := 0#32
  let c8_i32 : BitVec 32 := 8#32
  let v23 : BitVec 32 := Scalar.addi c0_i32_9 c8_i32
  let c1_i32_10 : BitVec 32 := 1#32
  ⟨c0_i32_9, v23, c1_i32_10⟩
def k0_off2 (k0_t1 : Fin k0_t1_loop.trips) (c0_i32_64 : BitVec 32) (c0_i32_66 : BitVec 32) (c0_i32_67 : BitVec 32) : Fin 5 → Nat :=
  let c0_68 : Index := 0#32
  let c0_69 : Index := 0#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let v147 : BitVec 32 := Scalar.addi v146 c0_i32_64
  let c4_i32_65 : BitVec 32 := 4#32
  let v148 : BitVec 32 := Scalar.muli v147 c4_i32_65
  let v149 : BitVec 32 := Scalar.addi v148 c0_i32_66
  let v150 : BitVec 32 := Scalar.addi v149 c0_i32_67
  let v151 : Index := Scalar.indexCast v150
  let c0_70 : Index := 0#32
  let c0_71 : Index := 0#32
  ![0, 0, v151.toNat, 0, 0]
def k0_mult1 (k0_t1 : Fin k0_t1_loop.trips) : BitVec 32 :=
  let c0_i32_72 : BitVec 32 := 0#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v154 : BitVec 32 := Scalar.addi c0_i32_72 v149
  let c12_i32 : BitVec 32 := 12#32
  let v155 : BitVec 32 := Scalar.muli v154 c12_i32
  v155
def k0_off3 (k0_t1 : Fin k0_t1_loop.trips) (c0_i32_72 : BitVec 32) (c0_i32_64 : BitVec 32) (c0_i32_66 : BitVec 32) : Fin 2 → Nat :=
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let v147 : BitVec 32 := Scalar.addi v146 c0_i32_64
  let c4_i32_65 : BitVec 32 := 4#32
  let v148 : BitVec 32 := Scalar.muli v147 c4_i32_65
  let v149 : BitVec 32 := Scalar.addi v148 c0_i32_66
  let v154 : BitVec 32 := Scalar.addi c0_i32_72 v149
  let c12_i32 : BitVec 32 := 12#32
  let v155 : BitVec 32 := Scalar.muli v154 c12_i32
  let v156 : BitVec 32 := v155
  let c0_i32_73 : BitVec 32 := 0#32
  ![v156.toNat, 0]
def k0_mult2 (k0_t1 : Fin k0_t1_loop.trips) : BitVec 32 :=
  let c0_i32_81 : BitVec 32 := 0#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v165 : BitVec 32 := Scalar.addi c0_i32_81 v149
  let c12_i32_82 : BitVec 32 := 12#32
  let v166 : BitVec 32 := Scalar.muli v165 c12_i32_82
  v166
def k0_off4 (k0_t1 : Fin k0_t1_loop.trips) (c0_i32_64 : BitVec 32) (c0_i32_66 : BitVec 32) (c0_i32_85 : BitVec 32) : Fin 5 → Nat :=
  let c0_86 : Index := 0#32
  let c1 : Index := 1#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let v147 : BitVec 32 := Scalar.addi v146 c0_i32_64
  let c4_i32_65 : BitVec 32 := 4#32
  let v148 : BitVec 32 := Scalar.muli v147 c4_i32_65
  let v149 : BitVec 32 := Scalar.addi v148 c0_i32_66
  let v172 : BitVec 32 := Scalar.addi v149 c0_i32_85
  let v173 : Index := Scalar.indexCast v172
  let c0_87 : Index := 0#32
  let c0_88 : Index := 0#32
  ![0, 1, v173.toNat, 0, 0]
def k0_mult3 (k0_t1 : Fin k0_t1_loop.trips) : BitVec 32 :=
  let c128_i32 : BitVec 32 := 128#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v176 : BitVec 32 := Scalar.addi c128_i32 v149
  let c12_i32_89 : BitVec 32 := 12#32
  let v177 : BitVec 32 := Scalar.muli v176 c12_i32_89
  v177
def k0_mult4 (k0_t1 : Fin k0_t1_loop.trips) : BitVec 32 :=
  let c128_i32_98 : BitVec 32 := 128#32
  let c0_i32_9 : BitVec 32 := 0#32
  let c1_i32_10 : BitVec 32 := 1#32
  let arg17 : BitVec 32 := Scf.iv c0_i32_9 c1_i32_10 k0_t1
  let c4_i32_63 : BitVec 32 := 4#32
  let v146 : BitVec 32 := Scalar.muli arg17 c4_i32_63
  let c0_i32_64 : BitVec 32 := 0#32
  let v147 : BitVec 32 := Scalar.addi v146 c0_i32_64
  let c4_i32_65 : BitVec 32 := 4#32
  let v148 : BitVec 32 := Scalar.muli v147 c4_i32_65
  let c0_i32_66 : BitVec 32 := 0#32
  let v149 : BitVec 32 := Scalar.addi v148 c0_i32_66
  let v187 : BitVec 32 := Scalar.addi c128_i32_98 v149
  let c12_i32_99 : BitVec 32 := 12#32
  let v188 : BitVec 32 := Scalar.muli v187 c12_i32_99
  v188
def k0_mult5 (k0_t1 : Fin k0_t1_loop.trips) : BitVec 32 :=
  let c0_i32_132 : BitVec 32 := 0#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v218 : BitVec 32 := Scalar.addi c0_i32_132 v213
  let c12_i32_133 : BitVec 32 := 12#32
  let v219 : BitVec 32 := Scalar.muli v218 c12_i32_133
  v219
def k0_mult6 (k0_t1 : Fin k0_t1_loop.trips) : BitVec 32 :=
  let c0_i32_142 : BitVec 32 := 0#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v229 : BitVec 32 := Scalar.addi c0_i32_142 v213
  let c12_i32_143 : BitVec 32 := 12#32
  let v230 : BitVec 32 := Scalar.muli v229 c12_i32_143
  v230
def k0_mult7 (k0_t1 : Fin k0_t1_loop.trips) : BitVec 32 :=
  let c128_i32_152 : BitVec 32 := 128#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v240 : BitVec 32 := Scalar.addi c128_i32_152 v213
  let c12_i32_153 : BitVec 32 := 12#32
  let v241 : BitVec 32 := Scalar.muli v240 c12_i32_153
  v241
def k0_mult8 (k0_t1 : Fin k0_t1_loop.trips) : BitVec 32 :=
  let c128_i32_162 : BitVec 32 := 128#32
  let c0_i32_9 : BitVec 32 := 0#32
  let c1_i32_10 : BitVec 32 := 1#32
  let arg17 : BitVec 32 := Scf.iv c0_i32_9 c1_i32_10 k0_t1
  let c4_i32_123 : BitVec 32 := 4#32
  let v210 : BitVec 32 := Scalar.muli arg17 c4_i32_123
  let c1_i32_124 : BitVec 32 := 1#32
  let v211 : BitVec 32 := Scalar.addi v210 c1_i32_124
  let c4_i32_125 : BitVec 32 := 4#32
  let v212 : BitVec 32 := Scalar.muli v211 c4_i32_125
  let c0_i32_126 : BitVec 32 := 0#32
  let v213 : BitVec 32 := Scalar.addi v212 c0_i32_126
  let v251 : BitVec 32 := Scalar.addi c128_i32_162 v213
  let c12_i32_163 : BitVec 32 := 12#32
  let v252 : BitVec 32 := Scalar.muli v251 c12_i32_163
  v252
def k0_mult9 (k0_t1 : Fin k0_t1_loop.trips) : BitVec 32 :=
  let c0_i32_196 : BitVec 32 := 0#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v282 : BitVec 32 := Scalar.addi c0_i32_196 v277
  let c12_i32_197 : BitVec 32 := 12#32
  let v283 : BitVec 32 := Scalar.muli v282 c12_i32_197
  v283
def k0_mult10 (k0_t1 : Fin k0_t1_loop.trips) : BitVec 32 :=
  let c0_i32_206 : BitVec 32 := 0#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v293 : BitVec 32 := Scalar.addi c0_i32_206 v277
  let c12_i32_207 : BitVec 32 := 12#32
  let v294 : BitVec 32 := Scalar.muli v293 c12_i32_207
  v294
def k0_mult11 (k0_t1 : Fin k0_t1_loop.trips) : BitVec 32 :=
  let c128_i32_216 : BitVec 32 := 128#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v304 : BitVec 32 := Scalar.addi c128_i32_216 v277
  let c12_i32_217 : BitVec 32 := 12#32
  let v305 : BitVec 32 := Scalar.muli v304 c12_i32_217
  v305
def k0_mult12 (k0_t1 : Fin k0_t1_loop.trips) : BitVec 32 :=
  let c128_i32_226 : BitVec 32 := 128#32
  let c0_i32_9 : BitVec 32 := 0#32
  let c1_i32_10 : BitVec 32 := 1#32
  let arg17 : BitVec 32 := Scf.iv c0_i32_9 c1_i32_10 k0_t1
  let c4_i32_187 : BitVec 32 := 4#32
  let v274 : BitVec 32 := Scalar.muli arg17 c4_i32_187
  let c2_i32_188 : BitVec 32 := 2#32
  let v275 : BitVec 32 := Scalar.addi v274 c2_i32_188
  let c4_i32_189 : BitVec 32 := 4#32
  let v276 : BitVec 32 := Scalar.muli v275 c4_i32_189
  let c0_i32_190 : BitVec 32 := 0#32
  let v277 : BitVec 32 := Scalar.addi v276 c0_i32_190
  let v315 : BitVec 32 := Scalar.addi c128_i32_226 v277
  let c12_i32_227 : BitVec 32 := 12#32
  let v316 : BitVec 32 := Scalar.muli v315 c12_i32_227
  v316
def k0_mult13 (k0_t1 : Fin k0_t1_loop.trips) : BitVec 32 :=
  let c0_i32_260 : BitVec 32 := 0#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v346 : BitVec 32 := Scalar.addi c0_i32_260 v341
  let c12_i32_261 : BitVec 32 := 12#32
  let v347 : BitVec 32 := Scalar.muli v346 c12_i32_261
  v347
def k0_mult14 (k0_t1 : Fin k0_t1_loop.trips) : BitVec 32 :=
  let c0_i32_270 : BitVec 32 := 0#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v357 : BitVec 32 := Scalar.addi c0_i32_270 v341
  let c12_i32_271 : BitVec 32 := 12#32
  let v358 : BitVec 32 := Scalar.muli v357 c12_i32_271
  v358
def k0_mult15 (k0_t1 : Fin k0_t1_loop.trips) : BitVec 32 :=
  let c128_i32_280 : BitVec 32 := 128#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v368 : BitVec 32 := Scalar.addi c128_i32_280 v341
  let c12_i32_281 : BitVec 32 := 12#32
  let v369 : BitVec 32 := Scalar.muli v368 c12_i32_281
  v369
def k0_mult16 (k0_t1 : Fin k0_t1_loop.trips) : BitVec 32 :=
  let c128_i32_290 : BitVec 32 := 128#32
  let c0_i32_9 : BitVec 32 := 0#32
  let c1_i32_10 : BitVec 32 := 1#32
  let arg17 : BitVec 32 := Scf.iv c0_i32_9 c1_i32_10 k0_t1
  let c4_i32_251 : BitVec 32 := 4#32
  let v338 : BitVec 32 := Scalar.muli arg17 c4_i32_251
  let c3_i32_252 : BitVec 32 := 3#32
  let v339 : BitVec 32 := Scalar.addi v338 c3_i32_252
  let c4_i32_253 : BitVec 32 := 4#32
  let v340 : BitVec 32 := Scalar.muli v339 c4_i32_253
  let c0_i32_254 : BitVec 32 := 0#32
  let v341 : BitVec 32 := Scalar.addi v340 c0_i32_254
  let v379 : BitVec 32 := Scalar.addi c128_i32_290 v341
  let c12_i32_291 : BitVec 32 := 12#32
  let v380 : BitVec 32 := Scalar.muli v379 c12_i32_291
  v380
def k0_mult17 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_336 : BitVec 32 := 4#32
  let v454 : BitVec 32 := Scalar.muli arg17 c4_i32_336
  let c0_i32_337 : BitVec 32 := 0#32
  let v455 : BitVec 32 := Scalar.addi v454 c0_i32_337
  let c0_i32_338 : BitVec 32 := 0#32
  let v456 : BitVec 32 := Scalar.addi v455 c0_i32_338
  let c64_i32 : BitVec 32 := 64#32
  let v457 : BitVec 32 := Scalar.muli v456 c64_i32
  let c0_i32_339 : BitVec 32 := 0#32
  let v458 : BitVec 32 := Scalar.addi v457 c0_i32_339
  v458
def k0_off5 (k0_t1 : Fin k0_t1_loop.trips) (c0_i32_337 : BitVec 32) (c0_i32_338 : BitVec 32) (c0_i32_339 : BitVec 32) : Fin 2 → Nat :=
  let c0_i32_9 : BitVec 32 := 0#32
  let c1_i32_10 : BitVec 32 := 1#32
  let arg17 : BitVec 32 := Scf.iv c0_i32_9 c1_i32_10 k0_t1
  let c4_i32_336 : BitVec 32 := 4#32
  let v454 : BitVec 32 := Scalar.muli arg17 c4_i32_336
  let v455 : BitVec 32 := Scalar.addi v454 c0_i32_337
  let v456 : BitVec 32 := Scalar.addi v455 c0_i32_338
  let c64_i32 : BitVec 32 := 64#32
  let v457 : BitVec 32 := Scalar.muli v456 c64_i32
  let v458 : BitVec 32 := Scalar.addi v457 c0_i32_339
  let v459 : BitVec 32 := v458
  let c0_i32_340 : BitVec 32 := 0#32
  ![v459.toNat, 0]
def k0_mult18 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_374 : BitVec 32 := 4#32
  let v528 : BitVec 32 := Scalar.muli arg17 c4_i32_374
  let c0_i32_375 : BitVec 32 := 0#32
  let v529 : BitVec 32 := Scalar.addi v528 c0_i32_375
  let c1_i32_376 : BitVec 32 := 1#32
  let v530 : BitVec 32 := Scalar.addi v529 c1_i32_376
  let c64_i32_377 : BitVec 32 := 64#32
  let v531 : BitVec 32 := Scalar.muli v530 c64_i32_377
  let c0_i32_378 : BitVec 32 := 0#32
  let v532 : BitVec 32 := Scalar.addi v531 c0_i32_378
  v532
def k0_mult19 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_415 : BitVec 32 := 4#32
  let v602 : BitVec 32 := Scalar.muli arg17 c4_i32_415
  let c0_i32_416 : BitVec 32 := 0#32
  let v603 : BitVec 32 := Scalar.addi v602 c0_i32_416
  let c0_i32_417 : BitVec 32 := 0#32
  let v604 : BitVec 32 := Scalar.addi v603 c0_i32_417
  let c64_i32_418 : BitVec 32 := 64#32
  let v605 : BitVec 32 := Scalar.muli v604 c64_i32_418
  let c32_i32 : BitVec 32 := 32#32
  let v606 : BitVec 32 := Scalar.addi v605 c32_i32
  v606
def k0_mult20 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_455 : BitVec 32 := 4#32
  let v676 : BitVec 32 := Scalar.muli arg17 c4_i32_455
  let c0_i32_456 : BitVec 32 := 0#32
  let v677 : BitVec 32 := Scalar.addi v676 c0_i32_456
  let c1_i32_457 : BitVec 32 := 1#32
  let v678 : BitVec 32 := Scalar.addi v677 c1_i32_457
  let c64_i32_458 : BitVec 32 := 64#32
  let v679 : BitVec 32 := Scalar.muli v678 c64_i32_458
  let c32_i32_459 : BitVec 32 := 32#32
  let v680 : BitVec 32 := Scalar.addi v679 c32_i32_459
  v680
def k0_mult21 (k0_t1 : Fin k0_t1_loop.trips) : BitVec 32 :=
  let c0_i32_481 : BitVec 32 := 0#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v706 : BitVec 32 := Scalar.addi c0_i32_481 v701
  let c12_i32_482 : BitVec 32 := 12#32
  let v707 : BitVec 32 := Scalar.muli v706 c12_i32_482
  v707
def k0_mult22 (k0_t1 : Fin k0_t1_loop.trips) : BitVec 32 :=
  let c0_i32_491 : BitVec 32 := 0#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v717 : BitVec 32 := Scalar.addi c0_i32_491 v701
  let c12_i32_492 : BitVec 32 := 12#32
  let v718 : BitVec 32 := Scalar.muli v717 c12_i32_492
  v718
def k0_mult23 (k0_t1 : Fin k0_t1_loop.trips) : BitVec 32 :=
  let c128_i32_501 : BitVec 32 := 128#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v728 : BitVec 32 := Scalar.addi c128_i32_501 v701
  let c12_i32_502 : BitVec 32 := 12#32
  let v729 : BitVec 32 := Scalar.muli v728 c12_i32_502
  v729
def k0_mult24 (k0_t1 : Fin k0_t1_loop.trips) : BitVec 32 :=
  let c128_i32_511 : BitVec 32 := 128#32
  let c0_i32_9 : BitVec 32 := 0#32
  let c1_i32_10 : BitVec 32 := 1#32
  let arg17 : BitVec 32 := Scf.iv c0_i32_9 c1_i32_10 k0_t1
  let c4_i32_472 : BitVec 32 := 4#32
  let v698 : BitVec 32 := Scalar.muli arg17 c4_i32_472
  let c0_i32_473 : BitVec 32 := 0#32
  let v699 : BitVec 32 := Scalar.addi v698 c0_i32_473
  let c4_i32_474 : BitVec 32 := 4#32
  let v700 : BitVec 32 := Scalar.muli v699 c4_i32_474
  let c2_i32_475 : BitVec 32 := 2#32
  let v701 : BitVec 32 := Scalar.addi v700 c2_i32_475
  let v739 : BitVec 32 := Scalar.addi c128_i32_511 v701
  let c12_i32_512 : BitVec 32 := 12#32
  let v740 : BitVec 32 := Scalar.muli v739 c12_i32_512
  v740
def k0_mult25 (k0_t1 : Fin k0_t1_loop.trips) : BitVec 32 :=
  let c0_i32_545 : BitVec 32 := 0#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v770 : BitVec 32 := Scalar.addi c0_i32_545 v765
  let c12_i32_546 : BitVec 32 := 12#32
  let v771 : BitVec 32 := Scalar.muli v770 c12_i32_546
  v771
def k0_mult26 (k0_t1 : Fin k0_t1_loop.trips) : BitVec 32 :=
  let c0_i32_555 : BitVec 32 := 0#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v781 : BitVec 32 := Scalar.addi c0_i32_555 v765
  let c12_i32_556 : BitVec 32 := 12#32
  let v782 : BitVec 32 := Scalar.muli v781 c12_i32_556
  v782
def k0_mult27 (k0_t1 : Fin k0_t1_loop.trips) : BitVec 32 :=
  let c128_i32_565 : BitVec 32 := 128#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v792 : BitVec 32 := Scalar.addi c128_i32_565 v765
  let c12_i32_566 : BitVec 32 := 12#32
  let v793 : BitVec 32 := Scalar.muli v792 c12_i32_566
  v793
def k0_mult28 (k0_t1 : Fin k0_t1_loop.trips) : BitVec 32 :=
  let c128_i32_575 : BitVec 32 := 128#32
  let c0_i32_9 : BitVec 32 := 0#32
  let c1_i32_10 : BitVec 32 := 1#32
  let arg17 : BitVec 32 := Scf.iv c0_i32_9 c1_i32_10 k0_t1
  let c4_i32_536 : BitVec 32 := 4#32
  let v762 : BitVec 32 := Scalar.muli arg17 c4_i32_536
  let c1_i32_537 : BitVec 32 := 1#32
  let v763 : BitVec 32 := Scalar.addi v762 c1_i32_537
  let c4_i32_538 : BitVec 32 := 4#32
  let v764 : BitVec 32 := Scalar.muli v763 c4_i32_538
  let c2_i32_539 : BitVec 32 := 2#32
  let v765 : BitVec 32 := Scalar.addi v764 c2_i32_539
  let v803 : BitVec 32 := Scalar.addi c128_i32_575 v765
  let c12_i32_576 : BitVec 32 := 12#32
  let v804 : BitVec 32 := Scalar.muli v803 c12_i32_576
  v804
def k0_mult29 (k0_t1 : Fin k0_t1_loop.trips) : BitVec 32 :=
  let c0_i32_609 : BitVec 32 := 0#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v834 : BitVec 32 := Scalar.addi c0_i32_609 v829
  let c12_i32_610 : BitVec 32 := 12#32
  let v835 : BitVec 32 := Scalar.muli v834 c12_i32_610
  v835
def k0_mult30 (k0_t1 : Fin k0_t1_loop.trips) : BitVec 32 :=
  let c0_i32_619 : BitVec 32 := 0#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v845 : BitVec 32 := Scalar.addi c0_i32_619 v829
  let c12_i32_620 : BitVec 32 := 12#32
  let v846 : BitVec 32 := Scalar.muli v845 c12_i32_620
  v846
def k0_mult31 (k0_t1 : Fin k0_t1_loop.trips) : BitVec 32 :=
  let c128_i32_629 : BitVec 32 := 128#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v856 : BitVec 32 := Scalar.addi c128_i32_629 v829
  let c12_i32_630 : BitVec 32 := 12#32
  let v857 : BitVec 32 := Scalar.muli v856 c12_i32_630
  v857
def k0_mult32 (k0_t1 : Fin k0_t1_loop.trips) : BitVec 32 :=
  let c128_i32_639 : BitVec 32 := 128#32
  let c0_i32_9 : BitVec 32 := 0#32
  let c1_i32_10 : BitVec 32 := 1#32
  let arg17 : BitVec 32 := Scf.iv c0_i32_9 c1_i32_10 k0_t1
  let c4_i32_600 : BitVec 32 := 4#32
  let v826 : BitVec 32 := Scalar.muli arg17 c4_i32_600
  let c2_i32_601 : BitVec 32 := 2#32
  let v827 : BitVec 32 := Scalar.addi v826 c2_i32_601
  let c4_i32_602 : BitVec 32 := 4#32
  let v828 : BitVec 32 := Scalar.muli v827 c4_i32_602
  let c2_i32_603 : BitVec 32 := 2#32
  let v829 : BitVec 32 := Scalar.addi v828 c2_i32_603
  let v867 : BitVec 32 := Scalar.addi c128_i32_639 v829
  let c12_i32_640 : BitVec 32 := 12#32
  let v868 : BitVec 32 := Scalar.muli v867 c12_i32_640
  v868
def k0_mult33 (k0_t1 : Fin k0_t1_loop.trips) : BitVec 32 :=
  let c0_i32_673 : BitVec 32 := 0#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v898 : BitVec 32 := Scalar.addi c0_i32_673 v893
  let c12_i32_674 : BitVec 32 := 12#32
  let v899 : BitVec 32 := Scalar.muli v898 c12_i32_674
  v899
def k0_mult34 (k0_t1 : Fin k0_t1_loop.trips) : BitVec 32 :=
  let c0_i32_683 : BitVec 32 := 0#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v909 : BitVec 32 := Scalar.addi c0_i32_683 v893
  let c12_i32_684 : BitVec 32 := 12#32
  let v910 : BitVec 32 := Scalar.muli v909 c12_i32_684
  v910
def k0_mult35 (k0_t1 : Fin k0_t1_loop.trips) : BitVec 32 :=
  let c128_i32_693 : BitVec 32 := 128#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v920 : BitVec 32 := Scalar.addi c128_i32_693 v893
  let c12_i32_694 : BitVec 32 := 12#32
  let v921 : BitVec 32 := Scalar.muli v920 c12_i32_694
  v921
def k0_mult36 (k0_t1 : Fin k0_t1_loop.trips) : BitVec 32 :=
  let c128_i32_703 : BitVec 32 := 128#32
  let c0_i32_9 : BitVec 32 := 0#32
  let c1_i32_10 : BitVec 32 := 1#32
  let arg17 : BitVec 32 := Scf.iv c0_i32_9 c1_i32_10 k0_t1
  let c4_i32_664 : BitVec 32 := 4#32
  let v890 : BitVec 32 := Scalar.muli arg17 c4_i32_664
  let c3_i32_665 : BitVec 32 := 3#32
  let v891 : BitVec 32 := Scalar.addi v890 c3_i32_665
  let c4_i32_666 : BitVec 32 := 4#32
  let v892 : BitVec 32 := Scalar.muli v891 c4_i32_666
  let c2_i32_667 : BitVec 32 := 2#32
  let v893 : BitVec 32 := Scalar.addi v892 c2_i32_667
  let v931 : BitVec 32 := Scalar.addi c128_i32_703 v893
  let c12_i32_704 : BitVec 32 := 12#32
  let v932 : BitVec 32 := Scalar.muli v931 c12_i32_704
  v932
def k0_mult37 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_752 : BitVec 32 := 4#32
  let v1006 : BitVec 32 := Scalar.muli arg17 c4_i32_752
  let c2_i32_753 : BitVec 32 := 2#32
  let v1007 : BitVec 32 := Scalar.addi v1006 c2_i32_753
  let c0_i32_754 : BitVec 32 := 0#32
  let v1008 : BitVec 32 := Scalar.addi v1007 c0_i32_754
  let c64_i32_755 : BitVec 32 := 64#32
  let v1009 : BitVec 32 := Scalar.muli v1008 c64_i32_755
  let c0_i32_756 : BitVec 32 := 0#32
  let v1010 : BitVec 32 := Scalar.addi v1009 c0_i32_756
  v1010
def k0_mult38 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_793 : BitVec 32 := 4#32
  let v1080 : BitVec 32 := Scalar.muli arg17 c4_i32_793
  let c2_i32_794 : BitVec 32 := 2#32
  let v1081 : BitVec 32 := Scalar.addi v1080 c2_i32_794
  let c1_i32_795 : BitVec 32 := 1#32
  let v1082 : BitVec 32 := Scalar.addi v1081 c1_i32_795
  let c64_i32_796 : BitVec 32 := 64#32
  let v1083 : BitVec 32 := Scalar.muli v1082 c64_i32_796
  let c0_i32_797 : BitVec 32 := 0#32
  let v1084 : BitVec 32 := Scalar.addi v1083 c0_i32_797
  v1084
def k0_mult39 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_834 : BitVec 32 := 4#32
  let v1154 : BitVec 32 := Scalar.muli arg17 c4_i32_834
  let c2_i32_835 : BitVec 32 := 2#32
  let v1155 : BitVec 32 := Scalar.addi v1154 c2_i32_835
  let c0_i32_836 : BitVec 32 := 0#32
  let v1156 : BitVec 32 := Scalar.addi v1155 c0_i32_836
  let c64_i32_837 : BitVec 32 := 64#32
  let v1157 : BitVec 32 := Scalar.muli v1156 c64_i32_837
  let c32_i32_838 : BitVec 32 := 32#32
  let v1158 : BitVec 32 := Scalar.addi v1157 c32_i32_838
  v1158
def k0_mult40 (k0_t1 : Fin k0_t1_loop.trips) : BitVec 32 :=
  let c0_i32_9 : BitVec 32 := 0#32
  let c1_i32_10 : BitVec 32 := 1#32
  let arg17 : BitVec 32 := Scf.iv c0_i32_9 c1_i32_10 k0_t1
  let c4_i32_875 : BitVec 32 := 4#32
  let v1228 : BitVec 32 := Scalar.muli arg17 c4_i32_875
  let c2_i32_876 : BitVec 32 := 2#32
  let v1229 : BitVec 32 := Scalar.addi v1228 c2_i32_876
  let c1_i32_877 : BitVec 32 := 1#32
  let v1230 : BitVec 32 := Scalar.addi v1229 c1_i32_877
  let c64_i32_878 : BitVec 32 := 64#32
  let v1231 : BitVec 32 := Scalar.muli v1230 c64_i32_878
  let c32_i32_879 : BitVec 32 := 32#32
  let v1232 : BitVec 32 := Scalar.addi v1231 c32_i32_879
  v1232
@[reducible] def k0_t2_loop : Scf.Loop 32 :=
  let c0_i32_12 : BitVec 32 := 0#32
  let c2_i32 : BitVec 32 := 2#32
  let v24 : BitVec 32 := Scalar.addi c0_i32_12 c2_i32
  let c1_i32_13 : BitVec 32 := 1#32
  ⟨c0_i32_12, v24, c1_i32_13⟩
def k0_mult41 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1536_i32 : BitVec 32 := 1536#32
  let v146 : BitVec 32 := Scalar.muli arg17 c1536_i32
  v146
def k0_mult42 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1056_i32 : BitVec 32 := 1056#32
  let v148 : BitVec 32 := Scalar.muli arg17 c1056_i32
  v148
def k0_mult43 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1024_i32 : BitVec 32 := 1024#32
  let v150 : BitVec 32 := Scalar.muli arg17 c1024_i32
  v150
def k0_mult44 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c1056_i32_63 : BitVec 32 := 1056#32
  let v152 : BitVec 32 := Scalar.muli arg17 c1056_i32_63
  v152
def k0_mult45 (k0_t2 : Fin k0_t2_loop.trips) : BitVec 32 :=
  let c0_i32_12 : BitVec 32 := 0#32
  let c1_i32_13 : BitVec 32 := 1#32
  let arg17 : BitVec 32 := Scf.iv c0_i32_12 c1_i32_13 k0_t2
  let c2112_i32 : BitVec 32 := 2112#32
  let v158 : BitVec 32 := Scalar.muli arg17 c2112_i32
  v158
def k0_off6 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c1536_i32 : BitVec 32 := 1536#32
  let v146 : BitVec 32 := Scalar.muli arg17 c1536_i32
  let v147 : BitVec 32 := v146
  let c0_i32_68 : BitVec 32 := 0#32
  ![v147.toNat, 0]
def k0_off7 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c1056_i32 : BitVec 32 := 1056#32
  let v148 : BitVec 32 := Scalar.muli arg17 c1056_i32
  let v149 : BitVec 32 := v148
  let c0_i32_71 : BitVec 32 := 0#32
  ![v149.toNat, 0]
def k0_off8 (k0_t2 : Fin k0_t2_loop.trips) : Fin 2 → Nat :=
  let c0_i32_12 : BitVec 32 := 0#32
  let c1_i32_13 : BitVec 32 := 1#32
  let arg17 : BitVec 32 := Scf.iv c0_i32_12 c1_i32_13 k0_t2
  let c1024_i32 : BitVec 32 := 1024#32
  let v150 : BitVec 32 := Scalar.muli arg17 c1024_i32
  let v151 : BitVec 32 := v150
  let c0_i32_74 : BitVec 32 := 0#32
  ![v151.toNat, 0]
def k0_off9 (k0_t2 : Fin k0_t2_loop.trips) : Fin 6 → Nat :=
  let c0_i32_80 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_81 : BitVec 32 := 0#32
  let c0_i32_82 : BitVec 32 := 0#32
  let c0_i32_83 : BitVec 32 := 0#32
  let c0_i32_84 : BitVec 32 := 0#32
  ![0, v154.toNat, 0, 0, 0, 0]
def k0_off10 (k0_t2 : Fin k0_t2_loop.trips) : Fin 6 → Nat :=
  let c0_i32_80 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_81 : BitVec 32 := 0#32
  let c0_i32_82 : BitVec 32 := 0#32
  let c0_i32_83 : BitVec 32 := 0#32
  let c0_i32_84 : BitVec 32 := 0#32
  ![0, v154.toNat, 0, 0, 0, 0]
def k0_off11 (k0_t2 : Fin k0_t2_loop.trips) : Fin 3 → Nat :=
  let c0_i32_12 : BitVec 32 := 0#32
  let c1_i32_13 : BitVec 32 := 1#32
  let arg17 : BitVec 32 := Scf.iv c0_i32_12 c1_i32_13 k0_t2
  let c2112_i32 : BitVec 32 := 2112#32
  let v158 : BitVec 32 := Scalar.muli arg17 c2112_i32
  let v159 : BitVec 32 := v158
  let c0_i32_108 : BitVec 32 := 0#32
  ![v159.toNat, 0, 0]
def k0_off12 (k0_t2 : Fin k0_t2_loop.trips) : Fin 6 → Nat :=
  let c0_i32_111 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_112 : BitVec 32 := 0#32
  let c0_i32_113 : BitVec 32 := 0#32
  let c0_i32_115 : BitVec 32 := 0#32
  ![0, v154.toNat, 0, 0, 2, 0]
def k0_off13 (k0_t2 : Fin k0_t2_loop.trips) : Fin 6 → Nat :=
  let c0_i32_153 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_154 : BitVec 32 := 0#32
  let c0_i32_155 : BitVec 32 := 0#32
  let c0_i32_157 : BitVec 32 := 0#32
  ![0, v154.toNat, 0, 0, 4, 0]
def k0_off14 (k0_t2 : Fin k0_t2_loop.trips) : Fin 6 → Nat :=
  let c0_i32_184 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_185 : BitVec 32 := 0#32
  let c0_i32_186 : BitVec 32 := 0#32
  let c0_i32_188 : BitVec 32 := 0#32
  ![0, v154.toNat, 0, 0, 6, 0]
def k0_off15 (k0_t2 : Fin k0_t2_loop.trips) : Fin 6 → Nat :=
  let c0_i32_226 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_227 : BitVec 32 := 0#32
  let c0_i32_228 : BitVec 32 := 0#32
  let c0_i32_229 : BitVec 32 := 0#32
  let c0_i32_230 : BitVec 32 := 0#32
  ![0, Nat.add v154.toNat 1, 0, 0, 0, 0]
def k0_off16 (k0_t2 : Fin k0_t2_loop.trips) : Fin 6 → Nat :=
  let c0_i32_258 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_259 : BitVec 32 := 0#32
  let c0_i32_260 : BitVec 32 := 0#32
  let c0_i32_262 : BitVec 32 := 0#32
  ![0, Nat.add v154.toNat 1, 0, 0, 2, 0]
def k0_off17 (k0_t2 : Fin k0_t2_loop.trips) : Fin 6 → Nat :=
  let c0_i32_300 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_301 : BitVec 32 := 0#32
  let c0_i32_302 : BitVec 32 := 0#32
  let c0_i32_304 : BitVec 32 := 0#32
  ![0, Nat.add v154.toNat 1, 0, 0, 4, 0]
def k0_off18 (k0_t2 : Fin k0_t2_loop.trips) : Fin 6 → Nat :=
  let c0_i32_331 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_332 : BitVec 32 := 0#32
  let c0_i32_333 : BitVec 32 := 0#32
  let c0_i32_335 : BitVec 32 := 0#32
  ![0, Nat.add v154.toNat 1, 0, 0, 6, 0]
def k0_off19 (k0_t2 : Fin k0_t2_loop.trips) : Fin 6 → Nat :=
  let c0_i32_372 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_373 : BitVec 32 := 0#32
  let c0_i32_374 : BitVec 32 := 0#32
  let c0_i32_375 : BitVec 32 := 0#32
  let c0_i32_376 : BitVec 32 := 0#32
  ![0, Nat.add v154.toNat 2, 0, 0, 0, 0]
def k0_off20 (k0_t2 : Fin k0_t2_loop.trips) : Fin 6 → Nat :=
  let c0_i32_404 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_405 : BitVec 32 := 0#32
  let c0_i32_406 : BitVec 32 := 0#32
  let c0_i32_408 : BitVec 32 := 0#32
  ![0, Nat.add v154.toNat 2, 0, 0, 2, 0]
def k0_off21 (k0_t2 : Fin k0_t2_loop.trips) : Fin 6 → Nat :=
  let c0_i32_445 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_446 : BitVec 32 := 0#32
  let c0_i32_447 : BitVec 32 := 0#32
  let c0_i32_449 : BitVec 32 := 0#32
  ![0, Nat.add v154.toNat 2, 0, 0, 4, 0]
def k0_off22 (k0_t2 : Fin k0_t2_loop.trips) : Fin 6 → Nat :=
  let c0_i32_476 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_477 : BitVec 32 := 0#32
  let c0_i32_478 : BitVec 32 := 0#32
  let c0_i32_480 : BitVec 32 := 0#32
  ![0, Nat.add v154.toNat 2, 0, 0, 6, 0]
def k0_off23 (k0_t2 : Fin k0_t2_loop.trips) : Fin 6 → Nat :=
  let c0_i32_517 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_518 : BitVec 32 := 0#32
  let c0_i32_519 : BitVec 32 := 0#32
  let c0_i32_520 : BitVec 32 := 0#32
  let c0_i32_521 : BitVec 32 := 0#32
  ![0, Nat.add v154.toNat 3, 0, 0, 0, 0]
def k0_off24 (k0_t2 : Fin k0_t2_loop.trips) : Fin 6 → Nat :=
  let c0_i32_549 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_550 : BitVec 32 := 0#32
  let c0_i32_551 : BitVec 32 := 0#32
  let c0_i32_553 : BitVec 32 := 0#32
  ![0, Nat.add v154.toNat 3, 0, 0, 2, 0]
def k0_off25 (k0_t2 : Fin k0_t2_loop.trips) : Fin 6 → Nat :=
  let c0_i32_590 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_591 : BitVec 32 := 0#32
  let c0_i32_592 : BitVec 32 := 0#32
  let c0_i32_594 : BitVec 32 := 0#32
  ![0, Nat.add v154.toNat 3, 0, 0, 4, 0]
def k0_off26 (k0_t2 : Fin k0_t2_loop.trips) : Fin 6 → Nat :=
  let c0_i32_621 : BitVec 32 := 0#32
  let c0_i32_12 : BitVec 32 := 0#32
  let c1_i32_13 : BitVec 32 := 1#32
  let arg17 : BitVec 32 := Scf.iv c0_i32_12 c1_i32_13 k0_t2
  let c4_i32_64 : BitVec 32 := 4#32
  let v154 : BitVec 32 := Scalar.muli arg17 c4_i32_64
  let c0_i32_622 : BitVec 32 := 0#32
  let c0_i32_623 : BitVec 32 := 0#32
  let c0_i32_625 : BitVec 32 := 0#32
  ![0, Nat.add v154.toNat 3, 0, 0, 6, 0]
@[reducible] def k0_t3_loop : Scf.Loop 32 :=
  let c0_i32_55 : BitVec 32 := 0#32
  let c8_i32_56 : BitVec 32 := 8#32
  let v144 : BitVec 32 := Scalar.addi c0_i32_55 c8_i32_56
  let c1_i32_57 : BitVec 32 := 1#32
  ⟨c0_i32_55, v144, c1_i32_57⟩
def k0_mult46 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32 : BitVec 32 := 16#32
  let v146 : BitVec 32 := Scalar.muli arg17 c16_i32
  v146
def k0_mult47 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32_63 : BitVec 32 := 16#32
  let v148 : BitVec 32 := Scalar.muli arg17 c16_i32_63
  v148
def k0_mult48 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32_64 : BitVec 32 := 16#32
  let v150 : BitVec 32 := Scalar.muli arg17 c16_i32_64
  v150
def k0_mult49 (k0_t3 : Fin k0_t3_loop.trips) : BitVec 32 :=
  let c0_i32_55 : BitVec 32 := 0#32
  let c1_i32_57 : BitVec 32 := 1#32
  let arg17 : BitVec 32 := Scf.iv c0_i32_55 c1_i32_57 k0_t3
  let c16_i32_65 : BitVec 32 := 16#32
  let v152 : BitVec 32 := Scalar.muli arg17 c16_i32_65
  v152
def k0_off27 (k0_t3 : Fin k0_t3_loop.trips) : Fin 2 → Nat :=
  let c0_i32_55 : BitVec 32 := 0#32
  let c1_i32_57 : BitVec 32 := 1#32
  let arg17 : BitVec 32 := Scf.iv c0_i32_55 c1_i32_57 k0_t3
  let c16_i32 : BitVec 32 := 16#32
  let v146 : BitVec 32 := Scalar.muli arg17 c16_i32
  let v147 : BitVec 32 := v146
  let c0_i32_66 : BitVec 32 := 0#32
  ![v147.toNat, 0]
def k0_off28 (k0_t3 : Fin k0_t3_loop.trips) : Fin 3 → Nat :=
  let c0_i32_55 : BitVec 32 := 0#32
  let c1_i32_57 : BitVec 32 := 1#32
  let arg17 : BitVec 32 := Scf.iv c0_i32_55 c1_i32_57 k0_t3
  let c16_i32_64 : BitVec 32 := 16#32
  let v150 : BitVec 32 := Scalar.muli arg17 c16_i32_64
  let v151 : BitVec 32 := v150
  let c0_i32_99 : BitVec 32 := 0#32
  ![v151.toNat, 0, 0]
@[reducible] def k0_t4_loop : Scf.Loop 32 :=
  let c0_i32_59 : BitVec 32 := 0#32
  let c4_i32_60 : BitVec 32 := 4#32
  let v145 : BitVec 32 := Scalar.addi c0_i32_59 c4_i32_60
  let c1_i32_61 : BitVec 32 := 1#32
  ⟨c0_i32_59, v145, c1_i32_61⟩
def k0_mult50 (k0_t4 : Fin k0_t4_loop.trips) : BitVec 32 :=
  let c0_i32_59 : BitVec 32 := 0#32
  let c1_i32_61 : BitVec 32 := 1#32
  let arg17 : BitVec 32 := Scf.iv c0_i32_59 c1_i32_61 k0_t4
  let c8_i32_63 : BitVec 32 := 8#32
  let v146 : BitVec 32 := Scalar.muli arg17 c8_i32_63
  let c132_i32 : BitVec 32 := 132#32
  let v147 : BitVec 32 := Scalar.muli v146 c132_i32
  v147
def k0_off29 (k0_t4 : Fin k0_t4_loop.trips) : Fin 3 → Nat :=
  let c0_i32_59 : BitVec 32 := 0#32
  let c1_i32_61 : BitVec 32 := 1#32
  let arg17 : BitVec 32 := Scf.iv c0_i32_59 c1_i32_61 k0_t4
  let c8_i32_63 : BitVec 32 := 8#32
  let v146 : BitVec 32 := Scalar.muli arg17 c8_i32_63
  let c132_i32 : BitVec 32 := 132#32
  let v147 : BitVec 32 := Scalar.muli v146 c132_i32
  let v148 : BitVec 32 := v147
  let c0_i32_65 : BitVec 32 := 0#32
  ![v148.toNat, 0, 0]
def k0_off30 (k0_t4 : Fin k0_t4_loop.trips) : Fin 5 → Nat :=
  let c0_i32_68 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_69 : BitVec 32 := 0#32
  let c0_i32_70 : BitVec 32 := 0#32
  let c0_i32_71 : BitVec 32 := 0#32
  ![0, v149.toNat, 0, 0, 0]
def k0_off31 (k0_t4 : Fin k0_t4_loop.trips) : Fin 5 → Nat :=
  let c0_i32_68 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_69 : BitVec 32 := 0#32
  let c0_i32_70 : BitVec 32 := 0#32
  let c0_i32_71 : BitVec 32 := 0#32
  ![0, v149.toNat, 0, 0, 0]
def k0_off32 (k0_t4 : Fin k0_t4_loop.trips) : Fin 5 → Nat :=
  let c0_i32_78 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_79 : BitVec 32 := 0#32
  let c0_i32_81 : BitVec 32 := 0#32
  ![0, v149.toNat, 0, 2, 0]
def k0_off33 (k0_t4 : Fin k0_t4_loop.trips) : Fin 5 → Nat :=
  let c0_i32_87 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_88 : BitVec 32 := 0#32
  let c0_i32_90 : BitVec 32 := 0#32
  ![0, v149.toNat, 0, 4, 0]
def k0_off34 (k0_t4 : Fin k0_t4_loop.trips) : Fin 5 → Nat :=
  let c0_i32_96 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_97 : BitVec 32 := 0#32
  let c0_i32_99 : BitVec 32 := 0#32
  ![0, v149.toNat, 0, 6, 0]
def k0_off35 (k0_t4 : Fin k0_t4_loop.trips) : Fin 5 → Nat :=
  let c0_i32_105 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_106 : BitVec 32 := 0#32
  let c0_i32_107 : BitVec 32 := 0#32
  let c0_i32_108 : BitVec 32 := 0#32
  ![0, Nat.add v149.toNat 1, 0, 0, 0]
def k0_off36 (k0_t4 : Fin k0_t4_loop.trips) : Fin 5 → Nat :=
  let c0_i32_114 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_115 : BitVec 32 := 0#32
  let c0_i32_117 : BitVec 32 := 0#32
  ![0, Nat.add v149.toNat 1, 0, 2, 0]
def k0_off37 (k0_t4 : Fin k0_t4_loop.trips) : Fin 5 → Nat :=
  let c0_i32_123 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_124 : BitVec 32 := 0#32
  let c0_i32_126 : BitVec 32 := 0#32
  ![0, Nat.add v149.toNat 1, 0, 4, 0]
def k0_off38 (k0_t4 : Fin k0_t4_loop.trips) : Fin 5 → Nat :=
  let c0_i32_132 : BitVec 32 := 0#32
  let c0_i32_59 : BitVec 32 := 0#32
  let c1_i32_61 : BitVec 32 := 1#32
  let arg17 : BitVec 32 := Scf.iv c0_i32_59 c1_i32_61 k0_t4
  let c2_i32_64 : BitVec 32 := 2#32
  let v149 : BitVec 32 := Scalar.muli arg17 c2_i32_64
  let c0_i32_133 : BitVec 32 := 0#32
  let c0_i32_135 : BitVec 32 := 0#32
  ![0, Nat.add v149.toNat 1, 0, 6, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_5 (i : grid0.Coords) : Fin 6 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![arg0.toNat, c0_i32.toNat, c0_i32_0.toNat, c1_i32.toNat, c0_i32_1.toNat, c0_i32_2.toNat]

def cc0_transform_6 (i : grid0.Coords) : Fin 6 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  let c0_i32_2 : BitVec 32 := 0#32
  let c0_i32_3 : BitVec 32 := 0#32
  ![arg0.toNat, c0_i32.toNat, c0_i32_0.toNat, c2_i32.toNat, c0_i32_1.toNat, c0_i32_2.toNat]

def cc0_transform_7 (i : grid0.Coords) : Fin 6 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  let c0_i32_2 : BitVec 32 := 0#32
  let c0_i32_3 : BitVec 32 := 0#32
  ![arg0.toNat, c0_i32.toNat, c0_i32_0.toNat, c3_i32.toNat, c0_i32_1.toNat, c0_i32_2.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x2x128x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x32x1x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x32x1x8x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x32x1x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x32x1x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S3x16384x10x16 : Shape := ⟨4, ![3, 16384, 10, 16]⟩
abbrev S3x10 : Shape := ⟨2, ![3, 10]⟩
abbrev S3x16384x10x64 : Shape := ⟨4, ![3, 16384, 10, 64]⟩
abbrev S3 : Shape := ⟨1, ![3]⟩
abbrev S3x10x16x16384 : Shape := ⟨4, ![3, 10, 16, 16384]⟩
abbrev S480x16384 : Shape := ⟨2, ![480, 16384]⟩
abbrev S1920x16384 : Shape := ⟨2, ![1920, 16384]⟩
abbrev S3x10x64x32x512 : Shape := ⟨5, ![3, 10, 64, 32, 512]⟩
abbrev S3x32x512x10x64 : Shape := ⟨5, ![3, 32, 512, 10, 64]⟩
abbrev S3x512x10x32x32 : Shape := ⟨5, ![3, 512, 10, 32, 32]⟩
abbrev S_ : Shape := ⟨0, ![]⟩
abbrev S3x1x10x1x1 : Shape := ⟨5, ![3, 1, 10, 1, 1]⟩
abbrev S32 : Shape := ⟨1, ![32]⟩
abbrev S1x32 : Shape := ⟨2, ![1, 32]⟩
abbrev S3x1 : Shape := ⟨2, ![3, 1]⟩
abbrev S3x32 : Shape := ⟨2, ![3, 32]⟩
abbrev S3x1x1x1x32 : Shape := ⟨5, ![3, 1, 1, 1, 32]⟩
abbrev S3x512x10x32 : Shape := ⟨4, ![3, 512, 10, 32]⟩
abbrev S3x512x10x32x1 : Shape := ⟨5, ![3, 512, 10, 32, 1]⟩
abbrev S3x512x10x64x32 : Shape := ⟨5, ![3, 512, 10, 64, 32]⟩
abbrev S3x32x1x1x1 : Shape := ⟨5, ![3, 32, 1, 1, 1]⟩

abbrev nBuf : Space → Nat
  | .hbm => 62
  | .vmem => 4
  | .smem => 0
  | _ => 0

abbrev bufTy : (tb : Table) → Fin (tcTables nBuf tb) → BufTy
  | .hbm, ⟨0, _⟩ => ⟨S3x16384x10x16, .i32⟩
  | .hbm, ⟨1, _⟩ => ⟨S3x16384x10x16, .i32⟩
  | .hbm, ⟨2, _⟩ => ⟨S3x10, .f32⟩
  | .hbm, ⟨3, _⟩ => ⟨S3x10, .f32⟩
  | .hbm, ⟨4, _⟩ => ⟨S3x16384x10x64, .bf16⟩
  | .hbm, ⟨5, _⟩ => ⟨S3, .i32⟩
  | .hbm, ⟨6, _⟩ => ⟨S3x10x16x16384, .i32⟩
  | .hbm, ⟨7, _⟩ => ⟨S480x16384, .i32⟩
  | .hbm, ⟨8, _⟩ => ⟨S3x10x16x16384, .i32⟩
  | .hbm, ⟨9, _⟩ => ⟨S480x16384, .i32⟩
  | .hbm, ⟨10, _⟩ => ⟨S1920x16384, .f32⟩
  | .hbm, ⟨11, _⟩ => ⟨S1920x16384, .f32⟩
  | .hbm, ⟨12, _⟩ => ⟨S3x10x64x32x512, .f32⟩
  | .hbm, ⟨13, _⟩ => ⟨S3x32x512x10x64, .f32⟩
  | .hbm, ⟨14, _⟩ => ⟨S3x10x64x32x512, .f32⟩
  | .hbm, ⟨15, _⟩ => ⟨S3x32x512x10x64, .f32⟩
  | .hbm, ⟨16, _⟩ => ⟨S3x32x512x10x64, .bf16⟩
  | .hbm, ⟨17, _⟩ => ⟨S3x512x10x32x32, .f32⟩
  | .hbm, ⟨18, _⟩ => ⟨S3x10, .f32⟩
  | .hbm, ⟨19, _⟩ => ⟨S_, .f32⟩
  | .hbm, ⟨20, _⟩ => ⟨S3x10, .f32⟩
  | .hbm, ⟨21, _⟩ => ⟨S3x10, .f32⟩
  | .hbm, ⟨22, _⟩ => ⟨S3x1x10x1x1, .f32⟩
  | .hbm, ⟨23, _⟩ => ⟨S3x512x10x32x32, .f32⟩
  | .hbm, ⟨24, _⟩ => ⟨S3x512x10x32x32, .f32⟩
  | .hbm, ⟨25, _⟩ => ⟨S32, .i32⟩
  | .hbm, ⟨26, _⟩ => ⟨S1x32, .i32⟩
  | .hbm, ⟨27, _⟩ => ⟨S3x1, .i32⟩
  | .hbm, ⟨28, _⟩ => ⟨S3x32, .i32⟩
  | .hbm, ⟨29, _⟩ => ⟨S3x32, .i32⟩
  | .hbm, ⟨30, _⟩ => ⟨S3x32, .i1⟩
  | .hbm, ⟨31, _⟩ => ⟨S3x1x1x1x32, .i1⟩
  | .hbm, ⟨32, _⟩ => ⟨S_, .f32⟩
  | .hbm, ⟨33, _⟩ => ⟨S_, .f32⟩
  | .hbm, ⟨34, _⟩ => ⟨S3x512x10x32x32, .i1⟩
  | .hbm, ⟨35, _⟩ => ⟨S3x512x10x32x32, .f32⟩
  | .hbm, ⟨36, _⟩ => ⟨S3x512x10x32x32, .f32⟩
  | .hbm, ⟨37, _⟩ => ⟨S_, .f32⟩
  | .hbm, ⟨38, _⟩ => ⟨S3x512x10x32, .f32⟩
  | .hbm, ⟨39, _⟩ => ⟨S_, .f32⟩
  | .hbm, ⟨40, _⟩ => ⟨S3x512x10x32, .f32⟩
  | .hbm, ⟨41, _⟩ => ⟨S3x512x10x32, .f32⟩
  | .hbm, ⟨42, _⟩ => ⟨S3x512x10x32x1, .f32⟩
  | .hbm, ⟨43, _⟩ => ⟨S3x512x10x32x32, .f32⟩
  | .hbm, ⟨44, _⟩ => ⟨S3x512x10x32x32, .f32⟩
  | .hbm, ⟨45, _⟩ => ⟨S3x512x10x32x32, .f32⟩
  | .hbm, ⟨46, _⟩ => ⟨S_, .f32⟩
  | .hbm, ⟨47, _⟩ => ⟨S3x512x10x32, .f32⟩
  | .hbm, ⟨48, _⟩ => ⟨S3x512x10x32x1, .f32⟩
  | .hbm, ⟨49, _⟩ => ⟨S3x512x10x32x32, .f32⟩
  | .hbm, ⟨50, _⟩ => ⟨S3x512x10x32x32, .f32⟩
  | .hbm, ⟨51, _⟩ => ⟨S3x512x10x32x32, .bf16⟩
  | .hbm, ⟨52, _⟩ => ⟨S3x512x10x64x32, .f32⟩
  | .hbm, ⟨53, _⟩ => ⟨S3x32x512x10x64, .f32⟩
  | .hbm, ⟨54, _⟩ => ⟨S3x32x1x1x1, .i1⟩
  | .hbm, ⟨55, _⟩ => ⟨S_, .f32⟩
  | .hbm, ⟨56, _⟩ => ⟨S_, .f32⟩
  | .hbm, ⟨57, _⟩ => ⟨S3x32x512x10x64, .i1⟩
  | .hbm, ⟨58, _⟩ => ⟨S3x32x512x10x64, .f32⟩
  | .hbm, ⟨59, _⟩ => ⟨S3x32x512x10x64, .f32⟩
  | .hbm, ⟨60, _⟩ => ⟨S3x16384x10x64, .f32⟩
  | .hbm, ⟨61, _⟩ => ⟨S3x16384x10x64, .bf16⟩
  | .local _ .vmem, ⟨0, _⟩ => ⟨S480x16384, .i32⟩
  | .local _ .vmem, ⟨1, _⟩ => ⟨S480x16384, .i32⟩
  | .local _ .vmem, ⟨2, _⟩ => ⟨S1920x16384, .f32⟩
  | .local _ .vmem, ⟨3, _⟩ => ⟨S1920x16384, .f32⟩
  | _, _ => ⟨S3x16384x10x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S480x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S480x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelKit.lean ====
/-  The launch kit of `Kernel`: what surrounds the kernel's body

`@main` as host lines, one pallas_call and host lines; what the region finds in each buffer; the prefetched frame counts;
the windows' blocks; the staging and scratch memrefs. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_temporal_attn_fp8 (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v15, main_v16, main_v17}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The buffers the host operations before the region write, as references. -/
def P0 : Finset (Ref sig .tc) := {main_v0, main_v1, main_v2, main_v3, main_v4, main_v5, main_v6, main_v7, main_v8, main_v9, main_v10, main_v11, main_v12, main_v13}
/-- A buffer no host operation before the region writes is found by the region as launched. -/
theorem V_kept (c : Dev nD) (b : Ref sig .tc) (hb : ∀ x ∈ P0, b ≠ x) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (hb _ (by decide))))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- A buffer no host operation at all writes, and no window stages, ends as launched. -/
theorem W_kept (hO : Ok m) (dats : (p : Fin _) → (c : Dev nD) → Dat τ (Elt F) Unit ℕ (UR sig nD τ) ℕ ((Pipeline.pin pcfgs fun _ => adm m hO) p) c) (c : Dev nD)
    (b : Ref sig .tc) (h0 : ∀ x ∈ P0, b ≠ x) (h1 : ∀ x ∈ T0, b ≠ x) (hw : ∀ w, Pipeline.arrRef spec0 w ≠ b) :
    Pipeline.afterTail pcfgs (fun _ => adm m hO) dats 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (h1 _ (by decide)))),
    Pipeline.withArrays_of_ne _ c (V0 m c) _ b (by exact hw)]
  exact V_kept m c b h0

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for ANY proof
    data whose array is `V`'s (`hA`) and whose body leaves the block in place (`hafter`): `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post at any `F`. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0 \ T0)).trans (V_kept m c main_arg0 (by decide)),
      ((h c).2 main_arg1 (by decide : main_arg1 ∈ Pipeline.restRefs sig spec0 \ T0)).trans (V_kept m c main_arg1 (by decide)),
      ((h c).2 main_arg2 (by decide : main_arg2 ∈ Pipeline.restRefs sig spec0 \ T0)).trans (V_kept m c main_arg2 (by decide)),
      ((h c).2 main_arg3 (by decide : main_arg3 ∈ Pipeline.restRefs sig spec0 \ T0)).trans (V_kept m c main_arg3 (by decide)),
      ((h c).2 main_arg4 (by decide : main_arg4 ∈ Pipeline.restRefs sig spec0 \ T0)).trans (V_kept m c main_arg4 (by decide)),
      ((h c).2 main_arg5 (by decide : main_arg5 ∈ Pipeline.restRefs sig spec0 \ T0)).trans (V_kept m c main_arg5 (by decide))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x2x128x8x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x128x8x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x32x1x8x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x32x1x8x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8x32x1x8x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x8x32x1x8x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x8x128x8x128 .bf16 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S3072x128 .i32 := Memref.whole cc0_scratch0
abbrev scM0_1 : Memref sig .tc .vmem S2048x128 .i32 := Memref.whole cc0_scratch1
abbrev scM0_2 : Memref sig .tc .vmem S2112x128 .i32 := Memref.whole cc0_scratch2
abbrev scM0_3 : Memref sig .tc .vmem S2112x128 .i32 := Memref.whole cc0_scratch3
abbrev scM0_4 : Memref sig .tc .vmem S4224x128 .i32 := Memref.whole cc0_scratch4
abbrev scM0_5 : Memref sig .tc .vmem S4224x128 .i32 := Memref.whole cc0_scratch5

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.KernelTrip1.lean ====
/- One trip of loop 1 of `Kernel`'s kernel runs, and the loop by it. -/
module

public import proofs.«01_k».proof.Proof.KernelKit
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x128 .i32) (harg15 : arg15.IsWhole)
  (arg16 : Memref sig .tc .vmem S4224x128 .i32) (harg16 : arg16.IsWhole)

set_option warn.classDefReducibility false

/-- One trip of the loop that gathers the query words and interleaves the key words, four frames a trip. -/
theorem trip1  (k : Fin k0_t1_loop.trips) (X2 : BufTy.Contents (Elt F) arg2.view.ty) (X3 : BufTy.Contents (Elt F) arg3.view.ty) (X11 : BufTy.Contents (Elt F) arg11.view.ty) (X12 : BufTy.Contents (Elt F) arg12.view.ty) :
    (iprop((arg2.view.loc (c : Thread nD τ) ↦[arg2.view.set]{fullShare} X2) ∗ (arg3.view.loc (c : Thread nD τ) ↦[arg3.view.set]{fullShare} X3) ∗ (arg11.view.loc (c : Thread nD τ) ↦[arg11.view.set]{fullShare} X11) ∗ (arg12.view.loc (c : Thread nD τ) ↦[arg12.view.set]{fullShare} X12)) : sProp 𝕄)
      ⊢ wp Idealize.ShloMosaic.frame (wpE (defs₀ (F := F)) 𝒱 (c : Thread nD τ) none) Set.univ (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k ())
        (fun _ => iprop((arg2.view.loc (c : Thread nD τ) ↦[arg2.view.set]{fullShare} X2) ∗ (arg3.view.loc (c : Thread nD τ) ↦[arg3.view.set]{fullShare} X3) ∗ (∃ f, (arg11.view.loc (c : Thread nD τ) ↦[arg11.view.set]{fullShare} f)) ∗ (∃ f, (arg12.view.loc (c : Thread nD τ) ↦[arg12.view.set]{fullShare} f)))) := by
  unfold Gen.k0_t1_body
  iintro ⟨H2, H3, H11, H12⟩
  sl_exec_parts
  sl_step
  sl_close

/-- The loop over the loop that gathers the query words and interleaves the key words, four frames a trip: what it reads stays, what it writes holds something. -/
@[sl_loop] def loopInv_k0_t1  (X2 : BufTy.Contents (Elt F) arg2.view.ty) (X3 : BufTy.Contents (Elt F) arg3.view.ty) :
    Gen.LoopInvTy_k0_t1 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  where
  inv _ _ := iprop((arg2.view.loc (c : Thread nD τ) ↦[arg2.view.set]{fullShare} X2) ∗ (arg3.view.loc (c : Thread nD τ) ↦[arg3.view.set]{fullShare} X3) ∗ (∃ f, (arg11.view.loc (c : Thread nD τ) ↦[arg11.view.set]{fullShare} f)) ∗ (∃ f, (arg12.view.loc (c : Thread nD τ) ↦[arg12.view.set]{fullShare} f)))
  step k acc := by
    iintro ⟨H2, H3, ⟨%X11, H11⟩, ⟨%X12, H12⟩⟩
    iapply (trip1 𝒱 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k X2 X3 X11 X12)
    isplitl [H2]; · iexact H2
    isplitl [H3]; · iexact H3
    isplitl [H11]; · iexact H11
    iexact H12

end Cert.Kernel.Hand

end
-- ==== Proof.KernelTrip2.lean ====
/- One trip of loop 2 of `Kernel`'s kernel runs, and the loop by it. -/
module

public import proofs.«01_k».proof.Proof.KernelKit
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x128 .i32) (harg15 : arg15.IsWhole)
  (arg16 : Memref sig .tc .vmem S4224x128 .i32) (harg16 : arg16.IsWhole)

set_option warn.classDefReducibility false

/-- One trip of the loop that transposes queries, keys and values into pixel-major order. -/
theorem trip2  (k : Fin k0_t2_loop.trips) (X6 : BufTy.Contents (Elt F) arg6.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    (iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)) : sProp 𝕄)
      ⊢ wp Idealize.ShloMosaic.frame (wpE (defs₀ (F := F)) 𝒱 (c : Thread nD τ) none) Set.univ (Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k ())
        (fun _ => iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))) := by
  unfold Gen.k0_t2_body
  iintro ⟨H6, H7, H8, H9, H11, H12, H13, H14, H15⟩
  sl_exec_parts
  sl_step
  sl_close

/-- The loop over the loop that transposes queries, keys and values into pixel-major order: what it reads stays, what it writes holds something. -/
@[sl_loop] def loopInv_k0_t2  (X6 : BufTy.Contents (Elt F) arg6.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) :
    Gen.LoopInvTy_k0_t2 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  where
  inv _ _ := iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))
  step k acc := by
    iintro ⟨H6, H7, H8, H9, H11, H12, ⟨%X13, H13⟩, ⟨%X14, H14⟩, ⟨%X15, H15⟩⟩
    iapply (trip2 𝒱 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k X6 X7 X8 X9 X11 X12 X13 X14 X15)
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    iexact H15

end Cert.Kernel.Hand

end
-- ==== Proof.KernelTrip3.lean ====
/- One trip of loop 3 of `Kernel`'s kernel runs, and the loop by it. -/
module

public import proofs.«01_k».proof.Proof.KernelKit
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x128 .i32) (harg15 : arg15.IsWhole)
  (arg16 : Memref sig .tc .vmem S4224x128 .i32) (harg16 : arg16.IsWhole)

set_option warn.classDefReducibility false

/-- One trip of the attention loop, sixteen pixels of each chunk a trip. -/
theorem trip3 (v18 : Elt F .i32) (v20 : FVec F S8x128 .f32) (v22 : FVec F S8x128 .f32) (v43 : IVec S8x128 1) (v61 : IVec S8x128 1) (v79 : IVec S8x128 1) (v97 : IVec S8x128 1) (v100 : IVec S8x128 32) (v103 : IVec S8x128 32) (v106 : IVec S8x128 32) (v109 : IVec S8x128 32) (v110 : IVec S1x128 32) (c4_i32_48 : BitVec 32) (v112 : IVec S1x128 32) (v115 : IVec S1x128 32) (v116 : IVec S1x128 32) (k : Fin k0_t3_loop.trips) (X13 : BufTy.Contents (Elt F) arg13.view.ty) (X14 : BufTy.Contents (Elt F) arg14.view.ty) (X15 : BufTy.Contents (Elt F) arg15.view.ty) (X16 : BufTy.Contents (Elt F) arg16.view.ty) :
    (iprop((arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16)) : sProp 𝕄)
      ⊢ wp Idealize.ShloMosaic.frame (wpE (defs₀ (F := F)) 𝒱 (c : Thread nD τ) none) Set.univ (Gen.k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v18 v20 v22 v43 v61 v79 v97 v100 v103 v106 v109 v110 c4_i32_48 v112 v115 v116 k ())
        (fun _ => iprop((arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg16.view.loc (c : Thread nD τ) ↦[arg16.view.set]{fullShare} f)))) := by
  unfold Gen.k0_t3_body
  iintro ⟨H13, H14, H15, H16⟩
  sl_exec_parts
  sl_step
  sl_close

/-- The loop over the attention loop, sixteen pixels of each chunk a trip: what it reads stays, what it writes holds something. -/
@[sl_loop] def loopInv_k0_t3 (v18 : Elt F .i32) (v20 : FVec F S8x128 .f32) (v22 : FVec F S8x128 .f32) (v43 : IVec S8x128 1) (v61 : IVec S8x128 1) (v79 : IVec S8x128 1) (v97 : IVec S8x128 1) (v100 : IVec S8x128 32) (v103 : IVec S8x128 32) (v106 : IVec S8x128 32) (v109 : IVec S8x128 32) (v110 : IVec S1x128 32) (c4_i32_48 : BitVec 32) (v112 : IVec S1x128 32) (v115 : IVec S1x128 32) (v116 : IVec S1x128 32) (X13 : BufTy.Contents (Elt F) arg13.view.ty) (X14 : BufTy.Contents (Elt F) arg14.view.ty) (X15 : BufTy.Contents (Elt F) arg15.view.ty) :
    Gen.LoopInvTy_k0_t3 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v18 v20 v22 v43 v61 v79 v97 v100 v103 v106 v109 v110 c4_i32_48 v112 v115 v116 where
  inv _ _ := iprop((arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg16.view.loc (c : Thread nD τ) ↦[arg16.view.set]{fullShare} f)))
  step k acc := by
    iintro ⟨H13, H14, H15, ⟨%X16, H16⟩⟩
    iapply (trip3 𝒱 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v18 v20 v22 v43 v61 v79 v97 v100 v103 v106 v109 v110 c4_i32_48 v112 v115 v116 k X13 X14 X15 X16)
    isplitl [H13]; · iexact H13
    isplitl [H14]; · iexact H14
    isplitl [H15]; · iexact H15
    iexact H16

end Cert.Kernel.Hand

end
-- ==== Proof.KernelRun.lean ====
/- The body of `Kernel`'s kernel runs, loop by loop. -/
module

public import proofs.«01_k».proof.Proof.KernelTrip1
public import proofs.«01_k».proof.Proof.KernelTrip2
public import proofs.«01_k».proof.Proof.KernelTrip3

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 4000000 in
/-- The body's triple: on whole staging memrefs, the inputs' at their contents and the output's at anything, the
    body runs to the continuation holding the inputs' as they were and the rest at some contents. -/
theorem body_run (c : Dev nD) (i : grid0.Coords) (arg2 : Memref sig .tc .vmem S1x2x128x8x128 .i32) (harg2 : arg2.IsWhole) (arg3 : Memref sig .tc .vmem S1x2x128x8x128 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x32x1x8x128 .bf16) (harg6 : arg6.IsWhole) (arg7 : Memref sig .tc .vmem S1x8x32x1x8x128 .bf16) (harg7 : arg7.IsWhole) (arg8 : Memref sig .tc .vmem S1x8x32x1x8x128 .bf16) (harg8 : arg8.IsWhole) (arg9 : Memref sig .tc .vmem S1x8x32x1x8x128 .bf16) (harg9 : arg9.IsWhole) (arg10 : Memref sig .tc .vmem S1x8x128x8x128 .bf16) (harg10 : arg10.IsWhole) (arg11 : Memref sig .tc .vmem S3072x128 .i32) (harg11 : arg11.IsWhole) (arg12 : Memref sig .tc .vmem S2048x128 .i32) (harg12 : arg12.IsWhole) (arg13 : Memref sig .tc .vmem S2112x128 .i32) (harg13 : arg13.IsWhole) (arg14 : Memref sig .tc .vmem S2112x128 .i32) (harg14 : arg14.IsWhole) (arg15 : Memref sig .tc .vmem S4224x128 .i32) (harg15 : arg15.IsWhole) (arg16 : Memref sig .tc .vmem S4224x128 .i32) (harg16 : arg16.IsWhole)
    (x0 : Vec F S1x2x128x8x128 .i32) (x1 : Vec F S1x2x128x8x128 .i32) (x2 : Vec F S1x8x128 .f32) (x3 : Vec F S1x8x128 .f32) (x4 : Vec F S1x8x32x1x8x128 .bf16) (x5 : Vec F S1x8x32x1x8x128 .bf16) (x6 : Vec F S1x8x32x1x8x128 .bf16) (x7 : Vec F S1x8x32x1x8x128 .bf16) (xt0 : TbBuf0 (F := F) c tbM0_0) :
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := F)) Variants.none c none) Set.univ (cc0_temporal_attn_fp8 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro K
    simp only [cc0_temporal_attn_fp8_eq_skeleton]; unfold cc0_temporal_attn_fp8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.Kernel.Hand

end
-- ==== Proof.KernelFrame.lean ====
/- The frame of `Kernel`: the body obligation at every grid point, the launch, and what it leaves. -/
module

public import proofs.«01_k».proof.Proof.KernelRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_around_T_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget_shared (Q' := _) pcfgs (fun _ => adm m hO) (dats m hO) (0 : Fin 1) launch₀0 defs₀ Variants.none forgets0 T0 m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePostR` over the proof data with those windows
    forgotten, Dat.lean `Dat.toRForget`), and every other unscoped buffer outside `T0` at its region-entry contents. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

/-- The frame: `@main` terminates, its arguments end unchanged, and every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel.Hand

end
-- ==== Proof.Stored.lean ====
/- What a counted loop of stores leaves in a buffer: its state trip by trip, and what that state reads. -/
module

public import Idealize.ShloMosaic.Lib.Writes

@[expose] public section

namespace Cert.Attn

open Idealize.ShloMosaic

variable {sig : RefSig} {κ : Kind} {sp : Space} {s : Shape} {e : EltTy} {Val : EltTy → Type}

/-- The contents after the first `k` of `n` trips, trip `j` storing the pieces `L j`. -/
def stored {n : ℕ} (v : View sig κ sp s e) (L : Fin n → List (View.Piece Val s e)) (X : v.ty.Contents Val) :
    ℕ → v.ty.Contents Val
  | 0 => X
  | k + 1 => if h : k < n then v.writes Val (stored v L X k) (L ⟨k, h⟩) else stored v L X k

theorem stored_succ {n : ℕ} (v : View sig κ sp s e) (L : Fin n → List (View.Piece Val s e)) (X : v.ty.Contents Val)
    (k : Fin n) : stored v L X (k.val + 1) = v.writes Val (stored v L X k.val) (L k) := by
  rw [stored, dif_pos k.isLt]

/-- If every piece agrees with `G` and each trip's pieces cover what it adds to the region `R`, the region reads `G`. -/
theorem read_stored {n : ℕ} (v : View sig κ sp s e) (L : Fin n → List (View.Piece Val s e)) (X : v.ty.Contents Val)
    (G : s.Idx → Val e) (R : ℕ → s.Idx → Prop) (h0 : ∀ y, ¬ R 0 y)
    (hL : ∀ k, ∀ p ∈ L k, ∀ x, p.2 x = G (p.1.emb x))
    (hR : ∀ k : Fin n, ∀ y, R (k.val + 1) y → R k.val y ∨ ∃ p ∈ L k, y ∈ p.1.set) :
    ∀ k, k ≤ n → ∀ y, R k y → v.read Val (stored v L X k) y = G y := by
  intro k
  induction k with
  | zero => exact fun _ y hy => absurd hy (h0 y)
  | succ k ih =>
    intro hk y hy
    rw [stored_succ v L X ⟨k, hk⟩]
    by_cases hm : ∃ p ∈ L ⟨k, hk⟩, y ∈ p.1.set
    · exact View.read_writes_apply_of_pieces v _ G _ (hL _) y hm
    · rw [View.read_writes_apply_of_forall_not_mem v _ y _ (fun p hp hy' => hm ⟨p, hp, hy'⟩)]
      exact ih (by omega) y ((hR ⟨k, hk⟩ y hy).resolve_right hm)

end Cert.Attn
-- ==== Proof.KernelIdealKit.lean ====
/-  The launch kit of `KernelIdeal`: what surrounds the kernel's body

`@main` as host lines, one pallas_call and host lines; what the region finds in each buffer; the prefetched frame counts;
the windows' blocks; the staging and scratch memrefs. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_temporal_attn_fp8 (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v15, main_v16, main_v17}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The buffers the host operations before the region write, as references. -/
def P0 : Finset (Ref sig .tc) := {main_v0, main_v1, main_v2, main_v3, main_v4, main_v5, main_v6, main_v7, main_v8, main_v9, main_v10, main_v11, main_v12, main_v13}
/-- A buffer no host operation before the region writes is found by the region as launched. -/
theorem V_kept (c : Dev nD) (b : Ref sig .tc) (hb : ∀ x ∈ P0, b ≠ x) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (hb _ (by decide))))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- A buffer no host operation at all writes, and no window stages, ends as launched. -/
theorem W_kept (hO : Ok m) (dats : (p : Fin _) → (c : Dev nD) → Dat τ (Elt F) Unit ℕ (UR sig nD τ) ℕ ((Pipeline.pin pcfgs fun _ => adm m hO) p) c) (c : Dev nD)
    (b : Ref sig .tc) (h0 : ∀ x ∈ P0, b ≠ x) (h1 : ∀ x ∈ T0, b ≠ x) (hw : ∀ w, Pipeline.arrRef spec0 w ≠ b) :
    Pipeline.afterTail pcfgs (fun _ => adm m hO) dats 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (h1 _ (by decide)))),
    Pipeline.withArrays_of_ne _ c (V0 m c) _ b (by exact hw)]
  exact V_kept m c b h0

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for ANY proof
    data whose array is `V`'s (`hA`) and whose body leaves the block in place (`hafter`): `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post at any `F`. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0 \ T0)).trans (V_kept m c main_arg0 (by decide)),
      ((h c).2 main_arg1 (by decide : main_arg1 ∈ Pipeline.restRefs sig spec0 \ T0)).trans (V_kept m c main_arg1 (by decide)),
      ((h c).2 main_arg2 (by decide : main_arg2 ∈ Pipeline.restRefs sig spec0 \ T0)).trans (V_kept m c main_arg2 (by decide)),
      ((h c).2 main_arg3 (by decide : main_arg3 ∈ Pipeline.restRefs sig spec0 \ T0)).trans (V_kept m c main_arg3 (by decide)),
      ((h c).2 main_arg4 (by decide : main_arg4 ∈ Pipeline.restRefs sig spec0 \ T0)).trans (V_kept m c main_arg4 (by decide)),
      ((h c).2 main_arg5 (by decide : main_arg5 ∈ Pipeline.restRefs sig spec0 \ T0)).trans (V_kept m c main_arg5 (by decide))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x2x128x8x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x128x8x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x32x1x8x128 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x8x32x1x8x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8x32x1x8x128 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x8x32x1x8x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x8x128x8x128 .bf16 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S3072x128 .i32 := Memref.whole cc0_scratch0
abbrev scM0_1 : Memref sig .tc .vmem S2048x128 .i32 := Memref.whole cc0_scratch1
abbrev scM0_2 : Memref sig .tc .vmem S2112x128 .i32 := Memref.whole cc0_scratch2
abbrev scM0_3 : Memref sig .tc .vmem S2112x128 .i32 := Memref.whole cc0_scratch3
abbrev scM0_4 : Memref sig .tc .vmem S4224x2x128 .bf16 := Memref.whole cc0_scratch4
abbrev scM0_5 : Memref sig .tc .vmem S4224x2x128 .bf16 := Memref.whole cc0_scratch5

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.Words.lean ====
/- Arrays read at natural-number coordinates, and the bytes of a word. -/
module

public import proofs.«01_k».proof.Defs
public import Idealize.ShloMosaic.Lib.Pointwise
public import Idealize.ShloMosaic.Lib.BitcastFour

@[expose] public section

noncomputable section

namespace Cert.Attn

open Idealize.ShloMosaic

/-- An array of rank 2 at natural-number coordinates, each taken modulo its axis. -/
def at2 {α : Type*} {n0 n1 : ℕ} [NeZero n0] [NeZero n1] (A : (⟨2, ![n0, n1]⟩ : Shape).Idx → α) (a b : ℕ) : α :=
  A (ix2 (Fin.ofNat n0 a) (Fin.ofNat n1 b))

/-- An array of rank 3 at natural-number coordinates. -/
def at3 {α : Type*} {n0 n1 n2 : ℕ} [NeZero n0] [NeZero n1] [NeZero n2] (A : (⟨3, ![n0, n1, n2]⟩ : Shape).Idx → α) (a b c : ℕ) : α :=
  A (ix3 (Fin.ofNat n0 a) (Fin.ofNat n1 b) (Fin.ofNat n2 c))

theorem fin_ofNat {n : ℕ} [NeZero n] (a : Fin n) : Fin.ofNat n a.val = a := Fin.ext (Nat.mod_eq_of_lt a.isLt)

theorem at2_ix2 {α : Type*} {n0 n1 : ℕ} [NeZero n0] [NeZero n1] (A : (⟨2, ![n0, n1]⟩ : Shape).Idx → α) (a : Fin n0) (b : Fin n1) :
    A (ix2 a b) = at2 A a.val b.val := by unfold at2; rw [fin_ofNat, fin_ofNat]

theorem at3_ix3 {α : Type*} {n0 n1 n2 : ℕ} [NeZero n0] [NeZero n1] [NeZero n2] (A : (⟨3, ![n0, n1, n2]⟩ : Shape).Idx → α)
    (a : Fin n0) (b : Fin n1) (c : Fin n2) : A (ix3 a b c) = at3 A a.val b.val c.val := by
  unfold at3; rw [fin_ofNat, fin_ofNat, fin_ofNat]

/-- An array of rank 2 at an index is the array at that index's coordinates. -/
theorem at2_of {α : Type*} {n0 n1 : ℕ} [NeZero n0] [NeZero n1] (A : (⟨2, ![n0, n1]⟩ : Shape).Idx → α) (y : (⟨2, ![n0, n1]⟩ : Shape).Idx)
    (a b : ℕ) (ha : (y 0).val = a) (hb : (y 1).val = b) : A y = at2 A a b := by
  subst ha hb
  rw [← at2_ix2 A (y 0) (y 1)]
  exact congrArg A (eq_ix2 y)

theorem at3_of {α : Type*} {n0 n1 n2 : ℕ} [NeZero n0] [NeZero n1] [NeZero n2] (A : (⟨3, ![n0, n1, n2]⟩ : Shape).Idx → α)
    (y : (⟨3, ![n0, n1, n2]⟩ : Shape).Idx) (a b c : ℕ) (ha : (y 0).val = a) (hb : (y 1).val = b) (hc : (y 2).val = c) : A y = at3 A a b c := by
  subst ha hb hc
  rw [← at3_ix3 A (y 0) (y 1) (y 2)]
  exact congrArg A (eq_ix3 y)

theorem at2_congr {α : Type*} {n0 n1 : ℕ} [NeZero n0] [NeZero n1] (A : (⟨2, ![n0, n1]⟩ : Shape).Idx → α) {a b a' b' : ℕ}
    (ha : a = a') (hb : b = b') : at2 A a b = at2 A a' b' := by rw [ha, hb]

theorem at3_congr {α : Type*} {n0 n1 n2 : ℕ} [NeZero n0] [NeZero n1] [NeZero n2] (A : (⟨3, ![n0, n1, n2]⟩ : Shape).Idx → α)
    {a b c a' b' c' : ℕ} (ha : a = a') (hb : b = b') (hc : c = c') : at3 A a b c = at3 A a' b' c' := by rw [ha, hb, hc]

/-- An array of rank 5 at natural-number coordinates. -/
def at5 {α : Type*} {n0 n1 n2 n3 n4 : ℕ} [NeZero n0] [NeZero n1] [NeZero n2] [NeZero n3] [NeZero n4]
    (A : (⟨5, ![n0, n1, n2, n3, n4]⟩ : Shape).Idx → α) (a b c d e : ℕ) : α :=
  A (ix5 (Fin.ofNat n0 a) (Fin.ofNat n1 b) (Fin.ofNat n2 c) (Fin.ofNat n3 d) (Fin.ofNat n4 e))

theorem at5_ix5 {α : Type*} {n0 n1 n2 n3 n4 : ℕ} [NeZero n0] [NeZero n1] [NeZero n2] [NeZero n3] [NeZero n4]
    (A : (⟨5, ![n0, n1, n2, n3, n4]⟩ : Shape).Idx → α) (a : Fin n0) (b : Fin n1) (c : Fin n2) (d : Fin n3) (e : Fin n4) :
    A (ix5 a b c d e) = at5 A a b c d e := by
  unfold at5; simp only [fin_ofNat]

theorem at5_of {α : Type*} {n0 n1 n2 n3 n4 : ℕ} [NeZero n0] [NeZero n1] [NeZero n2] [NeZero n3] [NeZero n4]
    (A : (⟨5, ![n0, n1, n2, n3, n4]⟩ : Shape).Idx → α) (y : (⟨5, ![n0, n1, n2, n3, n4]⟩ : Shape).Idx) (a b c d e : ℕ)
    (ha : (y 0).val = a) (hb : (y 1).val = b) (hc : (y 2).val = c) (hd : (y 3).val = d) (he : (y 4).val = e) : A y = at5 A a b c d e := by
  subst ha hb hc hd he
  rw [← at5_ix5 A (y 0) (y 1) (y 2) (y 3) (y 4)]
  exact congrArg A (eq_ix5 y)

/-- An array of rank 6 at natural-number coordinates. -/
def at6 {α : Type*} {n0 n1 n2 n3 n4 n5 : ℕ} [NeZero n0] [NeZero n1] [NeZero n2] [NeZero n3] [NeZero n4] [NeZero n5]
    (A : (⟨6, ![n0, n1, n2, n3, n4, n5]⟩ : Shape).Idx → α) (a b c d e f : ℕ) : α :=
  A (ix6 (Fin.ofNat n0 a) (Fin.ofNat n1 b) (Fin.ofNat n2 c) (Fin.ofNat n3 d) (Fin.ofNat n4 e) (Fin.ofNat n5 f))

theorem at6_ix6 {α : Type*} {n0 n1 n2 n3 n4 n5 : ℕ} [NeZero n0] [NeZero n1] [NeZero n2] [NeZero n3] [NeZero n4] [NeZero n5]
    (A : (⟨6, ![n0, n1, n2, n3, n4, n5]⟩ : Shape).Idx → α) (a : Fin n0) (b : Fin n1) (c : Fin n2) (d : Fin n3) (e : Fin n4) (f : Fin n5) :
    A (ix6 a b c d e f) = at6 A a b c d e f := by
  unfold at6; simp only [fin_ofNat]

theorem at6_of {α : Type*} {n0 n1 n2 n3 n4 n5 : ℕ} [NeZero n0] [NeZero n1] [NeZero n2] [NeZero n3] [NeZero n4] [NeZero n5]
    (A : (⟨6, ![n0, n1, n2, n3, n4, n5]⟩ : Shape).Idx → α) (y : (⟨6, ![n0, n1, n2, n3, n4, n5]⟩ : Shape).Idx) (a b c d e f : ℕ)
    (ha : (y 0).val = a) (hb : (y 1).val = b) (hc : (y 2).val = c) (hd : (y 3).val = d) (he : (y 4).val = e) (hf : (y 5).val = f) :
    A y = at6 A a b c d e f := by
  subst ha hb hc hd he hf
  rw [← at6_ix6 A (y 0) (y 1) (y 2) (y 3) (y 4) (y 5)]
  exact congrArg A (eq_ix6 y)

/-- Byte `j` of a word, the low byte first. -/
def byte (w : BitVec 32) (j : ℕ) : BitVec 8 := w.extractLsb' (8 * j) 8

/-- The number that byte `j` of a word stands for as an f8 code. -/
def f8 (w : BitVec 32) (j : ℕ) : EReal := Ideal.ofBits .fp8e4m3 (byte w j)

/-- Words read as bytes, four rows a word: row `p` is byte `p % 4` of word row `p / 4`. -/
theorem bitcast_bytes {R r n : ℕ} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byte (x (ix2 a l)) (p.val % 4) := by
  apply BitVec.eq_of_getLsbD_eq
  intro q hq
  rw [bitcast_getLsbD x h _ q hq (by decide)]
  have hrow : (⟨2, ![R, n]⟩ : Shape).row (ix2 p l) = p.val := rfl
  rw [byte, BitVec.getLsbD_extractLsb']
  simp only [hq, decide_true, Bool.true_and]
  have e1 : ((⟨2, ![R, n]⟩ : Shape).row (ix2 p l) * 8 + q) % 32 = 8 * (p.val % 4) + q := by rw [hrow]; omega
  rw [e1]
  congr 2
  funext c
  match c with
  | ⟨0, _⟩ => exact Fin.ext ((h.srcIdx_row _ _ _ ⟨0, Nat.zero_lt_two⟩ rfl).trans (by rw [hrow]; show _ = a.val; omega))
  | ⟨1, _⟩ => exact Fin.ext (h.srcIdx_other _ _ _ ⟨1, Nat.one_lt_two⟩ (by show ¬ 1 + 2 = 2; omega))

end Cert.Attn

end
-- ==== Proof.Gather.lean ====
/- What the gathering loop stores in one trip, as lists of pieces of the two word arrays it reads. -/
module

public import proofs.«01_k».proof.Proof.KernelIdealKit
public import proofs.«01_k».proof.Proof.Words

@[expose] public section

noncomputable section

namespace Cert.KernelIdeal.Val

open Cert.KernelIdeal Cert.KernelIdeal.Gen Cert.Attn
open Idealize.ShloMosaic Idealize.ShloMosaic.TcCoe Idealize.ShloMosaic.Tactic

variable {F : FTy → Type} [FloatOps F] [Named F]

/-- The even bytes of two words, interleaved. -/
def evens (w0 w1 : BitVec 32) : BitVec 32 :=
  IntOp.ori (IntOp.andi w0 16711935#32) (IntOp.shli .vector (IntOp.andi w1 16711935#32) 8#32)

/-- The odd bytes of two words, interleaved. -/
def odds (w0 w1 : BitVec 32) : BitVec 32 :=
  IntOp.ori (IntOp.andi (IntOp.shrsi .vector w0 8#32) 16711935#32) (IntOp.andi w1 (Scalar.xori 16711935#32 4294967295#32))

/-- The word of byte `j` of each of four words. -/
def gather (j : Fin 4) (w0 w1 w2 w3 : BitVec 32) : BitVec 32 :=
  match j with
  | 0 => IntOp.ori (IntOp.andi (evens w0 w1) 65535#32) (IntOp.shli .vector (evens w2 w3) 16#32)
  | 1 => IntOp.ori (IntOp.andi (odds w0 w1) 65535#32) (IntOp.shli .vector (odds w2 w3) 16#32)
  | 2 => IntOp.ori (IntOp.shrui .vector (evens w0 w1) 16#32) (IntOp.andi (evens w2 w3) (Scalar.xori 65535#32 4294967295#32))
  | 3 => IntOp.ori (IntOp.shrui .vector (odds w0 w1) 16#32) (IntOp.andi (odds w2 w3) (Scalar.xori 65535#32 4294967295#32))

variable (k : Fin k0_t1_loop.trips) (B : S1x2x128x8x128.Idx → Elt F .i32)

/-- The eight rows of words of token tile `16 k + 4 j + 2 p + u` and half `a`, as one load gives them. -/
def wordRows (a : Fin 2) (j : Fin 4) (p u : Fin 2) : Vec F S1x1x1x8x128 .i32 :=
  match a with
  | 0 => fun x => B ((Rect.unit (s := S1x2x128x8x128) (k0_off2 k (BitVec.ofNat 32 j.val) (BitVec.ofNat 32 (2 * p.val)) (BitVec.ofNat 32 u.val))
      S1x1x1x8x128.size (k0_off2_inb k j p u)).toLoadRect.idx x)
  | 1 => fun x => B ((Rect.unit (s := S1x2x128x8x128) (k0_off4 k (BitVec.ofNat 32 j.val) (BitVec.ofNat 32 (2 * p.val)) (BitVec.ofNat 32 u.val))
      S1x1x1x8x128.size (k0_off4_inb k j p u)).toLoadRect.idx x)

def words (a : Fin 2) (j : Fin 4) (p u : Fin 2) : Vec F S8x128 .i32 :=
  shapeCast S8x128 (wordRows k B a j p u) shapeCasts_S1x1x1x8x128_S8x128

/-- Where the query words of tile `16 k + 4 j + 2 p + u` and half `a` go. -/
abbrev qaRect (a : Fin 2) (j : Fin 4) (p u : Fin 2) : Rect S3072x128 :=
  (Rect.unit (s := S3072x128) (k0_off3 k (BitVec.ofNat 32 (128 * a.val)) (BitVec.ofNat 32 j.val) (BitVec.ofNat 32 (2 * p.val))) S24x128.size
    (k0_off3_inb k a j p)).within
    (Rect.unit (s := S24x128) ![12 * u.val, 0] S8x128.size (Fin.forall_fin_two.2 ⟨by show 12 * u.val + 8 ≤ 24; omega, by show 0 + 128 ≤ 128; omega⟩))
    (fun _ => rfl)

def qaPiece (a : Fin 2) (j : Fin 4) (p u : Fin 2) : View.Piece (Elt F) S3072x128 .i32 :=
  ⟨qaRect k a j p u, shapeCast S8x128 (words k B a j p u) shapeCasts_S8x128_S8x128⟩

/-- Where byte `j` of the key words of chunk `2 p + u` and half `a` goes. -/
abbrev kaRect (a p u : Fin 2) (j : Fin 4) : Rect S2048x128 :=
  (Rect.unit (s := S2048x128) (k0_off5 k (BitVec.ofNat 32 (2 * p.val)) (BitVec.ofNat 32 u.val) (BitVec.ofNat 32 (32 * a.val))) S32x128.size
    (k0_off5_inb k p u a)).within
    { off := ![j.val, 0], size := S8x128.size, stride := ![4, 1],
      inb := Fin.forall_fin_two.2 ⟨.inr (by show j.val + 4 * (8 - 1) < 32; omega), .inr (by show 0 + 1 * (128 - 1) < 128; omega)⟩,
      stride_pos := Fin.forall_fin_two.2 ⟨by show 0 < 4; omega, by show 0 < 1; omega⟩ }
    (fun _ => rfl)

def kaPiece (a p u : Fin 2) (j : Fin 4) : View.Piece (Elt F) S2048x128 .i32 :=
  ⟨kaRect k a p u j, shapeCast S8x128
    (fun y => gather j (words k B a 0 p u y) (words k B a 1 p u y) (words k B a 2 p u y) (words k B a 3 p u y)) shapeCasts_S8x128_S8x128⟩

/-- All the query words that one trip stores, the last store first. -/
def qaPieces : List (View.Piece (Elt F) S3072x128 .i32) :=
  (List.ofFn fun p : Fin 2 => (List.ofFn fun j : Fin 4 => (List.ofFn fun a : Fin 2 => List.ofFn fun u : Fin 2 =>
    qaPiece k B a.rev j.rev p.rev u.rev).flatten).flatten).flatten

/-- All the key words that one trip stores, the last store first. -/
def kaPieces : List (View.Piece (Elt F) S2048x128 .i32) :=
  (List.ofFn fun p : Fin 2 => (List.ofFn fun a : Fin 2 => (List.ofFn fun u : Fin 2 => List.ofFn fun j : Fin 4 =>
    kaPiece k B a.rev p.rev u.rev j.rev).flatten).flatten).flatten

end Cert.KernelIdeal.Val

end
-- ==== Proof.KernelIdealLoop1.lean ====
/- The gathering loop of `KernelIdeal`'s kernel with what it stores. -/
module

public import proofs.«01_k».proof.Proof.KernelIdealKit
public import proofs.«01_k».proof.Proof.Gather
public import proofs.«01_k».proof.Proof.Gen.KernelIdeal.Loops

@[expose] public section

set_option maxRecDepth 16384

noncomputable section

namespace Cert.KernelIdeal.Val

open Cert.KernelIdeal Cert.KernelIdeal.Gen Cert.KernelIdeal.Hand Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x2x128 .bf16) (harg15 : arg15.IsWhole)
  (arg16 : Memref sig .tc .vmem S4224x2x128 .bf16) (harg16 : arg16.IsWhole)

set_option warn.classDefReducibility false

/-- One trip of the loop that gathers the query words and interleaves the key words, four frames a trip. -/
theorem trip1  (k : Fin k0_t1_loop.trips) (X2 : BufTy.Contents (Elt F) arg2.view.ty) (X3 : BufTy.Contents (Elt F) arg3.view.ty) (X11 : BufTy.Contents (Elt F) arg11.view.ty) (X12 : BufTy.Contents (Elt F) arg12.view.ty) :
    (iprop((arg2.view.loc (c : Thread nD τ) ↦[arg2.view.set]{fullShare} X2) ∗ (arg3.view.loc (c : Thread nD τ) ↦[arg3.view.set]{fullShare} X3) ∗ (arg11.view.loc (c : Thread nD τ) ↦[arg11.view.set]{fullShare} X11) ∗ (arg12.view.loc (c : Thread nD τ) ↦[arg12.view.set]{fullShare} X12)) : sProp 𝕄)
      ⊢ wp Idealize.ShloMosaic.frame (wpE (defs₀ (F := F)) 𝒱 (c : Thread nD τ) none) Set.univ (Gen.k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k ())
        (fun _ => iprop((arg2.view.loc (c : Thread nD τ) ↦[arg2.view.set]{fullShare} X2) ∗ (arg3.view.loc (c : Thread nD τ) ↦[arg3.view.set]{fullShare} X3) ∗ (∃ L, (arg11.view.loc (c : Thread nD τ) ↦[arg11.view.set]{fullShare} arg11.view.writes (Elt F) X11 L) ∗ ⌜L = qaPieces k (arg2.view.read (Elt F) X2)⌝) ∗ (∃ L, (arg12.view.loc (c : Thread nD τ) ↦[arg12.view.set]{fullShare} arg12.view.writes (Elt F) X12 L) ∗ ⌜L = kaPieces k (arg3.view.read (Elt F) X3)⌝))) := by
  unfold Gen.k0_t1_body
  iintro ⟨H2, H3, H11, H12⟩
  sl_exec_parts
  sl_step
  isplitl [H2]; · iexact H2
  isplitl [H3]; · iexact H3
  isplitl [H11]
  · iexists _
    isplitl [H11]; · iexact H11
    ipureintro
    rfl
  · iexists _
    isplitl [H12]; · iexact H12
    ipureintro
    rfl

end Cert.KernelIdeal.Val

end
-- ==== Proof.Repack.lean ====
/- What the transposing loop and the output loop store in one trip, as lists of pieces of the arrays they read. -/
module

public import proofs.«01_k».proof.Proof.KernelIdealKit
public import proofs.«01_k».proof.Proof.Words

@[expose] public section

noncomputable section

namespace Cert.KernelIdeal.Val

open Cert.KernelIdeal Cert.KernelIdeal.Gen Cert.Attn
open Idealize.ShloMosaic Idealize.ShloMosaic.TcCoe Idealize.ShloMosaic.Tactic

variable {F : FTy → Type} [FloatOps F] [Named F]

section
variable (k : Fin k0_t2_loop.trips) (A11 : S3072x128.Idx → Elt F .i32) (A12 : S2048x128.Idx → Elt F .i32)
  (B6 B7 B8 B9 : S1x8x32x1x8x128.Idx → Elt F .bf16)

/-- Where the `s`-th transposed block of words of a trip goes. -/
abbrev tRect (s : Fin 8) : Rect S2112x128 :=
  (Rect.unit (s := S2112x128) (k0_off7 k) S1056x128.size (k0_off7_inb k)).within
    (Rect.unit (s := S1056x128) ![132 * s.val, 0] S128x128.size
      (Fin.forall_fin_two.2 ⟨by show 132 * s.val + 128 ≤ 1056; omega, by show 0 + 128 ≤ 128; omega⟩)) (fun _ => rfl)

/-- The query words of channels `32 k + 4 s` and on, one row a token tile. -/
def qaRows (s : Fin 8) : Vec F S128x128 .i32 := fun x =>
  A11 (((Rect.unit (s := S3072x128) (k0_off6 k) S1536x128.size (k0_off6_inb k)).withinL
    (⟨![s.val, 0], S128x128.size, ![12, 1],
      Fin.forall_fin_two.2 ⟨.inr (by show s.val + 12 * (128 - 1) < 1536; omega), .inr (by show 0 + 1 * (128 - 1) < 128; omega)⟩⟩ : LoadRect S1536x128)
    (fun _ => rfl)).idx x)

/-- The key words of rows `1024 k + 128 s` and on. -/
def kaRows (s : Fin 8) : Vec F S128x128 .i32 := fun x =>
  A12 (((Rect.unit (s := S2048x128) (k0_off8 k) S1024x128.size (k0_off8_inb k)).withinL
    (Rect.unit (s := S1024x128) ![128 * s.val, 0] S128x128.size
      (Fin.forall_fin_two.2 ⟨by show 128 * s.val + 128 ≤ 1024; omega, by show 0 + 128 ≤ 128; omega⟩)).toLoadRect (fun _ => rfl)).idx x)

def qtPiece (s : Fin 8) : View.Piece (Elt F) S2112x128 .i32 := ⟨tRect k s, k0_pay183 (qaRows k A11 s)⟩
def ktPiece (s : Fin 8) : View.Piece (Elt F) S2112x128 .i32 := ⟨tRect k s, k0_pay184 (kaRows k A12 s)⟩

/-- Where the pair of value channels `2 (16 k + w)` starts in a chunk's block. -/
def vOff (w : Fin 16) : Fin 6 → ℕ :=
  match w.val with
  | 0 => k0_off10 k | 1 => k0_off12 k | 2 => k0_off13 k | 3 => k0_off14 k
  | 4 => k0_off15 k | 5 => k0_off16 k | 6 => k0_off17 k | 7 => k0_off18 k
  | 8 => k0_off19 k | 9 => k0_off20 k | 10 => k0_off21 k | 11 => k0_off22 k
  | 12 => k0_off23 k | 13 => k0_off24 k | 14 => k0_off25 k | _ => k0_off26 k

theorem vOff_eq (w : Fin 16) : vOff k w = ![0, 4 * k.val + w.val / 4, 0, 0, 2 * (w.val % 4), 0] := by
  revert k w; decide +kernel

theorem vOff_inb (w : Fin 16) : ∀ a, vOff k w a + S1x1x32x1x2x128.size a ≤ S1x8x32x1x8x128.size a := by
  revert k w; decide +kernel

/-- A pair of value channels of one chunk over the frames. -/
def vRows (w : Fin 16) (B : S1x8x32x1x8x128.Idx → Elt F .bf16) : Vec F S1x1x32x1x2x128 .bf16 := fun x =>
  B ((Rect.unit (s := S1x8x32x1x8x128) (vOff k w) S1x1x32x1x2x128.size (vOff_inb k w)).toLoadRect.idx x)

/-- Where the `w`-th pair of value channels of a trip goes. -/
abbrev vtRect (w : Fin 16) : Rect S4224x2x128 :=
  (Rect.unit (s := S4224x2x128) (k0_off11 k) S2112x2x128.size (k0_off11_inb k)).within
    (Rect.unit (s := S2112x2x128) ![132 * w.val, 0, 0] S128x2x128.size
      (fun a => match a with
        | 0 => by show 132 * w.val + 128 ≤ 2112; omega
        | 1 => by show 0 + 2 ≤ 2; omega
        | 2 => by show 0 + 128 ≤ 128; omega)) (fun _ => rfl)

def vtPiece (w : Fin 16) : View.Piece (Elt F) S4224x2x128 .bf16 :=
  ⟨vtRect k w, k0_pay187 (k0_pay185 (vRows k w B6) (vRows k w B7) (vRows k w B8) (vRows k w B9))
    (k0_pay186 (vRows k w B6) (vRows k w B7) (vRows k w B8) (vRows k w B9))⟩

/-- All that one trip stores into each array, the last store first. -/
def qtPieces : List (View.Piece (Elt F) S2112x128 .i32) := List.ofFn fun s : Fin 8 => qtPiece k A11 s.rev
def ktPieces : List (View.Piece (Elt F) S2112x128 .i32) := List.ofFn fun s : Fin 8 => ktPiece k A12 s.rev
def vtPieces : List (View.Piece (Elt F) S4224x2x128 .bf16) := List.ofFn fun w : Fin 16 => vtPiece k B6 B7 B8 B9 w.rev
end

section
variable (k : Fin k0_t4_loop.trips) (A16 : S4224x2x128.Idx → Elt F .bf16)

/-- Where the `w`-th pair of channels of a trip goes in the output block. -/
def oOff (w : Fin 8) : Fin 5 → ℕ :=
  match w.val with
  | 0 => k0_off31 k | 1 => k0_off32 k | 2 => k0_off33 k | 3 => k0_off34 k
  | 4 => k0_off35 k | 5 => k0_off36 k | 6 => k0_off37 k | _ => k0_off38 k

theorem oOff_eq (w : Fin 8) : oOff k w = ![0, 2 * k.val + w.val / 4, 0, 2 * (w.val % 4), 0] := by
  revert k w; decide +kernel

theorem oOff_inb (w : Fin 8) : ∀ a, oOff k w a + S1x1x128x2x128.size a ≤ S1x8x128x8x128.size a := by
  revert k w; decide +kernel

/-- The `w`-th pair of channels of a trip, pixel by column. -/
def otRows (w : Fin 8) : Vec F S128x2x128 .bf16 := fun x =>
  A16 (((Rect.unit (s := S4224x2x128) (k0_off29 k) S1056x2x128.size (k0_off29_inb k)).withinL
    (Rect.unit (s := S1056x2x128) ![132 * w.val, 0, 0] S128x2x128.size
      (fun a => match a with
        | 0 => by show 132 * w.val + 128 ≤ 1056; omega
        | 1 => by show 0 + 2 ≤ 2; omega
        | 2 => by show 0 + 128 ≤ 128; omega)).toLoadRect (fun _ => rfl)).idx x)

abbrev oRect (w : Fin 8) : Rect S1x8x128x8x128 := Rect.unit (s := S1x8x128x8x128) (oOff k w) S1x1x128x2x128.size (oOff_inb k w)

def oPiece (w : Fin 8) : View.Piece (Elt F) S1x8x128x8x128 .bf16 := ⟨oRect k w, k0_pay668 (otRows k A16 w)⟩

def oPieces : List (View.Piece (Elt F) S1x8x128x8x128 .bf16) := List.ofFn fun w : Fin 8 => oPiece k A16 w.rev
end

end Cert.KernelIdeal.Val

end
-- ==== Proof.KernelIdealLoop2.lean ====
/- One trip of the transposing loop of `KernelIdeal`'s kernel with what it stores. -/
module

public import proofs.«01_k».proof.Proof.KernelIdealKit
public import proofs.«01_k».proof.Proof.Repack
public import proofs.«01_k».proof.Proof.Gen.KernelIdeal.Loops

@[expose] public section

set_option maxRecDepth 16384

noncomputable section

namespace Cert.KernelIdeal.Val

open Cert.KernelIdeal Cert.KernelIdeal.Gen Cert.KernelIdeal.Hand Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x2x128 .bf16) (harg15 : arg15.IsWhole)
  (arg16 : Memref sig .tc .vmem S4224x2x128 .bf16) (harg16 : arg16.IsWhole)

set_option warn.classDefReducibility false

/-- One trip of the loop that transposes queries, keys and values into pixel-major order. -/
theorem trip2  (k : Fin k0_t2_loop.trips) (X6 : BufTy.Contents (Elt F) arg6.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    (iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)) : sProp 𝕄)
      ⊢ wp Idealize.ShloMosaic.frame (wpE (defs₀ (F := F)) 𝒱 (c : Thread nD τ) none) Set.univ (Gen.k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k ())
        (fun _ => iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ L, (arg13.view.loc (c : Thread nD τ) ↦[arg13.view.set]{fullShare} arg13.view.writes (Elt F) X13 L) ∗ ⌜L = qtPieces k (arg11.view.read (Elt F) X11)⌝) ∗ (∃ L, (arg14.view.loc (c : Thread nD τ) ↦[arg14.view.set]{fullShare} arg14.view.writes (Elt F) X14 L) ∗ ⌜L = ktPieces k (arg12.view.read (Elt F) X12)⌝) ∗ (∃ L, (arg15.view.loc (c : Thread nD τ) ↦[arg15.view.set]{fullShare} arg15.view.writes (Elt F) X15 L) ∗ ⌜L = vtPieces k (arg6.view.read (Elt F) X6) (arg7.view.read (Elt F) X7) (arg8.view.read (Elt F) X8) (arg9.view.read (Elt F) X9)⌝))) := by
  unfold Gen.k0_t2_body
  iintro ⟨H6, H7, H8, H9, H11, H12, H13, H14, H15⟩
  sl_exec_parts
  sl_step
  isplitl [H6]; · iexact H6
  isplitl [H7]; · iexact H7
  isplitl [H8]; · iexact H8
  isplitl [H9]; · iexact H9
  isplitl [H11]; · iexact H11
  isplitl [H12]; · iexact H12
  isplitl [H13]
  · iexists _
    isplitl [H13]; · iexact H13
    ipureintro
    rfl
  isplitl [H14]
  · iexists _
    isplitl [H14]; · iexact H14
    ipureintro
    rfl
  · iexists _
    isplitl [H15]; · iexact H15
    ipureintro
    rfl

end Cert.KernelIdeal.Val

end
-- ==== Proof.Pixel.lean ====
/- What the attention loop computes for one pixel of each chunk, as a term of the three word arrays it reads: the loop's body is this
   term sixteen times. -/
module

public import proofs.«01_k».proof.Proof.KernelIdealKit

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The eight rows `n, n + 132, …` of the query words, from the trip's first row. -/
abbrev qRect (k : Fin k0_t3_loop.trips) (n : ℕ) (hn : n < 1072) : LoadRect S2112x128 :=
  (Rect.unit (s := S2112x128) (k0_off27 k) S1996x128.size (k0_off27_inb k)).withinL
    { off := ![n, 0], size := S8x128.size, stride := ![132, 1],
      inb := Fin.forall_fin_two.2 ⟨.inr (by show n + 132 * (8 - 1) < 1996; omega), .inr (by show 0 + 1 * (128 - 1) < 128; omega)⟩ } (fun _ => rfl)

/-- The eight rows `n, n + 264, …` of the key words, from the trip's first row. -/
abbrev kRect (k : Fin k0_t3_loop.trips) (n : ℕ) (hn : n < 148) : LoadRect S2112x128 :=
  (Rect.unit (s := S2112x128) (k0_off27 k) S1996x128.size (k0_off27_inb k)).withinL
    { off := ![n, 0], size := S8x128.size, stride := ![264, 1],
      inb := Fin.forall_fin_two.2 ⟨.inr (by show n + 264 * (8 - 1) < 1996; omega), .inr (by show 0 + 1 * (128 - 1) < 128; omega)⟩ } (fun _ => rfl)

/-- The eight pairs of rows `n, n + 132, …` of the values, and of the results, from the trip's first row. -/
abbrev vRect (n : ℕ) (hn : n < 3184) : Rect S4108x2x128 :=
  { off := ![n, 0, 0], size := S8x2x128.size, stride := ![132, 1, 1],
    inb := fun a => match a with
      | 0 => .inr (by show n + 132 * (8 - 1) < 4108; omega)
      | 1 => .inr (by show 0 + 1 * (2 - 1) < 2; omega)
      | 2 => .inr (by show 0 + 1 * (128 - 1) < 128; omega)
    stride_pos := spos_132_1_1 }

/-- `vRect` in the whole array. -/
abbrev vRectIn (k : Fin k0_t3_loop.trips) (n : ℕ) (hn : n < 3184) : Rect S4224x2x128 :=
  (Rect.unit (s := S4224x2x128) (k0_off28 k) S4108x2x128.size (k0_off28_inb k)).within (vRect n hn) (fun _ => rfl)

section
variable (k : Fin k0_t3_loop.trips) (A13 A14 : S2112x128.Idx → Elt F .i32) (A15 : S4224x2x128.Idx → Elt F .bf16)
  (v100 v103 v106 v109 : IVec S8x128 32)

def qL (n : ℕ) (hn : n < 1072) : Vec F S8x128 .i32 := fun x => A13 ((qRect k n hn).idx x)
def kL (n : ℕ) (hn : n < 148) : Vec F S8x128 .i32 := fun x => A14 ((kRect k n hn).idx x)
def vL (n : ℕ) (hn : n < 3184) : Vec F S8x2x128 .bf16 := fun x =>
  A15 (((Rect.unit (s := S4224x2x128) (k0_off28 k) S4108x2x128.size (k0_off28_inb k)).withinL (vRect n hn).toLoadRect (fun _ => rfl)).idx x)

/-- The queries of pixel `u` of the trip, masked by chunk: row `c * 64 + d`. -/
def qRhs (u : ℕ) (hu : u < 16) : FVec F S256x128 .fp8e4m3 :=
  k0_pay285 v100 v103 v106 v109 (qL k A13 u (by omega)) (qL k A13 (u + 1056) (by omega))

/-- The keys of pixel `u` of the trip: column `c * 64 + d`. -/
def kLhs (u : ℕ) (hu : u < 16) : FVec F S32x256 .fp8e4m3 :=
  k0_pay286 (kL k A14 u (by omega)) (kL k A14 (u + 132) (by omega))

/-- The one product of two pixels. -/
def pairDot (u : ℕ) (hu : u < 15) : FVec F S64x256 .f32 :=
  matmul dot_S64x256_S256x256_S64x256_1_0_0_1_n_n none
    (concatenate S64x256 0 [⟨S32x256, kLhs k A14 u (by omega)⟩, ⟨S32x256, kLhs k A14 (u + 1) (by omega)⟩] concatenates_S32x256_S32x256_S64x256_d0)
    (concatenate S256x256 1 [⟨S256x128, qRhs k A13 v100 v103 v106 v109 u (by omega)⟩, ⟨S256x128, qRhs k A13 v100 v103 v106 v109 (u + 1) (by omega)⟩]
      concatenates_S256x128_S256x128_S256x256_d1)
    (constant S64x256 .f32 0x00000000#32)

/-- The values of pixel `u`: row `d`. -/
def vLhs (u : ℕ) (hu : u < 16) : FVec F S64x128 .bf16 :=
  concatenate S64x128 0 [⟨S16x128, k0_pay300 (vL k A15 u (by omega))⟩, ⟨S16x128, k0_pay300 (vL k A15 (u + 1056) (by omega))⟩,
    ⟨S16x128, k0_pay300 (vL k A15 (u + 2112) (by omega))⟩, ⟨S16x128, k0_pay300 (vL k A15 (u + 3168) (by omega))⟩]
    concatenates_S16x128_S16x128_S16x128_S16x128_S64x128_d0
end

/-- The softmax of one pixel's products: row `g`, column `4 f + c`. -/
def probs (v136 : IVec S1x128 1) (v139 : IVec S32x128 1) (v143 : FVec F S1x128 .f32) (v199 : FVec F S32x128 .f32) : FVec F S32x128 .bf16 :=
  have v201 : FVec F S32x128 .f32 := select v139 v199 (broadcast S32x128 (Scalar.ofBits .f32 0xFF800000#32))
  have v202 : FVec F S128 .f32 := multiReduction .maximumf [0] S128 v201 0xFF800000#32 reduces_S32x128_S128 (.inl rfl) rfl
  have v205 : FVec F S32x128 .f32 := subf v201 (broadcastTo S32x128 (shapeCast S1x128 v202 shapeCasts_S128_S1x128) broadcasts_S1x128_S32x128)
  have v208 : FVec F S32x128 .f32 := exp2 (mulf v205 (broadcastTo S32x128 v143 broadcasts_S1x128_S32x128))
  have v209 : FVec F S128 .f32 := multiReduction .add [0] S128 v208 0x00000000#32 reduces_S32x128_S128 (.inl rfl) rfl
  have v212 : FVec F S1x128 .f32 := divf (broadcast S1x128 (Scalar.ofBits .f32 0x3F800000#32)) (shapeCast S1x128 v209 shapeCasts_S128_S1x128)
  have v214 : FVec F S1x128 .f32 := select v136 v212 (broadcast S1x128 (Scalar.ofBits .f32 0x00000000#32))
  truncf .bf16 (mulf v208 (broadcastTo S32x128 v214 broadcasts_S1x128_S32x128)) bitsLt_bf16_f32

/-- Eight word rows of one half of the probabilities, where the column's chunk is the mask's. -/
def pPart0 (v43 : IVec S8x128 1) (h : FVec F S16x128 .bf16) : FVec F S8x128 .bf16 :=
  select v43 (extractStridedSlice S8x128 ![0, 0] h slices_S16x128_o0_0_S8x128) (constant S8x128 .bf16 0x0000#16)
def pPart8 (v43 : IVec S8x128 1) (h : FVec F S16x128 .bf16) : FVec F S8x128 .bf16 :=
  select v43 (extractStridedSlice S8x128 ![8, 0] h slices_S16x128_o8_0_S8x128) (constant S8x128 .bf16 0x0000#16)

/-- One half of the probabilities, masked by chunk. -/
def pHalf (v43 v61 v79 v97 : IVec S8x128 1) (h : FVec F S16x128 .bf16) : FVec F S64x128 .bf16 :=
  concatenate S64x128 0 [⟨S8x128, pPart0 v43 h⟩, ⟨S8x128, pPart8 v43 h⟩, ⟨S8x128, pPart0 v61 h⟩, ⟨S8x128, pPart8 v61 h⟩,
    ⟨S8x128, pPart0 v79 h⟩, ⟨S8x128, pPart8 v79 h⟩, ⟨S8x128, pPart0 v97 h⟩, ⟨S8x128, pPart8 v97 h⟩]
    concatenates_S8x128_S8x128_S8x128_S8x128_S8x128_S8x128_S8x128_S8x128_S64x128_d0

/-- The probabilities masked by chunk: row `c * 32 + g`. -/
def pRhs (v43 v61 v79 v97 : IVec S8x128 1) (pr : FVec F S32x128 .bf16) : FVec F S128x128 .bf16 :=
  interleaveRows S128x128 (pHalf v43 v61 v79 v97 (rowsOfParity 0 S16x128 pr bitcasts_S32x128_w16_S16x128_w32))
    (pHalf v43 v61 v79 v97 (rowsOfParity 1 S16x128 pr bitcasts_S32x128_w16_S16x128_w32)) bitcasts_S128x128_w16_S64x128_w32

/-- The attention of one pixel: row `d`. -/
def attnOut (lhs : FVec F S64x128 .bf16) (rhs : FVec F S128x128 .bf16) : FVec F S64x128 .bf16 :=
  truncf .bf16 (matmul dot_S64x128_S128x128_S64x128_1_0_0_1_n_n none lhs rhs (constant S64x128 .f32 0x00000000#32)) bitsLt_bf16_f32

/-- Rows `16 i` to `16 i + 15` of the attention as eight pairs of rows. -/
def outPart (off : Fin 2 → ℕ) (h : S32x128.Slices off S8x128) (o : FVec F S64x128 .bf16) : Vec F S8x2x128 .bf16 :=
  interleaveRows S8x2x128
    (shapeCast S8x1x128 (extractStridedSlice S8x128 off (rowsOfParity 0 S32x128 o bitcasts_S64x128_w16_S32x128_w32) h) shapeCasts_S8x128_S8x1x128)
    (shapeCast S8x1x128 (extractStridedSlice S8x128 off (rowsOfParity 1 S32x128 o bitcasts_S64x128_w16_S32x128_w32) h) shapeCasts_S8x128_S8x1x128)
    bitcasts_S8x2x128_w16_S8x1x128_w32

section
variable (k : Fin k0_t3_loop.trips) (A13 A14 : S2112x128.Idx → Elt F .i32) (A15 : S4224x2x128.Idx → Elt F .bf16)
  (v43 v61 v79 v97 : IVec S8x128 1) (v100 v103 v106 v109 : IVec S8x128 32)
  (v136 : IVec S1x128 1) (v139 : IVec S32x128 1) (v143 : FVec F S1x128 .f32)

/-- The attention of pixel `u` of the trip, `s` its products. -/
def pixel (s : FVec F S32x128 .f32) (u : ℕ) (hu : u < 16) : FVec F S64x128 .bf16 :=
  attnOut (vLhs k A15 u hu) (pRhs v43 v61 v79 v97 (probs v136 v139 v143 s))

/-- Pixel `2 w` of the trip: the first of a pair. -/
def pixelFst (w : Fin 8) : FVec F S64x128 .bf16 :=
  pixel k A15 v43 v61 v79 v97 v136 v139 v143
    (extractStridedSlice S32x128 ![0, 0] (pairDot k A13 A14 v100 v103 v106 v109 (2 * w) (by omega)) slices_S64x256_o0_0_S32x128) (2 * w) (by omega)

/-- Pixel `2 w + 1` of the trip: the second of a pair. -/
def pixelSnd (w : Fin 8) : FVec F S64x128 .bf16 :=
  pixel k A15 v43 v61 v79 v97 v136 v139 v143
    (extractStridedSlice S32x128 ![32, 128] (pairDot k A13 A14 v100 v103 v106 v109 (2 * w) (by omega)) slices_S64x256_o32_128_S32x128) (2 * w + 1) (by omega)

/-- The piece of the result that pixel `2 w` (`fst`) or `2 w + 1` of a trip stores in its `i`-th place. -/
def fstPiece (w : Fin 8) (i : Fin 4) : View.Piece (Elt F) S4224x2x128 .bf16 :=
  ⟨vRectIn k (2 * w + 1056 * i) (by omega), outPart ![8 * i, 0] (by revert i; decide) (pixelFst k A13 A14 A15 v43 v61 v79 v97 v100 v103 v106 v109 v136 v139 v143 w)⟩
def sndPiece (w : Fin 8) (i : Fin 4) : View.Piece (Elt F) S4224x2x128 .bf16 :=
  ⟨vRectIn k (2 * w + 1 + 1056 * i) (by omega), outPart ![8 * i, 0] (by revert i; decide) (pixelSnd k A13 A14 A15 v43 v61 v79 v97 v100 v103 v106 v109 v136 v139 v143 w)⟩

/-- All that one trip stores, the last store first. -/
def tripPieces : List (View.Piece (Elt F) S4224x2x128 .bf16) :=
  (List.ofFn fun w : Fin 8 =>
    (List.ofFn fun i : Fin 4 => sndPiece k A13 A14 A15 v43 v61 v79 v97 v100 v103 v106 v109 v136 v139 v143 w.rev i.rev)
      ++ List.ofFn fun i : Fin 4 => fstPiece k A13 A14 A15 v43 v61 v79 v97 v100 v103 v106 v109 v136 v139 v143 w.rev i.rev).flatten
end

end Cert.KernelIdeal.Hand

end
-- ==== Proof.PixelValue.lean ====
/- The attention loop's stored pieces over the reals: every piece is part of one array, the attention of each pixel as a sum over the
   key frames. -/
module

public import proofs.«01_k».proof.Proof.Pixel
public import proofs.«01_k».proof.Proof.Words

@[expose] public section

noncomputable section

namespace Cert.KernelIdeal.Hand

open Cert.KernelIdeal Cert.KernelIdeal.Gen Cert.Attn
open Idealize.ShloMosaic

theorem off27 (k : Fin k0_t3_loop.trips) : k0_off27 k = ![16 * k.val, 0] := by revert k; decide
theorem off28 (k : Fin k0_t3_loop.trips) : k0_off28 k = ![16 * k.val, 0, 0] := by revert k; decide

/-- The chunk masks at an index: column `t` belongs to chunk `t % 4`. -/
structure Masks (v43 v61 v79 v97 : IVec S8x128 1) (v100 v103 v106 v109 : IVec S8x128 32) : Prop where
  b0 (a : Fin 8) (t : Fin 128) : v43 (ix2 a t) = if t.val % 4 = 0 then 1#1 else 0#1
  b1 (a : Fin 8) (t : Fin 128) : v61 (ix2 a t) = if t.val % 4 = 1 then 1#1 else 0#1
  b2 (a : Fin 8) (t : Fin 128) : v79 (ix2 a t) = if t.val % 4 = 2 then 1#1 else 0#1
  b3 (a : Fin 8) (t : Fin 128) : v97 (ix2 a t) = if t.val % 4 = 3 then 1#1 else 0#1
  w0 (a : Fin 8) (t : Fin 128) : v100 (ix2 a t) = if t.val % 4 = 0 then 0xFFFFFFFF#32 else 0#32
  w1 (a : Fin 8) (t : Fin 128) : v103 (ix2 a t) = if t.val % 4 = 1 then 0xFFFFFFFF#32 else 0#32
  w2 (a : Fin 8) (t : Fin 128) : v106 (ix2 a t) = if t.val % 4 = 2 then 0xFFFFFFFF#32 else 0#32
  w3 (a : Fin 8) (t : Fin 128) : v109 (ix2 a t) = if t.val % 4 = 3 then 0xFFFFFFFF#32 else 0#32

variable (k : Fin k0_t3_loop.trips) (A13 A14 : S2112x128.Idx → Elt Ideal .i32) (A15 : S4224x2x128.Idx → Elt Ideal .bf16)
  {v43 v61 v79 v97 : IVec S8x128 1} {v100 v103 v106 v109 : IVec S8x128 32}
  (M : Masks v43 v61 v79 v97 v100 v103 v106 v109)
  (v136 : IVec S1x128 1) (v139 : IVec S32x128 1) (v143 : FVec Ideal S1x128 .f32)

theorem qL_apply (n : ℕ) (hn : n < 1072) (a : Fin 8) (b : Fin 128) : qL k A13 n hn (ix2 a b) = at2 A13 (16 * k + n + 132 * a) b := by
  refine at2_of A13 _ _ _ ?_ ?_
  · show k0_off27 k 0 + n + 132 * a.val = _
    rw [off27]; rfl
  · show k0_off27 k 1 + 0 + 1 * b.val = _
    rw [off27]; show 0 + 0 + 1 * b.val = _; omega

theorem kL_apply (n : ℕ) (hn : n < 148) (a : Fin 8) (b : Fin 128) : kL k A14 n hn (ix2 a b) = at2 A14 (16 * k + n + 264 * a) b := by
  refine at2_of A14 _ _ _ ?_ ?_
  · show k0_off27 k 0 + n + 264 * a.val = _
    rw [off27]; rfl
  · show k0_off27 k 1 + 0 + 1 * b.val = _
    rw [off27]; show 0 + 0 + 1 * b.val = _; omega

theorem vL_apply (n : ℕ) (hn : n < 3184) (a : Fin 8) (b : Fin 2) (c : Fin 128) :
    vL k A15 n hn (ix3 a b c) = at3 A15 (16 * k + n + 132 * a) b c := by
  refine at3_of A15 _ _ _ _ ?_ ?_ ?_
  · show k0_off28 k 0 + n + 132 * a.val = _
    rw [off28]; rfl
  · show k0_off28 k 1 + 0 + 1 * b.val = _
    rw [off28]; show 0 + 0 + 1 * b.val = _; omega
  · show k0_off28 k 2 + 0 + 1 * c.val = _
    rw [off28]; show 0 + 0 + 1 * c.val = _; omega

theorem f8_zero (j : ℕ) : f8 0#32 j = 0 := by
  have h : byte 0#32 j = 0#8 := by
    apply BitVec.eq_of_getLsbD_eq; intro q hq; simp [byte, BitVec.getLsbD_extractLsb']
  rw [f8, h]
  show Ideal.e4m3fn 0#8 = 0
  simp [Ideal.e4m3fn]

theorem andi_mask (w : BitVec 32) (c : Prop) [Decidable c] :
    IntOp.andi w (if c then 0xFFFFFFFF#32 else 0#32) = if c then w else 0#32 := by
  split_ifs
  · exact BitVec.and_allOnes
  · exact BitVec.and_zero

include M in
/-- The masked queries: row `64 c + d` holds channel `d` where the column is of chunk `c`. -/
theorem qRhs_apply (u : ℕ) (hu : u < 16) (r : Fin 256) (t : Fin 128) :
    qRhs k A13 v100 v103 v106 v109 u hu (ix2 r t)
      = if t.val % 4 = r.val / 64 then f8 (at2 A13 (16 * k + u + 132 * (r.val % 64 / 4)) t) (r.val % 4) else 0 := by
  rw [← f8_zero (r.val % 4), ← apply_ite (fun w => f8 w (r.val % 4))]
  unfold qRhs k0_pay285
  show Ideal.ofBits .fp8e4m3 (bitcast S256x128 8 _ _ (ix2 r t)) = _
  rw [bitcast_bytes _ _ r t ⟨r.val/4, by omega⟩ rfl]
  pointwise
  simp only [M.w0, M.w1, M.w2, M.w3, andi_mask, qL_apply]
  refine congrArg (fun w => f8 w (r.val % 4)) ?_
  have := r.isLt
  split_ifs <;> first | omega | rfl | exact at2_congr _ (by omega) rfl

/-- Eight word rows read as thirty-two rows of codes. -/
theorem codes_apply (x : Vec Ideal S8x128 .i32) (g : Fin 32) (l : Fin 128) :
    Ideal.ofBits .fp8e4m3 (bitcast S32x128 8 x bitcasts_S8x128_w32_S32x128_w8 (ix2 g l)) = f8 (x (ix2 ⟨g.val / 4, by omega⟩ l)) (g.val % 4) := by
  rw [bitcast_bytes _ _ g l ⟨g.val / 4, by omega⟩ rfl, f8]

theorem kLhs_apply (u : ℕ) (hu : u < 16) (g : Fin 32) (l : Fin 256) :
    kLhs k A14 u hu (ix2 g l) = f8 (at2 A14 (16 * k + u + 132 * (l.val / 128) + 264 * (g.val / 4)) (l.val % 128)) (g.val % 4) := by
  unfold kLhs k0_pay286
  pointwise
  have := l.isLt
  simp only [codes_apply, kL_apply]
  split_ifs <;> first | omega | exact congrArg (fun w => f8 w (g.val % 4)) (at2_congr _ (by omega) (by first | omega | (dsimp only; omega)))

/-- A sum over tiles in which only tile `c` counts. -/
theorem sum_tile {J T N : ℕ} (hN : J * T = N) (hT : 0 < T) (c : ℕ) (hc : c < J) (f : ℕ → EReal) :
    (∑ l : Fin N, if c = l.val / T then f l.val else 0) = ∑ d : Fin T, f (c * T + d.val) := by
  have hdiv (j : ℕ) (d : Fin T) : (j * T + d.val) / T = j := by
    rw [Nat.mul_comm, Nat.mul_add_div hT, Nat.div_eq_of_lt d.isLt, Nat.add_zero]
  rw [Fin.sum_univ_tiles J T hN, Finset.sum_eq_single (⟨c, hc⟩ : Fin J)]
  · exact Finset.sum_congr rfl fun d _ => if_pos (hdiv c d).symm
  · exact fun j _ hj => Finset.sum_eq_zero fun d _ => if_neg fun h => hj (Fin.ext (h.trans (hdiv j d)).symm)
  · exact fun h => absurd (Finset.mem_univ _) h

/-- The product of the keys of frame `g` with the queries of column `t`, at pixel `p`. -/
def score (p : ℕ) (g t : ℕ) : EReal :=
  ∑ d : Fin 64, f8 (at2 A14 (p + 132 * (t % 4 / 2) + 264 * (g / 4)) (t % 4 % 2 * 64 + d)) (g % 4) * f8 (at2 A13 (p + 132 * (d / 4)) t) (d % 4)

include M in
theorem score_eq (u : ℕ) (hu : u < 16) (g : Fin 32) (t : Fin 128) :
    (∑ x : Fin 256, kLhs k A14 u hu (ix2 g x) * qRhs k A13 v100 v103 v106 v109 u hu (ix2 x t) : EReal) = score A13 A14 (16 * k + u) g t := by
  obtain ⟨f, hf⟩ : ∃ f : ℕ → EReal, f = fun l => f8 (at2 A14 (16 * k + u + 132 * (l / 128) + 264 * (g.val / 4)) (l % 128)) (g.val % 4)
      * f8 (at2 A13 (16 * k + u + 132 * (l % 64 / 4)) t) (l % 4) := ⟨_, rfl⟩
  have e (x : Fin 256) : (kLhs k A14 u hu (ix2 g x) * qRhs k A13 v100 v103 v106 v109 u hu (ix2 x t) : EReal)
      = if t.val % 4 = x.val / 64 then f x.val else 0 := by
    rw [kLhs_apply, qRhs_apply k A13 M, hf]
    split_ifs
    · rfl
    · exact mul_zero _
  rw [Finset.sum_congr rfl fun x _ => e x, sum_tile (J := 4) (T := 64) rfl (by decide) _ (by omega), score, hf]
  refine Finset.sum_congr rfl fun d _ => ?_
  have := d.isLt
  dsimp only
  congr 2
  · exact at2_congr _ (by omega) (by omega)
  · exact at2_congr _ (by omega) rfl
  · omega

include M in
theorem fst_apply (u : ℕ) (hu : u < 15) (g : Fin 32) (t : Fin 128) :
    extractStridedSlice S32x128 ![0, 0] (pairDot k A13 A14 v100 v103 v106 v109 u hu) slices_S64x256_o0_0_S32x128 (ix2 g t)
      = score A13 A14 (16 * k + u) g t := by
  rw [← score_eq k A13 A14 M u (by omega)]
  unfold pairDot
  pointwise

include M in
theorem snd_apply (u : ℕ) (hu : u < 15) (g : Fin 32) (t : Fin 128) :
    extractStridedSlice S32x128 ![32, 128] (pairDot k A13 A14 v100 v103 v106 v109 u hu) slices_S64x256_o32_128_S32x128 (ix2 g t)
      = score A13 A14 (16 * k + (u + 1)) g t := by
  rw [← score_eq k A13 A14 M (u + 1) (by omega)]
  unfold pairDot
  pointwise

/-- The softmax of the scores `s` at column `t`: zero where the column's frame is not kept. -/
def softm (v136 : IVec S1x128 1) (v139 : IVec S32x128 1) (v143 : FVec Ideal S1x128 .f32) (t : Fin 128) (s : Fin 32 → EReal) (g : Fin 32) : EReal :=
  have m : EReal := Finset.fold max (Ideal.ofBits FTy.f32 0xFF800000#32)
    (fun x => Scalar.select (v139 (ix2 x t)) (s x) (Ideal.ofBits FTy.f32 0xFF800000#32)) Finset.univ
  have e : Fin 32 → EReal := fun x =>
    FloatOps.exp2 (F := Ideal) (φ := .f32) ((Scalar.select (v139 (ix2 x t)) (s x) (Ideal.ofBits FTy.f32 0xFF800000#32) - m) * v143 (ix2 0 t))
  Scalar.select (v136 (ix2 0 t)) (e g * Ideal.div 1 (∑ x, e x)) 0

theorem probs_apply (s : FVec Ideal S32x128 .f32) (g : Fin 32) (t : Fin 128) :
    probs v136 v139 v143 s (ix2 g t) = softm v136 v139 v143 t (fun x => s (ix2 x t)) g := by
  unfold probs
  pointwise
  rfl

theorem vLhs_apply (u : ℕ) (hu : u < 16) (d : Fin 64) (x : Fin 128) :
    vLhs k A15 u hu (ix2 d x) = at3 A15 (16 * k + u + 132 * (d.val / 2)) (d.val % 2) x := by
  unfold vLhs k0_pay300
  pointwise
  have := d.isLt
  simp only [vL_apply]
  split_ifs <;> exact at3_congr _ (by omega) (by first | (show 0 = _; omega) | (show 1 = _; omega)) rfl

theorem select_mask (c : Prop) [Decidable c] (x y : EReal) : Scalar.select (if c then 1#1 else 0#1) x y = if c then x else y := by
  split_ifs <;> rfl

theorem pPart0_apply (v : IVec S8x128 1) (c : ℕ) (hv : ∀ (a : Fin 8) (t : Fin 128), v (ix2 a t) = if t.val % 4 = c then 1#1 else 0#1)
    (h : FVec Ideal S16x128 .bf16) (a : Fin 8) (t : Fin 128) : pPart0 v h (ix2 a t) = if t.val % 4 = c then (at2 h a t : EReal) else 0 := by
  unfold pPart0
  pointwise
  rw [hv, select_mask, at2_ix2 h]

theorem pPart8_apply (v : IVec S8x128 1) (c : ℕ) (hv : ∀ (a : Fin 8) (t : Fin 128), v (ix2 a t) = if t.val % 4 = c then 1#1 else 0#1)
    (h : FVec Ideal S16x128 .bf16) (a : Fin 8) (t : Fin 128) : pPart8 v h (ix2 a t) = if t.val % 4 = c then (at2 h (8 + a) t : EReal) else 0 := by
  unfold pPart8
  pointwise
  rw [hv, select_mask, at2_ix2 h]

include M in
theorem pHalf_apply (h : FVec Ideal S16x128 .bf16) (a : Fin 64) (t : Fin 128) :
    pHalf v43 v61 v79 v97 h (ix2 a t) = if t.val % 4 = a.val / 16 then (at2 h (a.val % 16) t : EReal) else 0 := by
  unfold pHalf
  pointwise
  have := a.isLt
  simp only [pPart0_apply v43 0 M.b0, pPart0_apply v61 1 M.b1, pPart0_apply v79 2 M.b2, pPart0_apply v97 3 M.b3,
    pPart8_apply v43 0 M.b0, pPart8_apply v61 1 M.b1, pPart8_apply v79 2 M.b2, pPart8_apply v97 3 M.b3]
  split_ifs <;> first | omega | rfl | exact at2_congr _ (by omega) rfl

include M in
theorem pRhs_apply (pr : FVec Ideal S32x128 .bf16) (r t : Fin 128) :
    pRhs v43 v61 v79 v97 pr (ix2 r t) = if t.val % 4 = r.val / 32 then (at2 pr (r.val % 32) t : EReal) else 0 := by
  have h0 (a : Fin 16) : (rowsOfParity 0 S16x128 pr bitcasts_S32x128_w16_S16x128_w32 : FVec Ideal S16x128 .bf16) (ix2 a t) = at2 pr (2 * a) t := by
    pointwise; exact at2_ix2 pr _ _
  have h1 (a : Fin 16) : (rowsOfParity 1 S16x128 pr bitcasts_S32x128_w16_S16x128_w32 : FVec Ideal S16x128 .bf16) (ix2 a t) = at2 pr (2 * a + 1) t := by
    pointwise; exact at2_ix2 pr _ _
  have hr := r.isLt
  unfold pRhs
  pointwise
  rw [pHalf_apply M, pHalf_apply M, ← at2_ix2 _ ⟨r.val / 2 % 16, by omega⟩ t, ← at2_ix2 _ ⟨r.val / 2 % 16, by omega⟩ t, h0, h1]
  dsimp only
  split_ifs <;> first | omega | rfl | exact at2_congr _ (by omega) rfl

/-- The attention of pixel `p` at channel `d`, column `t`. -/
def attn (p d : ℕ) (t : Fin 128) : EReal :=
  ∑ g : Fin 32, at3 A15 (p + 132 * (d / 2)) (d % 2) (t % 4 * 32 + g) * softm v136 v139 v143 t (fun x => score A13 A14 p x t) g

theorem outPart_apply (i : ℕ) (h) (o : FVec Ideal S64x128 .bf16) (w : Fin 8) (j : Fin 2) (t : Fin 128) :
    outPart (F := Ideal) ![8 * i, 0] h o (ix3 w j t) = at2 o (16 * i + 2 * w + j) t := by
  unfold outPart
  pointwise
  have := j.isLt
  simp only [at2_ix2 o]
  split_ifs
  · exact at2_congr _ (show 2 * (8 * i + w.val) = _ by omega) (by first | rfl | exact Nat.zero_add _)
  · exact at2_congr _ (show 2 * (8 * i + w.val) + 1 = _ by omega) (by first | rfl | exact Nat.zero_add _)

include M in
/-- One pixel's attention at an index. -/
theorem pixel_apply (s : FVec Ideal S32x128 .f32) (u : ℕ) (hu : u < 16)
    (hs : ∀ (g : Fin 32) (t : Fin 128), s (ix2 g t) = score A13 A14 (16 * k + u) g t) (d : Fin 64) (t : Fin 128) :
    pixel k A15 v43 v61 v79 v97 v136 v139 v143 s u hu (ix2 d t) = attn A13 A14 A15 v136 v139 v143 (16 * k + u) d t := by
  unfold pixel attnOut
  pointwise
  obtain ⟨f, hf⟩ : ∃ f : ℕ → EReal, f = fun l => (at3 A15 (16 * k + u + 132 * (d.val / 2)) (d.val % 2) l : EReal)
      * at2 (probs v136 v139 v143 s) (l % 32) t := ⟨_, rfl⟩
  have e (x : Fin 128) : (vLhs k A15 u hu (ix2 d x) * pRhs v43 v61 v79 v97 (probs v136 v139 v143 s) (ix2 x t) : EReal)
      = if t.val % 4 = x.val / 32 then f x.val else 0 := by
    rw [vLhs_apply, pRhs_apply M, hf]
    split_ifs
    · rfl
    · exact mul_zero _
  rw [Finset.sum_congr rfl fun x _ => e x, sum_tile (J := 4) (T := 32) rfl (by decide) _ (by omega), attn, hf]
  refine Finset.sum_congr rfl fun g _ => ?_
  have hg := g.isLt
  dsimp only
  congr 1
  rw [show (t.val % 4 * 32 + g.val) % 32 = g.val by omega, ← at2_ix2 (probs v136 v139 v143 s) g t, probs_apply]
  exact congrArg (fun f => softm v136 v139 v143 t f g) (funext fun x => hs x t)

/-- The whole result of the loop: row `132 W + p` and place `j` hold pixel `p` at channel `2 W + j`. -/
def G16 (y : S4224x2x128.Idx) : EReal :=
  attn A13 A14 A15 v136 v139 v143 ((y 0).val % 132) (2 * ((y 0).val / 132) + (y 1).val) (y 2)

/-- A piece that stores rows `8 i` to `8 i + 7` of pixel `16 k + u` agrees with the whole. -/
theorem piece_agrees (u : ℕ) (hu : u < 16) (i : Fin 4) (h) (o : FVec Ideal S64x128 .bf16)
    (ho : ∀ (d : Fin 64) (t : Fin 128), o (ix2 d t) = attn A13 A14 A15 v136 v139 v143 (16 * k + u) d t)
    (n : ℕ) (hn : n < 3184) (hnu : n = u + 1056 * i) (x : S8x2x128.Idx) :
    outPart (F := Ideal) ![8 * i.val, 0] h o x = G16 A13 A14 A15 v136 v139 v143 ((vRectIn k n hn).emb x) := by
  obtain ⟨w, j, t, rfl⟩ : ∃ (w : Fin 8) (j : Fin 2) (t : Fin 128), x = ix3 w j t := ⟨x 0, x 1, x 2, eq_ix3 x⟩
  have hj := j.isLt
  have hk : k.val < 8 := k.isLt
  have hd : 16 * i.val + 2 * w.val + j.val < 64 := by omega
  have h0 : ((vRectIn k n hn).emb (ix3 w j t) 0).val = 16 * k + n + 132 * w := by
    show k0_off28 k 0 + n + 132 * w.val = _
    rw [off28]; rfl
  have h1 : ((vRectIn k n hn).emb (ix3 w j t) 1).val = j := by
    show k0_off28 k 1 + 0 + 1 * j.val = _
    rw [off28]; show 0 + 0 + 1 * j.val = _; omega
  have h2 : (vRectIn k n hn).emb (ix3 w j t) 2 = t := Fin.ext <| by
    show k0_off28 k 2 + 0 + 1 * t.val = _
    rw [off28]; show 0 + 0 + 1 * t.val = _; omega
  have hA := at2_ix2 o ⟨16 * i.val + 2 * w.val + j.val, hd⟩ t
  rw [outPart_apply, ← hA, ho, G16, h0, h1, h2]
  have hw := w.isLt
  have e1 : (16 * k.val + n + 132 * w.val) % 132 = 16 * k + u := by omega
  have e2 : (16 * k.val + n + 132 * w.val) / 132 = 8 * i + w := by omega
  rw [e1, e2]
  exact congrArg (fun d => attn A13 A14 A15 v136 v139 v143 (16 * k + u) d t) (by dsimp only; omega)

include M in
/-- Every piece that a trip stores agrees with the whole. -/
theorem tripPieces_agree :
    ∀ p ∈ tripPieces k A13 A14 A15 v43 v61 v79 v97 v100 v103 v106 v109 v136 v139 v143,
      ∀ x, p.2 x = G16 A13 A14 A15 v136 v139 v143 (p.1.emb x) := by
  intro p hp
  simp only [tripPieces, List.mem_flatten, List.mem_ofFn] at hp
  obtain ⟨_, ⟨w, rfl⟩, hp⟩ := hp
  have hw := w.rev.isLt
  rcases List.mem_append.1 hp with hp | hp <;> obtain ⟨i, rfl⟩ := List.mem_ofFn.1 hp
  · exact piece_agrees k A13 A14 A15 v136 v139 v143 (2 * w.rev + 1) (by omega) i.rev _ _
      (pixel_apply k A13 A14 A15 M v136 v139 v143 _ (2 * w.rev + 1) (by omega) (snd_apply k A13 A14 M (2 * w.rev) (by omega))) _ _ rfl
  · exact piece_agrees k A13 A14 A15 v136 v139 v143 (2 * w.rev) (by omega) i.rev _ _
      (pixel_apply k A13 A14 A15 M v136 v139 v143 _ (2 * w.rev) (by omega) (fst_apply k A13 A14 M (2 * w.rev) (by omega))) _ _ rfl

theorem mem_vRectIn (n : ℕ) (hn : n < 3184) (y : S4224x2x128.Idx) :
    y ∈ (vRectIn k n hn).set ↔ ∃ w < 8, (y 0).val = 16 * k + n + 132 * w := by
  rw [LoadRect.mem_set]
  have e0 : (vRectIn k n hn).off 0 = 16 * k + n := by show k0_off28 k 0 + n = _; rw [off28]; rfl
  have e1 : (vRectIn k n hn).off 1 = 0 := by show k0_off28 k 1 + 0 = _; rw [off28]; rfl
  have e2 : (vRectIn k n hn).off 2 = 0 := by show k0_off28 k 2 + 0 = _; rw [off28]; rfl
  constructor
  · intro h
    obtain ⟨w, hw, e⟩ := h 0
    exact ⟨w, hw, by rw [e, e0]; rfl⟩
  · rintro ⟨w, hw, e⟩ a
    match a with
    | ⟨0, _⟩ => exact ⟨w, hw, by show (y 0).val = (vRectIn k n hn).off 0 + 132 * w; rw [e, e0]⟩
    | ⟨1, _⟩ => exact ⟨(y 1).val, (y 1).isLt, by show (y 1).val = (vRectIn k n hn).off 1 + 1 * (y 1).val; rw [e1]; omega⟩
    | ⟨2, _⟩ => exact ⟨(y 2).val, (y 2).isLt, by show (y 2).val = (vRectIn k n hn).off 2 + 1 * (y 2).val; rw [e2]; omega⟩

/-- A trip stores exactly the rows whose pixel lies in the trip's sixteen. -/
theorem tripPieces_mem (y : S4224x2x128.Idx) :
    (∃ p ∈ tripPieces k A13 A14 A15 v43 v61 v79 v97 v100 v103 v106 v109 v136 v139 v143, y ∈ p.1.set) ↔ (y 0).val % 132 / 16 = k.val := by
  have hk : k.val < 8 := k.isLt
  have hy : (y 0).val < 4224 := (y 0).isLt
  constructor
  · rintro ⟨p, hp, hy⟩
    simp only [tripPieces, List.mem_flatten, List.mem_ofFn] at hp
    obtain ⟨_, ⟨w, rfl⟩, hp⟩ := hp
    have hw := w.rev.isLt
    rcases List.mem_append.1 hp with hp | hp <;> obtain ⟨i, rfl⟩ := List.mem_ofFn.1 hp <;> have hi := i.rev.isLt <;>
      obtain ⟨s, hs, e⟩ := (mem_vRectIn k _ _ y).1 hy <;> omega
  · intro h
    obtain ⟨u, hu⟩ : ∃ u, u = (y 0).val % 132 - 16 * k := ⟨_, rfl⟩
    have hi : (y 0).val / 132 / 8 < 4 := by omega
    have key (n : ℕ) (hn : n < 3184) (e : n = u + 1056 * ((y 0).val / 132 / 8)) : y ∈ (vRectIn k n hn).set :=
      (mem_vRectIn k n hn y).2 ⟨(y 0).val / 132 % 8, by omega, by omega⟩
    have hu2 : u / 2 < 8 := by omega
    by_cases hp : u % 2 = 0
    · refine ⟨fstPiece k A13 A14 A15 v43 v61 v79 v97 v100 v103 v106 v109 v136 v139 v143 ⟨u / 2, hu2⟩ ⟨_, hi⟩, ?_, key _ _ (by dsimp only; omega)⟩
      simp only [tripPieces, List.mem_flatten, List.mem_ofFn]
      exact ⟨_, ⟨Fin.rev ⟨u / 2, hu2⟩, rfl⟩, List.mem_append_right _ (List.mem_ofFn.2 ⟨Fin.rev ⟨_, hi⟩, by rw [Fin.rev_rev, Fin.rev_rev]⟩)⟩
    · refine ⟨sndPiece k A13 A14 A15 v43 v61 v79 v97 v100 v103 v106 v109 v136 v139 v143 ⟨u / 2, hu2⟩ ⟨_, hi⟩, ?_, key _ _ (by dsimp only; omega)⟩
      simp only [tripPieces, List.mem_flatten, List.mem_ofFn]
      exact ⟨_, ⟨Fin.rev ⟨u / 2, hu2⟩, rfl⟩, List.mem_append_left _ (List.mem_ofFn.2 ⟨Fin.rev ⟨_, hi⟩, by rw [Fin.rev_rev, Fin.rev_rev]⟩)⟩

end Cert.KernelIdeal.Hand

end
-- ==== Proof.KernelIdealLoop3.lean ====
/- One trip of the attention loop of `KernelIdeal`'s kernel with what it stores. -/
module

public import proofs.«01_k».proof.Proof.PixelValue
public import proofs.«01_k».proof.Proof.Gen.KernelIdeal.Loops

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x2x128 .bf16) (harg15 : arg15.IsWhole)
  (arg16 : Memref sig .tc .vmem S4224x2x128 .bf16) (harg16 : arg16.IsWhole)

set_option warn.classDefReducibility false

/-- One trip of the attention loop, sixteen pixels of each chunk a trip. -/
theorem trip3 (v18 : Elt F .i32) (v20 : FVec F S8x128 .f32) (v22 : FVec F S8x128 .f32) (v43 : IVec S8x128 1) (v61 : IVec S8x128 1) (v79 : IVec S8x128 1) (v97 : IVec S8x128 1) (v100 : IVec S8x128 32) (v103 : IVec S8x128 32) (v106 : IVec S8x128 32) (v109 : IVec S8x128 32) (v110 : IVec S1x128 32) (c4_i32_48 : BitVec 32) (v112 : IVec S1x128 32) (v115 : IVec S1x128 32) (v116 : IVec S1x128 32) (k : Fin k0_t3_loop.trips) (X13 : BufTy.Contents (Elt F) arg13.view.ty) (X14 : BufTy.Contents (Elt F) arg14.view.ty) (X15 : BufTy.Contents (Elt F) arg15.view.ty) (X16 : BufTy.Contents (Elt F) arg16.view.ty) :
    (iprop((arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16)) : sProp 𝕄)
      ⊢ wp Idealize.ShloMosaic.frame (wpE (defs₀ (F := F)) 𝒱 (c : Thread nD τ) none) Set.univ (Gen.k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v18 v20 v22 v43 v61 v79 v97 v100 v103 v106 v109 v110 c4_i32_48 v112 v115 v116 k ())
        (fun _ => iprop((arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ L, (arg16.view.loc (c : Thread nD τ) ↦[arg16.view.set]{fullShare} arg16.view.writes (Elt F) X16 L) ∗ ⌜L = tripPieces k (arg13.view.read (Elt F) X13) (arg14.view.read (Elt F) X14) (arg15.view.read (Elt F) X15) v43 v61 v79 v97 v100 v103 v106 v109 (k0_pay1 v18 v110 c4_i32_48 v112 v115 v116) (k0_pay2 v18) (k0_pay3 v20 v22)⌝))) := by
  unfold Gen.k0_t3_body
  iintro ⟨H13, H14, H15, H16⟩
  sl_exec_parts
  sl_step
  isplitl [H13]; · iexact H13
  isplitl [H14]; · iexact H14
  isplitl [H15]; · iexact H15
  iexists _
  isplitl [H16]; · iexact H16
  ipureintro
  rfl

end Cert.KernelIdeal.Val
end
-- ==== Proof.KernelIdealLoop4.lean ====
/- One trip of the output loop of `KernelIdeal`'s kernel with what it stores. -/
module

public import proofs.«01_k».proof.Proof.KernelIdealKit
public import proofs.«01_k».proof.Proof.Repack
public import proofs.«01_k».proof.Proof.Gen.KernelIdeal.Loops

@[expose] public section

set_option maxRecDepth 16384

noncomputable section

namespace Cert.KernelIdeal.Val

open Cert.KernelIdeal Cert.KernelIdeal.Gen Cert.KernelIdeal.Hand Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x2x128 .bf16) (harg15 : arg15.IsWhole)
  (arg16 : Memref sig .tc .vmem S4224x2x128 .bf16) (harg16 : arg16.IsWhole)

set_option warn.classDefReducibility false

/-- One trip of the loop that turns the attention back into the output block, with what it stores. -/
theorem trip4 (k : Fin k0_t4_loop.trips) (X16 : BufTy.Contents (Elt F) arg16.view.ty) (X10 : BufTy.Contents (Elt F) arg10.view.ty) :
    (iprop((arg16.view.loc (c : Thread nD τ) ↦[arg16.view.set]{fullShare} X16) ∗ (arg10.view.loc (c : Thread nD τ) ↦[arg10.view.set]{fullShare} X10)) : sProp 𝕄)
      ⊢ wp Idealize.ShloMosaic.frame (wpE (defs₀ (F := F)) 𝒱 (c : Thread nD τ) none) Set.univ (Gen.k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k ())
        (fun _ => iprop((arg16.view.loc (c : Thread nD τ) ↦[arg16.view.set]{fullShare} X16) ∗ (∃ L, (arg10.view.loc (c : Thread nD τ) ↦[arg10.view.set]{fullShare} arg10.view.writes (Elt F) X10 L) ∗ ⌜L = oPieces k (arg16.view.read (Elt F) X16)⌝))) := by
  unfold Gen.k0_t4_body
  iintro ⟨H16, H10⟩
  sl_exec_parts
  sl_step
  isplitl [H16]; · iexact H16
  · iexists _
    isplitl [H10]; · iexact H10
    ipureintro
    rfl

end Cert.KernelIdeal.Val

end
-- ==== Proof.KernelIdealLoops.lean ====
/- The four loops of `KernelIdeal`'s kernel, each with the contents it leaves. -/
module

public import proofs.«01_k».proof.Proof.Stored
public import proofs.«01_k».proof.Proof.KernelIdealLoop1
public import proofs.«01_k».proof.Proof.KernelIdealLoop2
public import proofs.«01_k».proof.Proof.KernelIdealLoop3
public import proofs.«01_k».proof.Proof.KernelIdealLoop4

@[expose] public section

set_option maxRecDepth 16384

noncomputable section

namespace Cert.KernelIdeal.Val

open Cert.KernelIdeal Cert.KernelIdeal.Gen Cert.KernelIdeal.Hand Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

variable (𝒱 : Variants) (c : Dev nD) (i : grid0.Coords)
  (arg1 : Memref sig .tc .smem S3 .i32) (harg1 : arg1.IsWhole)
  (arg2 : Memref sig .tc .vmem S1x2x128x8x128 .i32) (harg2 : arg2.IsWhole)
  (arg3 : Memref sig .tc .vmem S1x2x128x8x128 .i32) (harg3 : arg3.IsWhole)
  (arg4 : Memref sig .tc .vmem S1x8x128 .f32) (harg4 : arg4.IsWhole)
  (arg5 : Memref sig .tc .vmem S1x8x128 .f32) (harg5 : arg5.IsWhole)
  (arg6 : Memref sig .tc .vmem S1x8x32x1x8x128 .bf16) (harg6 : arg6.IsWhole)
  (arg7 : Memref sig .tc .vmem S1x8x32x1x8x128 .bf16) (harg7 : arg7.IsWhole)
  (arg8 : Memref sig .tc .vmem S1x8x32x1x8x128 .bf16) (harg8 : arg8.IsWhole)
  (arg9 : Memref sig .tc .vmem S1x8x32x1x8x128 .bf16) (harg9 : arg9.IsWhole)
  (arg10 : Memref sig .tc .vmem S1x8x128x8x128 .bf16) (harg10 : arg10.IsWhole)
  (arg11 : Memref sig .tc .vmem S3072x128 .i32) (harg11 : arg11.IsWhole)
  (arg12 : Memref sig .tc .vmem S2048x128 .i32) (harg12 : arg12.IsWhole)
  (arg13 : Memref sig .tc .vmem S2112x128 .i32) (harg13 : arg13.IsWhole)
  (arg14 : Memref sig .tc .vmem S2112x128 .i32) (harg14 : arg14.IsWhole)
  (arg15 : Memref sig .tc .vmem S4224x2x128 .bf16) (harg15 : arg15.IsWhole)
  (arg16 : Memref sig .tc .vmem S4224x2x128 .bf16) (harg16 : arg16.IsWhole)

set_option warn.classDefReducibility false

/-- The gathering loop: what it reads stays, what it writes holds what the trips so far stored. -/
@[sl_loop] def loopInv_k0_t1  (X2 : BufTy.Contents (Elt F) arg2.view.ty) (X3 : BufTy.Contents (Elt F) arg3.view.ty) (X11 : BufTy.Contents (Elt F) arg11.view.ty) (X12 : BufTy.Contents (Elt F) arg12.view.ty) :
    Gen.LoopInvTy_k0_t1 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  where
  inv k _ := iprop((arg2.view.loc (c : Thread nD τ) ↦[arg2.view.set]{fullShare} X2) ∗ (arg3.view.loc (c : Thread nD τ) ↦[arg3.view.set]{fullShare} X3) ∗ (∃ f, (arg11.view.loc (c : Thread nD τ) ↦[arg11.view.set]{fullShare} f) ∗ ⌜f = stored arg11.view (fun k => qaPieces k (arg2.view.read (Elt F) X2)) X11 k⌝) ∗ (∃ f, (arg12.view.loc (c : Thread nD τ) ↦[arg12.view.set]{fullShare} f) ∗ ⌜f = stored arg12.view (fun k => kaPieces k (arg3.view.read (Elt F) X3)) X12 k⌝))
  step k acc := by
    iintro ⟨H2, H3, ⟨%f11, H11, %e11⟩, ⟨%f12, H12, %e12⟩⟩
    iapply ((trip1 𝒱 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k X2 X3 f11 f12).trans (wp_mono (Q' := fun _ => iprop((arg2.view.loc (c : Thread nD τ) ↦[arg2.view.set]{fullShare} X2) ∗ (arg3.view.loc (c : Thread nD τ) ↦[arg3.view.set]{fullShare} X3) ∗ (∃ f, (arg11.view.loc (c : Thread nD τ) ↦[arg11.view.set]{fullShare} f) ∗ ⌜f = stored arg11.view (fun k => qaPieces k (arg2.view.read (Elt F) X2)) X11 (k.val + 1)⌝) ∗ (∃ f, (arg12.view.loc (c : Thread nD τ) ↦[arg12.view.set]{fullShare} f) ∗ ⌜f = stored arg12.view (fun k => kaPieces k (arg3.view.read (Elt F) X3)) X12 (k.val + 1)⌝))) _ _ _ (fun _ => by
      iintro ⟨H2, H3, ⟨%L11, H11, %l11⟩, ⟨%L12, H12, %l12⟩⟩
      isplitl [H2]; · iexact H2
      isplitl [H3]; · iexact H3
      isplitl [H11]
      · iexists _
        isplitl [H11]; · iexact H11
        ipureintro
        rw [l11, e11]; exact (stored_succ _ _ _ k).symm
      · iexists _
        isplitl [H12]; · iexact H12
        ipureintro
        rw [l12, e12]; exact (stored_succ _ _ _ k).symm
      ))) $$ [H2 H3 H11 H12]
    isplitl [H2]; · iexact H2
    isplitl [H3]; · iexact H3
    isplitl [H11]; · iexact H11
    iexact H12

/-- The transposing loop: what it reads stays, what it writes holds what the trips so far stored. -/
@[sl_loop] def loopInv_k0_t2  (X6 : BufTy.Contents (Elt F) arg6.view.ty) (X7 : BufTy.Contents (Elt F) arg7.view.ty) (X8 : BufTy.Contents (Elt F) arg8.view.ty) (X9 : BufTy.Contents (Elt F) arg9.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) :
    Gen.LoopInvTy_k0_t2 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  where
  inv k _ := iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f) ∗ ⌜f = stored arg13.view (fun k => qtPieces k (arg11.view.read (Elt F) X11)) X13 k⌝) ∗ (∃ f, (arg14.view.loc (c : Thread nD τ) ↦[arg14.view.set]{fullShare} f) ∗ ⌜f = stored arg14.view (fun k => ktPieces k (arg12.view.read (Elt F) X12)) X14 k⌝) ∗ (∃ f, (arg15.view.loc (c : Thread nD τ) ↦[arg15.view.set]{fullShare} f) ∗ ⌜f = stored arg15.view (fun k => vtPieces k (arg6.view.read (Elt F) X6) (arg7.view.read (Elt F) X7) (arg8.view.read (Elt F) X8) (arg9.view.read (Elt F) X9)) X15 k⌝))
  step k acc := by
    iintro ⟨H6, H7, H8, H9, H11, H12, ⟨%f13, H13, %e13⟩, ⟨%f14, H14, %e14⟩, ⟨%f15, H15, %e15⟩⟩
    iapply ((trip2 𝒱 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k X6 X7 X8 X9 X11 X12 f13 f14 f15).trans (wp_mono (Q' := fun _ => iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f) ∗ ⌜f = stored arg13.view (fun k => qtPieces k (arg11.view.read (Elt F) X11)) X13 (k.val + 1)⌝) ∗ (∃ f, (arg14.view.loc (c : Thread nD τ) ↦[arg14.view.set]{fullShare} f) ∗ ⌜f = stored arg14.view (fun k => ktPieces k (arg12.view.read (Elt F) X12)) X14 (k.val + 1)⌝) ∗ (∃ f, (arg15.view.loc (c : Thread nD τ) ↦[arg15.view.set]{fullShare} f) ∗ ⌜f = stored arg15.view (fun k => vtPieces k (arg6.view.read (Elt F) X6) (arg7.view.read (Elt F) X7) (arg8.view.read (Elt F) X8) (arg9.view.read (Elt F) X9)) X15 (k.val + 1)⌝))) _ _ _ (fun _ => by
      iintro ⟨H6, H7, H8, H9, H11, H12, ⟨%L13, H13, %l13⟩, ⟨%L14, H14, %l14⟩, ⟨%L15, H15, %l15⟩⟩
      isplitl [H6]; · iexact H6
      isplitl [H7]; · iexact H7
      isplitl [H8]; · iexact H8
      isplitl [H9]; · iexact H9
      isplitl [H11]; · iexact H11
      isplitl [H12]; · iexact H12
      isplitl [H13]
      · iexists _
        isplitl [H13]; · iexact H13
        ipureintro
        rw [l13, e13]; exact (stored_succ _ _ _ k).symm
      isplitl [H14]
      · iexists _
        isplitl [H14]; · iexact H14
        ipureintro
        rw [l14, e14]; exact (stored_succ _ _ _ k).symm
      · iexists _
        isplitl [H15]; · iexact H15
        ipureintro
        rw [l15, e15]; exact (stored_succ _ _ _ k).symm
      ))) $$ [H6 H7 H8 H9 H11 H12 H13 H14 H15]
    isplitl [H6]; · iexact H6
    isplitl [H7]; · iexact H7
    isplitl [H8]; · iexact H8
    isplitl [H9]; · iexact H9
    isplitl [H11]; · iexact H11
    isplitl [H12]; · iexact H12
    isplitl [H13]; · iexact H13
    isplitl [H14]; · iexact H14
    iexact H15

/-- The attention loop: what it reads stays, what it writes holds what the trips so far stored. -/
@[sl_loop] def loopInv_k0_t3 (v18 : Elt F .i32) (v20 : FVec F S8x128 .f32) (v22 : FVec F S8x128 .f32) (v43 : IVec S8x128 1) (v61 : IVec S8x128 1) (v79 : IVec S8x128 1) (v97 : IVec S8x128 1) (v100 : IVec S8x128 32) (v103 : IVec S8x128 32) (v106 : IVec S8x128 32) (v109 : IVec S8x128 32) (v110 : IVec S1x128 32) (c4_i32_48 : BitVec 32) (v112 : IVec S1x128 32) (v115 : IVec S1x128 32) (v116 : IVec S1x128 32) (X13 : BufTy.Contents (Elt F) arg13.view.ty) (X14 : BufTy.Contents (Elt F) arg14.view.ty) (X15 : BufTy.Contents (Elt F) arg15.view.ty) (X16 : BufTy.Contents (Elt F) arg16.view.ty) :
    Gen.LoopInvTy_k0_t3 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v18 v20 v22 v43 v61 v79 v97 v100 v103 v106 v109 v110 c4_i32_48 v112 v115 v116 where
  inv k _ := iprop((arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg16.view.loc (c : Thread nD τ) ↦[arg16.view.set]{fullShare} f) ∗ ⌜f = stored arg16.view (fun k => tripPieces k (arg13.view.read (Elt F) X13) (arg14.view.read (Elt F) X14) (arg15.view.read (Elt F) X15) v43 v61 v79 v97 v100 v103 v106 v109 (k0_pay1 v18 v110 c4_i32_48 v112 v115 v116) (k0_pay2 v18) (k0_pay3 v20 v22)) X16 k⌝))
  step k acc := by
    iintro ⟨H13, H14, H15, ⟨%f16, H16, %e16⟩⟩
    iapply ((trip3 𝒱 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v18 v20 v22 v43 v61 v79 v97 v100 v103 v106 v109 v110 c4_i32_48 v112 v115 v116 k X13 X14 X15 f16).trans (wp_mono (Q' := fun _ => iprop((arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg16.view.loc (c : Thread nD τ) ↦[arg16.view.set]{fullShare} f) ∗ ⌜f = stored arg16.view (fun k => tripPieces k (arg13.view.read (Elt F) X13) (arg14.view.read (Elt F) X14) (arg15.view.read (Elt F) X15) v43 v61 v79 v97 v100 v103 v106 v109 (k0_pay1 v18 v110 c4_i32_48 v112 v115 v116) (k0_pay2 v18) (k0_pay3 v20 v22)) X16 (k.val + 1)⌝))) _ _ _ (fun _ => by
      iintro ⟨H13, H14, H15, ⟨%L16, H16, %l16⟩⟩
      isplitl [H13]; · iexact H13
      isplitl [H14]; · iexact H14
      isplitl [H15]; · iexact H15
      · iexists _
        isplitl [H16]; · iexact H16
        ipureintro
        rw [l16, e16]; exact (stored_succ _ _ _ k).symm
      ))) $$ [H13 H14 H15 H16]
    isplitl [H13]; · iexact H13
    isplitl [H14]; · iexact H14
    isplitl [H15]; · iexact H15
    iexact H16

/-- The output loop: what it reads stays, what it writes holds what the trips so far stored. -/
@[sl_loop] def loopInv_k0_t4  (X16 : BufTy.Contents (Elt F) arg16.view.ty) (X10 : BufTy.Contents (Elt F) arg10.view.ty) :
    Gen.LoopInvTy_k0_t4 (F := F) Unit ℕ (UR sig nD τ) ℕ 𝒱 c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  where
  inv k _ := iprop((arg16.view.loc (c : Thread nD τ) ↦[arg16.view.set]{fullShare} X16) ∗ (∃ f, (arg10.view.loc (c : Thread nD τ) ↦[arg10.view.set]{fullShare} f) ∗ ⌜f = stored arg10.view (fun k => oPieces k (arg16.view.read (Elt F) X16)) X10 k⌝))
  step k acc := by
    iintro ⟨H16, ⟨%f10, H10, %e10⟩⟩
    iapply ((trip4 𝒱 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16  k X16 f10).trans (wp_mono (Q' := fun _ => iprop((arg16.view.loc (c : Thread nD τ) ↦[arg16.view.set]{fullShare} X16) ∗ (∃ f, (arg10.view.loc (c : Thread nD τ) ↦[arg10.view.set]{fullShare} f) ∗ ⌜f = stored arg10.view (fun k => oPieces k (arg16.view.read (Elt F) X16)) X10 (k.val + 1)⌝))) _ _ _ (fun _ => by
      iintro ⟨H16, ⟨%L10, H10, %l10⟩⟩
      isplitl [H16]; · iexact H16
      · iexists _
        isplitl [H10]; · iexact H10
        ipureintro
        rw [l10, e10]; exact (stored_succ _ _ _ k).symm
      ))) $$ [H16 H10]
    isplitl [H16]; · iexact H16
    iexact H10

end Cert.KernelIdeal.Val

end
-- ==== Proof.GatherValue.lean ====
/- What the gathering loop leaves: the query words row by row, and the key words with their bytes exchanged four by four. -/
module

public import proofs.«01_k».proof.Proof.Gather
public import proofs.«01_k».proof.Proof.Words

@[expose] public section

noncomputable section

namespace Cert.KernelIdeal.Val

open Cert.KernelIdeal Cert.KernelIdeal.Gen Cert.Attn
open Idealize.ShloMosaic

/-- Byte `j'` of the word gathered from byte `j` of four words is byte `j` of the `j'`-th. -/
theorem byte_gather (j j' : Fin 4) (w : Fin 4 → BitVec 32) : byte (gather j (w 0) (w 1) (w 2) (w 3)) j' = byte (w j') j := by
  apply BitVec.eq_of_getLsbD_eq
  intro q hq
  have hq' : q = 0 ∨ q = 1 ∨ q = 2 ∨ q = 3 ∨ q = 4 ∨ q = 5 ∨ q = 6 ∨ q = 7 := by omega
  fin_cases j <;> fin_cases j' <;>
    rcases hq' with rfl | rfl | rfl | rfl | rfl | rfl | rfl | rfl <;>
    simp [gather, evens, odds, byte, IntOp.ori, IntOp.andi, IntOp.shli, IntOp.shrui, IntOp.shrsi, Scalar.xori, IntOp.xori, BitVec.getLsbD_sshiftRight, BitVec.getElem_sshiftRight]

theorem cast_self (v : S8x128.Idx → BitVec 32) (h : S8x128.ShapeCasts S8x128) : shapeCast S8x128 v h = v := by
  funext x; pointwise

variable {F : FTy → Type} [FloatOps F] [Named F]
variable (k : Fin k0_t1_loop.trips) (B : S1x2x128x8x128.Idx → Elt F .i32)

theorem wordRows_apply (a : Fin 2) (j : Fin 4) (p u : Fin 2) (s : Fin 8) (r : Fin 128) :
    wordRows k B a j p u (ix5 0 0 0 s r) = at5 B 0 a (16 * k + 4 * j + 2 * p + u) s r := by
  have h2 := k0_off2_eq k j p u
  have h4 := k0_off4_eq k j p u
  match a with
  | 0 =>
    refine at5_of B _ _ _ _ _ _ ?_ ?_ ?_ ?_ ?_
    · exact (congrArg (fun o : Fin 5 → ℕ => o 0 + 1 * 0) h2).trans (rfl)
    · exact (congrArg (fun o : Fin 5 → ℕ => o 1 + 1 * 0) h2).trans (rfl)
    · exact (congrArg (fun o : Fin 5 → ℕ => o 2 + 1 * 0) h2).trans (rfl)
    · exact (congrArg (fun o : Fin 5 → ℕ => o 3 + 1 * s.val) h2).trans (by show 0 + 1 * s.val = _; omega)
    · exact (congrArg (fun o : Fin 5 → ℕ => o 4 + 1 * r.val) h2).trans (by show 0 + 1 * r.val = _; omega)
  | 1 =>
    refine at5_of B _ _ _ _ _ _ ?_ ?_ ?_ ?_ ?_
    · exact (congrArg (fun o : Fin 5 → ℕ => o 0 + 1 * 0) h4).trans (rfl)
    · exact (congrArg (fun o : Fin 5 → ℕ => o 1 + 1 * 0) h4).trans (rfl)
    · exact (congrArg (fun o : Fin 5 → ℕ => o 2 + 1 * 0) h4).trans (rfl)
    · exact (congrArg (fun o : Fin 5 → ℕ => o 3 + 1 * s.val) h4).trans (by show 0 + 1 * s.val = _; omega)
    · exact (congrArg (fun o : Fin 5 → ℕ => o 4 + 1 * r.val) h4).trans (by show 0 + 1 * r.val = _; omega)

theorem words_apply (a : Fin 2) (j : Fin 4) (p u : Fin 2) (s : Fin 8) (r : Fin 128) :
    words k B a j p u (ix2 s r) = at5 B 0 a (16 * k + 4 * j + 2 * p + u) s r := by
  rw [← wordRows_apply]
  pointwise [words]

/-- The query words row by row: rows `12 (128 a + t)` and on hold the words of token tile `t`, half `a`. -/
def G11 (y : S3072x128.Idx) : Elt F .i32 :=
  at5 B 0 ((y 0).val / 12 / 128) ((y 0).val / 12 % 128) ((y 0).val % 12) (y 1).val

/-- The key words, byte `i` of four neighbouring token tiles of one chunk in one word. -/
def G12 (y : S2048x128.Idx) : Elt F .i32 :=
  let w (j : Fin 4) : BitVec 32 := at5 B 0 ((y 0).val % 64 / 32) (((y 0).val / 256 * 4 + j) * 4 + (y 0).val / 64 % 4) ((y 0).val % 32 / 4) (y 1).val
  gather (Fin.ofNat 4 ((y 0).val % 4)) (w 0) (w 1) (w 2) (w 3)

theorem qaPieces_agree : ∀ p ∈ qaPieces k B, ∀ x, p.2 x = G11 B (p.1.emb x) := by
  intro p hp x
  simp only [qaPieces, List.mem_flatten, List.mem_ofFn] at hp
  obtain ⟨_, ⟨p, rfl⟩, hp⟩ := hp
  simp only [List.mem_flatten, List.mem_ofFn] at hp
  obtain ⟨_, ⟨j, rfl⟩, hp⟩ := hp
  simp only [List.mem_flatten, List.mem_ofFn] at hp
  obtain ⟨_, ⟨a, rfl⟩, hp⟩ := hp
  obtain ⟨u, rfl⟩ := List.mem_ofFn.1 hp
  generalize a.rev = a, j.rev = j, p.rev = p, u.rev = u
  obtain ⟨s, r, rfl⟩ : ∃ (s : Fin 8) (r : Fin 128), x = ix2 s r := ⟨x 0, x 1, eq_ix2 x⟩
  have hk : k.val < 8 := k.isLt
  have h3 := k0_off3_eq k a j p
  have h0 : ((qaRect k a j p u).emb (ix2 s r) 0).val = 1536 * a + 192 * k + 48 * j + 24 * p + 12 * u + s := by
    refine (congrArg (fun o : Fin 2 → ℕ => o 0 + 12 * u.val + 1 * s.val) h3).trans ?_
    show _ + 12 * u.val + 1 * s.val = _; rw [one_mul]; rfl
  have h1 : ((qaRect k a j p u).emb (ix2 s r) 1).val = r := by
    refine (congrArg (fun o : Fin 2 → ℕ => o 1 + 0 + 1 * r.val) h3).trans ?_
    show 0 + 0 + 1 * r.val = _; omega
  have e : (qaPiece k B a j p u).2 (ix2 s r) = words k B a j p u (ix2 s r) := by
    exact congrFun (cast_self (words k B a j p u) shapeCasts_S8x128_S8x128) (ix2 s r)
  show (qaPiece k B a j p u).2 (ix2 s r) = G11 B ((qaRect k a j p u).emb (ix2 s r))
  rw [e, words_apply, G11, h0, h1]
  have := s.isLt; have := a.isLt; have := j.isLt; have := p.isLt; have := u.isLt
  congr 1 <;> omega

theorem kaPieces_agree : ∀ p ∈ kaPieces k B, ∀ x, p.2 x = G12 B (p.1.emb x) := by
  intro p hp x
  simp only [kaPieces, List.mem_flatten, List.mem_ofFn] at hp
  obtain ⟨_, ⟨p, rfl⟩, hp⟩ := hp
  simp only [List.mem_flatten, List.mem_ofFn] at hp
  obtain ⟨_, ⟨a, rfl⟩, hp⟩ := hp
  simp only [List.mem_flatten, List.mem_ofFn] at hp
  obtain ⟨_, ⟨u, rfl⟩, hp⟩ := hp
  obtain ⟨j, rfl⟩ := List.mem_ofFn.1 hp
  generalize a.rev = a, j.rev = j, p.rev = p, u.rev = u
  obtain ⟨s, r, rfl⟩ : ∃ (s : Fin 8) (r : Fin 128), x = ix2 s r := ⟨x 0, x 1, eq_ix2 x⟩
  have hk : k.val < 8 := k.isLt
  have h5 := k0_off5_eq k p u a
  have h0 : ((kaRect k a p u j).emb (ix2 s r) 0).val = 256 * k + 128 * p + 64 * u + 32 * a + j + 4 * s := by
    exact congrArg (fun o : Fin 2 → ℕ => o 0 + j.val + 4 * s.val) h5
  have h1 : ((kaRect k a p u j).emb (ix2 s r) 1).val = r := by
    refine (congrArg (fun o : Fin 2 → ℕ => o 1 + 0 + 1 * r.val) h5).trans ?_
    show 0 + 0 + 1 * r.val = _; omega
  have e : (kaPiece k B a p u j).2 (ix2 s r) = gather j (words k B a 0 p u (ix2 s r)) (words k B a 1 p u (ix2 s r)) (words k B a 2 p u (ix2 s r)) (words k B a 3 p u (ix2 s r)) := by
    exact congrFun (cast_self (fun y => gather j (words k B a 0 p u y) (words k B a 1 p u y) (words k B a 2 p u y) (words k B a 3 p u y)) shapeCasts_S8x128_S8x128) (ix2 s r)
  show (kaPiece k B a p u j).2 (ix2 s r) = G12 B ((kaRect k a p u j).emb (ix2 s r))
  have := s.isLt; have := a.isLt; have hj := j.isLt; have := p.isLt; have := u.isLt
  have hw (j' : Fin 4) : words k B a j' p u (ix2 s r) = at5 B 0 ((256 * k.val + 128 * p + 64 * u + 32 * a + j + 4 * s) % 64 / 32)
      (((256 * k.val + 128 * p + 64 * u + 32 * a + j + 4 * s) / 256 * 4 + j') * 4 + (256 * k.val + 128 * p + 64 * u + 32 * a + j + 4 * s) / 64 % 4)
      ((256 * k.val + 128 * p + 64 * u + 32 * a + j + 4 * s) % 32 / 4) r := by
    rw [words_apply]
    congr 1 <;> omega
  have ej : Fin.ofNat 4 ((256 * k.val + 128 * p + 64 * u + 32 * a + j + 4 * s) % 4) = j := Fin.ext (by
    show _ % 4 = j.val; omega)
  rw [e, hw, hw, hw, hw, G12, h0, h1]
  dsimp only
  rw [ej]

theorem qaPieces_mem (y : S3072x128.Idx) (h : (y 0).val / 12 % 128 / 16 = k.val) (h8 : (y 0).val % 12 < 8) : ∃ p ∈ qaPieces k B, y ∈ p.1.set := by
  have hk : k.val < 8 := k.isLt
  have hy : (y 0).val < 3072 := (y 0).isLt
  obtain ⟨T, hT⟩ : ∃ T, T = (y 0).val / 12 % 16 := ⟨_, rfl⟩
  let a : Fin 2 := ⟨(y 0).val / 12 / 128, by omega⟩
  let j : Fin 4 := ⟨T / 4, by omega⟩
  let p : Fin 2 := ⟨T / 2 % 2, by omega⟩
  let u : Fin 2 := ⟨T % 2, by omega⟩
  refine ⟨qaPiece k B a j p u, ?_, ?_⟩
  · simp only [qaPieces, List.mem_flatten, List.mem_ofFn]
    refine ⟨_, ⟨p.rev, rfl⟩, ?_⟩
    simp only [List.mem_flatten, List.mem_ofFn]
    refine ⟨_, ⟨j.rev, rfl⟩, ?_⟩
    simp only [List.mem_flatten, List.mem_ofFn]
    refine ⟨_, ⟨a.rev, rfl⟩, List.mem_ofFn.2 ⟨u.rev, ?_⟩⟩
    simp only [Fin.rev_rev]
  · have h3 := k0_off3_eq k a j p
    refine (LoadRect.mem_set _).2 fun ax => ?_
    match ax with
    | ⟨0, _⟩ =>
      refine ⟨(y 0).val % 12, h8, ?_⟩
      refine Eq.trans ?_ (congrArg (fun o : Fin 2 → ℕ => o 0 + 12 * (T % 2) + 1 * ((y 0).val % 12)) h3).symm
      show (y 0).val = 1536 * ((y 0).val / 12 / 128) + 192 * k.val + 48 * (T / 4) + 24 * (T / 2 % 2) + 12 * (T % 2) + 1 * ((y 0).val % 12)
      omega
    | ⟨1, _⟩ =>
      refine ⟨(y 1).val, (y 1).isLt, ?_⟩
      refine Eq.trans ?_ (congrArg (fun o : Fin 2 → ℕ => o 1 + 0 + 1 * (y 1).val) h3).symm
      show (y 1).val = 0 + 0 + 1 * (y 1).val; omega

theorem kaPieces_mem (y : S2048x128.Idx) (h : (y 0).val / 256 = k.val) : ∃ p ∈ kaPieces k B, y ∈ p.1.set := by
  have hk : k.val < 8 := k.isLt
  let a : Fin 2 := ⟨(y 0).val % 64 / 32, by omega⟩
  let j : Fin 4 := ⟨(y 0).val % 4, by omega⟩
  let p : Fin 2 := ⟨(y 0).val / 128 % 2, by omega⟩
  let u : Fin 2 := ⟨(y 0).val / 64 % 2, by omega⟩
  refine ⟨kaPiece k B a p u j, ?_, ?_⟩
  · simp only [kaPieces, List.mem_flatten, List.mem_ofFn]
    refine ⟨_, ⟨p.rev, rfl⟩, ?_⟩
    simp only [List.mem_flatten, List.mem_ofFn]
    refine ⟨_, ⟨a.rev, rfl⟩, ?_⟩
    simp only [List.mem_flatten, List.mem_ofFn]
    refine ⟨_, ⟨u.rev, rfl⟩, List.mem_ofFn.2 ⟨j.rev, ?_⟩⟩
    simp only [Fin.rev_rev]
  · have h5 := k0_off5_eq k p u a
    refine (LoadRect.mem_set _).2 fun ax => ?_
    match ax with
    | ⟨0, _⟩ =>
      refine ⟨(y 0).val % 32 / 4, by show _ < 8; omega, ?_⟩
      refine Eq.trans ?_ (congrArg (fun o : Fin 2 → ℕ => o 0 + (y 0).val % 4 + 4 * ((y 0).val % 32 / 4)) h5).symm
      show (y 0).val = 256 * k.val + 128 * ((y 0).val / 128 % 2) + 64 * ((y 0).val / 64 % 2) + 32 * ((y 0).val % 64 / 32) + (y 0).val % 4 + 4 * ((y 0).val % 32 / 4)
      omega
    | ⟨1, _⟩ =>
      refine ⟨(y 1).val, (y 1).isLt, ?_⟩
      refine Eq.trans ?_ (congrArg (fun o : Fin 2 → ℕ => o 1 + 0 + 1 * (y 1).val) h5).symm
      show (y 1).val = 0 + 0 + 1 * (y 1).val; omega

end Cert.KernelIdeal.Val

end
-- ==== Proof.RepackValue.lean ====
/- What the transposing loop and the output loop leave over the reals: the arrays they read, transposed tile by tile. -/
module

public import proofs.«01_k».proof.Proof.Repack

@[expose] public section

noncomputable section

namespace Cert.KernelIdeal.Val

open Cert.KernelIdeal Cert.KernelIdeal.Gen Cert.Attn
open Idealize.ShloMosaic

section
variable (k : Fin k0_t2_loop.trips) (A11 : S3072x128.Idx → Elt Ideal .i32) (A12 : S2048x128.Idx → Elt Ideal .i32)
  (B6 B7 B8 B9 : S1x8x32x1x8x128.Idx → Elt Ideal .bf16)

theorem qaRows_apply (s : Fin 8) (a b : Fin 128) : qaRows k A11 s (ix2 a b) = at2 A11 (1536 * k + s + 12 * a) b := by
  have h := k0_off6_eq k
  refine at2_of A11 _ _ _ ?_ ?_
  · exact congrArg (fun o : Fin 2 → ℕ => o 0 + s.val + 12 * a.val) h
  · refine (congrArg (fun o : Fin 2 → ℕ => o 1 + 0 + 1 * b.val) h).trans ?_
    show 0 + 0 + 1 * b.val = _; omega

theorem kaRows_apply (s : Fin 8) (a b : Fin 128) : kaRows k A12 s (ix2 a b) = at2 A12 (1024 * k + 128 * s + a) b := by
  have h := k0_off8_eq k
  refine at2_of A12 _ _ _ ?_ ?_
  · refine (congrArg (fun o : Fin 2 → ℕ => o 0 + 128 * s.val + 1 * a.val) h).trans ?_
    show 1024 * k.val + 128 * s.val + 1 * a.val = _; omega
  · refine (congrArg (fun o : Fin 2 → ℕ => o 1 + 0 + 1 * b.val) h).trans ?_
    show 0 + 0 + 1 * b.val = _; omega

theorem tRect_emb (s : Fin 8) (a b : Fin 128) :
    ((tRect k s).emb (ix2 a b) 0).val = 1056 * k + 132 * s + a ∧ ((tRect k s).emb (ix2 a b) 1).val = b := by
  have h := k0_off7_eq k
  constructor
  · refine (congrArg (fun o : Fin 2 → ℕ => o 0 + 132 * s.val + 1 * a.val) h).trans ?_
    show 1056 * k.val + 132 * s.val + 1 * a.val = _; omega
  · refine (congrArg (fun o : Fin 2 → ℕ => o 1 + 0 + 1 * b.val) h).trans ?_
    show 0 + 0 + 1 * b.val = _; omega

/-- The transposed query words: row `132 w + p` holds word `w` of pixel `p` over the token tiles. -/
def G13 (y : S2112x128.Idx) : Elt Ideal .i32 := at2 A11 ((y 0).val / 132 / 8 * 1536 + (y 1).val * 12 + (y 0).val / 132 % 8) ((y 0).val % 132)

/-- The transposed key words. -/
def G14 (y : S2112x128.Idx) : Elt Ideal .i32 := at2 A12 ((y 0).val / 132 * 128 + (y 1).val) ((y 0).val % 132)

theorem qtPieces_agree : ∀ p ∈ qtPieces k A11, ∀ x, p.2 x = G13 A11 (p.1.emb x) := by
  intro p hp x
  obtain ⟨s, rfl⟩ := List.mem_ofFn.1 hp
  generalize s.rev = s
  obtain ⟨a, b, rfl⟩ : ∃ (a b : Fin 128), x = ix2 a b := ⟨x 0, x 1, eq_ix2 x⟩
  have hk : k.val < 2 := k.isLt
  obtain ⟨h0, h1⟩ := tRect_emb k s a b
  have e : k0_pay183 (qaRows k A11 s) (ix2 a b) = qaRows k A11 s (ix2 b a) := by pointwise [k0_pay183]
  show k0_pay183 (qaRows k A11 s) (ix2 a b) = G13 A11 ((tRect k s).emb (ix2 a b))
  rw [e, qaRows_apply, G13, h0, h1]
  exact at2_congr _ (by omega) (by omega)

theorem ktPieces_agree : ∀ p ∈ ktPieces k A12, ∀ x, p.2 x = G14 A12 (p.1.emb x) := by
  intro p hp x
  obtain ⟨s, rfl⟩ := List.mem_ofFn.1 hp
  generalize s.rev = s
  obtain ⟨a, b, rfl⟩ : ∃ (a b : Fin 128), x = ix2 a b := ⟨x 0, x 1, eq_ix2 x⟩
  have hk : k.val < 2 := k.isLt
  obtain ⟨h0, h1⟩ := tRect_emb k s a b
  have e : k0_pay184 (kaRows k A12 s) (ix2 a b) = kaRows k A12 s (ix2 b a) := by pointwise [k0_pay184]
  show k0_pay184 (kaRows k A12 s) (ix2 a b) = G14 A12 ((tRect k s).emb (ix2 a b))
  rw [e, kaRows_apply, G14, h0, h1]
  exact at2_congr _ (by omega) (by omega)

theorem mem_tRect (y : S2112x128.Idx) (h : (y 0).val / 1056 = k.val) (hp : (y 0).val % 132 < 128) :
    ∃ s : Fin 8, y ∈ (tRect k s.rev).set := by
  refine ⟨Fin.rev ⟨(y 0).val / 132 % 8, by omega⟩, (LoadRect.mem_set _).2 fun ax => ?_⟩
  rw [Fin.rev_rev]
  have h7 := k0_off7_eq k
  match ax with
  | ⟨0, _⟩ =>
    refine ⟨(y 0).val % 132, hp, ?_⟩
    refine Eq.trans ?_ (congrArg (fun o : Fin 2 → ℕ => o 0 + 132 * ((y 0).val / 132 % 8) + 1 * ((y 0).val % 132)) h7).symm
    show (y 0).val = 1056 * k.val + 132 * ((y 0).val / 132 % 8) + 1 * ((y 0).val % 132)
    omega
  | ⟨1, _⟩ =>
    refine ⟨(y 1).val, (y 1).isLt, ?_⟩
    refine Eq.trans ?_ (congrArg (fun o : Fin 2 → ℕ => o 1 + 0 + 1 * (y 1).val) h7).symm
    show (y 1).val = 0 + 0 + 1 * (y 1).val; omega

theorem qtPieces_mem (y : S2112x128.Idx) (h : (y 0).val / 1056 = k.val) (hp : (y 0).val % 132 < 128) : ∃ p ∈ qtPieces k A11, y ∈ p.1.set := by
  obtain ⟨s, hs⟩ := mem_tRect k y h hp
  exact ⟨_, List.mem_ofFn.2 ⟨s, rfl⟩, hs⟩

theorem ktPieces_mem (y : S2112x128.Idx) (h : (y 0).val / 1056 = k.val) (hp : (y 0).val % 132 < 128) : ∃ p ∈ ktPieces k A12, y ∈ p.1.set := by
  obtain ⟨s, hs⟩ := mem_tRect k y h hp
  exact ⟨_, List.mem_ofFn.2 ⟨s, rfl⟩, hs⟩

theorem vRows_apply (w : Fin 16) (B : S1x8x32x1x8x128.Idx → Elt Ideal .bf16) (f : Fin 32) (j : Fin 2) (l : Fin 128) :
    vRows k w B (ix6 0 0 f 0 j l) = at6 B 0 (4 * k + w / 4) f 0 (2 * (w % 4) + j) l := by
  have h := vOff_eq k w
  refine at6_of B _ _ _ _ _ _ _ ?_ ?_ ?_ ?_ ?_ ?_
  · exact congrArg (fun o : Fin 6 → ℕ => o 0 + 1 * 0) h
  · exact congrArg (fun o : Fin 6 → ℕ => o 1 + 1 * 0) h
  · refine (congrArg (fun o : Fin 6 → ℕ => o 2 + 1 * f.val) h).trans ?_
    show 0 + 1 * f.val = _; omega
  · exact congrArg (fun o : Fin 6 → ℕ => o 3 + 1 * 0) h
  · refine (congrArg (fun o : Fin 6 → ℕ => o 4 + 1 * j.val) h).trans ?_
    show 2 * (w.val % 4) + 1 * j.val = _; omega
  · refine (congrArg (fun o : Fin 6 → ℕ => o 5 + 1 * l.val) h).trans ?_
    show 0 + 1 * l.val = _; omega

/-- One of four, by number. -/
def pick4 {α : Type*} (x0 x1 x2 x3 : α) (n : ℕ) : α := if n = 0 then x0 else if n = 1 then x1 else if n = 2 then x2 else x3

theorem pay185_apply (r6 r7 r8 r9 : Vec Ideal S1x1x32x1x2x128 .bf16) (t p : Fin 128) :
    k0_pay185 r6 r7 r8 r9 (ix2 t p) = pick4 r6 r7 r8 r9 (t / 32) (ix6 0 0 ⟨t % 32, Nat.mod_lt _ (by decide)⟩ 0 0 p) := by
  have ht := t.isLt
  have hc : t.val / 32 = 0 ∨ t.val / 32 = 1 ∨ t.val / 32 = 2 ∨ t.val / 32 = 3 := by omega
  have cut (r : Vec Ideal S1x1x32x1x2x128 .bf16) (a b : Fin 32) (j : Fin 2) (h : a = b) : r (ix6 0 0 a 0 j p) = r (ix6 0 0 b 0 j p) := by rw [h]
  pointwise [k0_pay185]
  rcases hc with h | h | h | h <;> rw [h] <;> show _ = (if _ then _ else _ : Vec Ideal S1x1x32x1x2x128 .bf16) _ <;> simp only [reduceIte, Nat.succ_ne_zero, OfNat.ofNat_ne_zero, OfNat.ofNat_ne_one, OfNat.one_ne_ofNat, one_ne_zero] <;>
    split_ifs <;> first | omega | (refine cut _ _ _ _ (Fin.ext ?_); dsimp only; omega)

theorem pay186_apply (r6 r7 r8 r9 : Vec Ideal S1x1x32x1x2x128 .bf16) (t p : Fin 128) :
    k0_pay186 r6 r7 r8 r9 (ix2 t p) = pick4 r6 r7 r8 r9 (t / 32) (ix6 0 0 ⟨t % 32, Nat.mod_lt _ (by decide)⟩ 0 1 p) := by
  have ht := t.isLt
  have hc : t.val / 32 = 0 ∨ t.val / 32 = 1 ∨ t.val / 32 = 2 ∨ t.val / 32 = 3 := by omega
  have cut (r : Vec Ideal S1x1x32x1x2x128 .bf16) (a b : Fin 32) (j : Fin 2) (h : a = b) : r (ix6 0 0 a 0 j p) = r (ix6 0 0 b 0 j p) := by rw [h]
  pointwise [k0_pay186]
  rcases hc with h | h | h | h <;> rw [h] <;> show _ = (if _ then _ else _ : Vec Ideal S1x1x32x1x2x128 .bf16) _ <;> simp only [reduceIte, Nat.succ_ne_zero, OfNat.ofNat_ne_zero, OfNat.ofNat_ne_one, OfNat.one_ne_ofNat, one_ne_zero] <;>
    split_ifs <;> first | omega | (refine cut _ _ _ _ (Fin.ext ?_); dsimp only; omega)

theorem pay187_apply (lo hi : FVec Ideal S128x128 .f32) (p : Fin 128) (j : Fin 2) (t : Fin 128) :
    k0_pay187 lo hi (ix3 p j t) = if j = 0 then lo (ix2 t p) else hi (ix2 t p) := by
  fin_cases j <;> pointwise [k0_pay187] <;> rfl

/-- The transposed values: row `132 w + p`, half `j` holds channel `2 w + j` of pixel `p` over chunk and key frame. -/
def G15 (y : S4224x2x128.Idx) : Elt Ideal .bf16 :=
  at6 (pick4 B6 B7 B8 B9 ((y 2).val / 32)) 0 ((y 0).val / 132 / 4) ((y 2).val % 32) 0 (2 * ((y 0).val / 132 % 4) + (y 1).val) ((y 0).val % 132)

theorem vtPieces_agree : ∀ p ∈ vtPieces k B6 B7 B8 B9, ∀ x, p.2 x = G15 B6 B7 B8 B9 (p.1.emb x) := by
  intro p hp x
  obtain ⟨w, rfl⟩ := List.mem_ofFn.1 hp
  generalize w.rev = w
  obtain ⟨p, j, t, rfl⟩ : ∃ (p : Fin 128) (j : Fin 2) (t : Fin 128), x = ix3 p j t := ⟨x 0, x 1, x 2, eq_ix3 x⟩
  have hk : k.val < 2 := k.isLt
  have h := k0_off11_eq k
  have h0 : ((vtRect k w).emb (ix3 p j t) 0).val = 2112 * k + 132 * w + p := by
    refine (congrArg (fun o : Fin 3 → ℕ => o 0 + 132 * w.val + 1 * p.val) h).trans ?_
    show 2112 * k.val + 132 * w.val + 1 * p.val = _; omega
  have h1 : ((vtRect k w).emb (ix3 p j t) 1).val = j := by
    refine (congrArg (fun o : Fin 3 → ℕ => o 1 + 0 + 1 * j.val) h).trans ?_
    show 0 + 0 + 1 * j.val = _; omega
  have h2 : ((vtRect k w).emb (ix3 p j t) 2).val = t := by
    refine (congrArg (fun o : Fin 3 → ℕ => o 2 + 0 + 1 * t.val) h).trans ?_
    show 0 + 0 + 1 * t.val = _; omega
  show k0_pay187 _ _ (ix3 p j t) = G15 B6 B7 B8 B9 ((vtRect k w).emb (ix3 p j t))
  rw [G15, h0, h1, h2, pay187_apply, pay185_apply, pay186_apply]
  have e1 : (2112 * k.val + 132 * w + p) % 132 = p := by omega
  have e2 : (2112 * k.val + 132 * w + p) / 132 = 16 * k + w := by omega
  have e3 : (16 * k.val + w) / 4 = 4 * k + w / 4 := by omega
  have e4 : (16 * k.val + w) % 4 = w % 4 := by omega
  rw [e1, e2, e3, e4]
  have key (j : Fin 2) : pick4 (vRows k w B6) (vRows k w B7) (vRows k w B8) (vRows k w B9) (t / 32) (ix6 0 0 ⟨t % 32, Nat.mod_lt _ (by decide)⟩ 0 j p)
      = at6 (pick4 B6 B7 B8 B9 (t.val / 32)) 0 (4 * k + w / 4) (t % 32) 0 (2 * (w % 4) + j) p := by
    unfold pick4
    split_ifs <;> exact vRows_apply k w _ _ _ _
  have hj : j = 0 ∨ j = 1 := by omega
  rcases hj with rfl | rfl
  · exact key 0
  · exact key 1

theorem vtPieces_mem (y : S4224x2x128.Idx) (h : (y 0).val / 2112 = k.val) (hp : (y 0).val % 132 < 128) :
    ∃ p ∈ vtPieces k B6 B7 B8 B9, y ∈ p.1.set := by
  refine ⟨_, List.mem_ofFn.2 ⟨Fin.rev ⟨(y 0).val / 132 % 16, by omega⟩, rfl⟩, (LoadRect.mem_set _).2 fun ax => ?_⟩
  rw [Fin.rev_rev]
  have h7 := k0_off11_eq k
  match ax with
  | ⟨0, _⟩ =>
    refine ⟨(y 0).val % 132, hp, ?_⟩
    refine Eq.trans ?_ (congrArg (fun o : Fin 3 → ℕ => o 0 + 132 * ((y 0).val / 132 % 16) + 1 * ((y 0).val % 132)) h7).symm
    show (y 0).val = 2112 * k.val + 132 * ((y 0).val / 132 % 16) + 1 * ((y 0).val % 132)
    omega
  | ⟨1, _⟩ =>
    refine ⟨(y 1).val, (y 1).isLt, ?_⟩
    refine Eq.trans ?_ (congrArg (fun o : Fin 3 → ℕ => o 1 + 0 + 1 * (y 1).val) h7).symm
    show (y 1).val = 0 + 0 + 1 * (y 1).val; omega
  | ⟨2, _⟩ =>
    refine ⟨(y 2).val, (y 2).isLt, ?_⟩
    refine Eq.trans ?_ (congrArg (fun o : Fin 3 → ℕ => o 2 + 0 + 1 * (y 2).val) h7).symm
    show (y 2).val = 0 + 0 + 1 * (y 2).val; omega
end

section
variable (k : Fin k0_t4_loop.trips) (A16 : S4224x2x128.Idx → Elt Ideal .bf16)

theorem otRows_apply (w : Fin 8) (l : Fin 128) (j : Fin 2) (t : Fin 128) :
    otRows k A16 w (ix3 l j t) = at3 A16 (1056 * k + 132 * w + l) j t := by
  have h := k0_off29_eq k
  refine at3_of A16 _ _ _ _ ?_ ?_ ?_
  · refine (congrArg (fun o : Fin 3 → ℕ => o 0 + 132 * w.val + 1 * l.val) h).trans ?_
    show 1056 * k.val + 132 * w.val + 1 * l.val = _; omega
  · refine (congrArg (fun o : Fin 3 → ℕ => o 1 + 0 + 1 * j.val) h).trans ?_
    show 0 + 0 + 1 * j.val = _; omega
  · refine (congrArg (fun o : Fin 3 → ℕ => o 2 + 0 + 1 * t.val) h).trans ?_
    show 0 + 0 + 1 * t.val = _; omega

theorem pay668_apply (v : Vec Ideal S128x2x128 .bf16) (t : Fin 128) (j : Fin 2) (l : Fin 128) :
    k0_pay668 v (ix5 0 0 t j l) = v (ix3 l j t) := by
  fin_cases j <;> pointwise [k0_pay668] <;> rfl

/-- The output block: channel `8 y1 + y3` of pixel `y4` at token tile `y2`. -/
def G10 (y : S1x8x128x8x128.Idx) : Elt Ideal .bf16 :=
  at3 A16 ((4 * (y 1).val + (y 3).val / 2) * 132 + (y 4).val) ((y 3).val % 2) (y 2).val

theorem oPieces_agree : ∀ p ∈ oPieces k A16, ∀ x, p.2 x = G10 A16 (p.1.emb x) := by
  intro p hp x
  obtain ⟨w, rfl⟩ := List.mem_ofFn.1 hp
  generalize w.rev = w
  obtain ⟨t, j, l, rfl⟩ : ∃ (t : Fin 128) (j : Fin 2) (l : Fin 128), x = ix5 0 0 t j l := by
    refine ⟨x 2, x 3, x 4, (eq_ix5 x).trans ?_⟩
    congr 1
    · exact Fin.ext (by have := (x 0).isLt; change _ < 1 at this; show (x 0).val = 0; omega)
    · exact Fin.ext (by have := (x 1).isLt; change _ < 1 at this; show (x 1).val = 0; omega)
  have hk : k.val < 4 := k.isLt
  have h := oOff_eq k w
  have h1 : ((oRect k w).emb (ix5 0 0 t j l) 1).val = 2 * k + w / 4 :=
    congrArg (fun o : Fin 5 → ℕ => o 1 + 1 * 0) h
  have h2 : ((oRect k w).emb (ix5 0 0 t j l) 2).val = t := by
    refine (congrArg (fun o : Fin 5 → ℕ => o 2 + 1 * t.val) h).trans ?_
    show 0 + 1 * t.val = _; omega
  have h3 : ((oRect k w).emb (ix5 0 0 t j l) 3).val = 2 * (w % 4) + j := by
    refine (congrArg (fun o : Fin 5 → ℕ => o 3 + 1 * j.val) h).trans ?_
    show 2 * (w.val % 4) + 1 * j.val = _; omega
  have h4 : ((oRect k w).emb (ix5 0 0 t j l) 4).val = l := by
    refine (congrArg (fun o : Fin 5 → ℕ => o 4 + 1 * l.val) h).trans ?_
    show 0 + 1 * l.val = _; omega
  show k0_pay668 _ (ix5 0 0 t j l) = G10 A16 ((oRect k w).emb (ix5 0 0 t j l))
  rw [G10, h1, h2, h3, h4, pay668_apply, otRows_apply]
  exact at3_congr _ (by omega) (by omega) rfl

theorem oPieces_mem (y : S1x8x128x8x128.Idx) (h : (y 1).val / 2 = k.val) : ∃ p ∈ oPieces k A16, y ∈ p.1.set := by
  have h3 : (y 3).val < 8 := (y 3).isLt
  refine ⟨_, List.mem_ofFn.2 ⟨Fin.rev ⟨4 * ((y 1).val % 2) + (y 3).val / 2, by omega⟩, rfl⟩, (LoadRect.mem_set _).2 fun ax => ?_⟩
  rw [Fin.rev_rev]
  have ho := oOff_eq k ⟨4 * ((y 1).val % 2) + (y 3).val / 2, by omega⟩
  match ax with
  | ⟨0, _⟩ =>
    have h0 : (y 0).val < 1 := (y 0).isLt
    refine ⟨0, Nat.one_pos, ?_⟩
    refine Eq.trans ?_ (congrArg (fun o : Fin 5 → ℕ => o 0 + 1 * 0) ho).symm
    show (y 0).val = 0; omega
  | ⟨1, _⟩ =>
    refine ⟨0, Nat.one_pos, ?_⟩
    refine Eq.trans ?_ (congrArg (fun o : Fin 5 → ℕ => o 1 + 1 * 0) ho).symm
    show (y 1).val = 2 * k.val + (4 * ((y 1).val % 2) + (y 3).val / 2) / 4; omega
  | ⟨2, _⟩ =>
    refine ⟨(y 2).val, (y 2).isLt, ?_⟩
    refine Eq.trans ?_ (congrArg (fun o : Fin 5 → ℕ => o 2 + 1 * (y 2).val) ho).symm
    show (y 2).val = 0 + 1 * (y 2).val; omega
  | ⟨3, _⟩ =>
    refine ⟨(y 3).val % 2, Nat.mod_lt _ (by decide), ?_⟩
    refine Eq.trans ?_ (congrArg (fun o : Fin 5 → ℕ => o 3 + 1 * ((y 3).val % 2)) ho).symm
    show (y 3).val = 2 * ((4 * ((y 1).val % 2) + (y 3).val / 2) % 4) + 1 * ((y 3).val % 2); omega
  | ⟨4, _⟩ =>
    refine ⟨(y 4).val, (y 4).isLt, ?_⟩
    refine Eq.trans ?_ (congrArg (fun o : Fin 5 → ℕ => o 4 + 1 * (y 4).val) ho).symm
    show (y 4).val = 0 + 1 * (y 4).val; omega
end

end Cert.KernelIdeal.Val

end
-- ==== Proof.BlockValue.lean ====
/- The output block over the reals, from the blocks the kernel is handed: the attention of each pixel at each channel. -/
module

public import proofs.«01_k».proof.Proof.Stored
public import proofs.«01_k».proof.Proof.GatherValue
public import proofs.«01_k».proof.Proof.RepackValue
public import proofs.«01_k».proof.Proof.PixelValue

@[expose] public section

noncomputable section

namespace Cert.KernelIdeal.Val

open Cert.KernelIdeal Cert.KernelIdeal.Gen Cert.KernelIdeal.Hand Cert.Attn
open Idealize.ShloMosaic

/-- Channel `d` of pixel `p` of token tile `t`, out of a block of packed codes. -/
def code (x : S1x2x128x8x128.Idx → BitVec 32) (t d p : ℕ) : EReal := f8 (at5 x 0 (d / 32) t (d / 4 % 8) p) (d % 4)

section
variable (x0 x1 : S1x2x128x8x128.Idx → Elt Ideal .i32) (x4 x5 x6 x7 : S1x8x32x1x8x128.Idx → Elt Ideal .bf16)
  (v136 : IVec S1x128 1) (v139 : IVec S32x128 1) (v143 : FVec Ideal S1x128 .f32)

/-- The attention of pixel `p` of token tile `t` (frame `t / 4`, chunk `t % 4`) at channel `d`. -/
def blockAt (d : ℕ) (t : Fin 128) (p : ℕ) : EReal :=
  ∑ g : Fin 32, at6 (pick4 x4 x5 x6 x7 (t % 4)) 0 (d / 8) g 0 (d % 8) p
    * softm v136 v139 v143 t (fun h => ∑ e : Fin 64, code x1 (4 * h + t % 4) e p * code x0 t e p) g

/-- The output block. -/
def block (y : S1x8x128x8x128.Idx) : Elt Ideal .bf16 :=
  blockAt x0 x1 x4 x5 x6 x7 v136 v139 v143 (8 * (y 1).val + (y 3).val) (y 2) (y 4).val

variable {A11 : S3072x128.Idx → Elt Ideal .i32} {A12 : S2048x128.Idx → Elt Ideal .i32} {A13 A14 : S2112x128.Idx → Elt Ideal .i32}
  {A15 A16 : S4224x2x128.Idx → Elt Ideal .bf16}

theorem at2_val {n0 n1 : ℕ} [NeZero n0] [NeZero n1] (a b : ℕ) (ha : a < n0) (hb : b < n1) :
    ((ix2 (Fin.ofNat n0 a) (Fin.ofNat n1 b) : (⟨2, ![n0, n1]⟩ : Shape).Idx) 0).val = a
      ∧ ((ix2 (Fin.ofNat n0 a) (Fin.ofNat n1 b) : (⟨2, ![n0, n1]⟩ : Shape).Idx) 1).val = b :=
  ⟨Nat.mod_eq_of_lt ha, Nat.mod_eq_of_lt hb⟩

theorem at3_val {n0 n1 n2 : ℕ} [NeZero n0] [NeZero n1] [NeZero n2] (a b c : ℕ) (ha : a < n0) (hb : b < n1) (hc : c < n2) :
    ((ix3 (Fin.ofNat n0 a) (Fin.ofNat n1 b) (Fin.ofNat n2 c) : (⟨3, ![n0, n1, n2]⟩ : Shape).Idx) 0).val = a
      ∧ ((ix3 (Fin.ofNat n0 a) (Fin.ofNat n1 b) (Fin.ofNat n2 c) : (⟨3, ![n0, n1, n2]⟩ : Shape).Idx) 1).val = b
      ∧ ((ix3 (Fin.ofNat n0 a) (Fin.ofNat n1 b) (Fin.ofNat n2 c) : (⟨3, ![n0, n1, n2]⟩ : Shape).Idx) 2).val = c :=
  ⟨Nat.mod_eq_of_lt ha, Nat.mod_eq_of_lt hb, Nat.mod_eq_of_lt hc⟩

/-- A transposed query word, out of the query block. -/
theorem word13 (H11 : ∀ y, (y 0).val % 12 < 8 → A11 y = G11 x0 y) (H13 : ∀ y, (y 0).val % 132 < 128 → A13 y = G13 A11 y)
    (p w t : ℕ) (hp : p < 128) (hw : w < 16) (ht : t < 128) : at2 A13 (p + 132 * w) t = at5 x0 0 (w / 8) t (w % 8) p := by
  obtain ⟨e0, e1⟩ := at2_val (n0 := 2112) (n1 := 128) (p + 132 * w) t (by omega) ht
  have h : (p + 132 * w) / 132 = w := by omega
  have h' : (p + 132 * w) % 132 = p := by omega
  rw [at2, H13 _ (by rw [e0, h']; exact hp), G13, e0, e1, h, h']
  obtain ⟨f0, f1⟩ := at2_val (n0 := 3072) (n1 := 128) (w / 8 * 1536 + t * 12 + w % 8) p (by omega) hp
  rw [at2, H11 _ (by rw [f0]; omega), G11, f0, f1]
  have g1 : (w / 8 * 1536 + t * 12 + w % 8) / 12 / 128 = w / 8 := by omega
  have g2 : (w / 8 * 1536 + t * 12 + w % 8) / 12 % 128 = t := by omega
  have g3 : (w / 8 * 1536 + t * 12 + w % 8) % 12 = w % 8 := by omega
  rw [g1, g2, g3]

/-- A byte of a transposed key word, out of the key block. -/
theorem code14 (H12 : ∀ y, A12 y = G12 x1 y) (H14 : ∀ y, (y 0).val % 132 < 128 → A14 y = G14 A12 y)
    (p c g d : ℕ) (hp : p < 128) (hc : c < 4) (hg : g < 32) (hd : d < 64) :
    f8 (at2 A14 (p + 132 * (c / 2) + 264 * (g / 4)) (c % 2 * 64 + d)) (g % 4) = code x1 (4 * g + c) d p := by
  obtain ⟨e0, e1⟩ := at2_val (n0 := 2112) (n1 := 128) (p + 132 * (c / 2) + 264 * (g / 4)) (c % 2 * 64 + d) (by omega) (by omega)
  have h : (p + 132 * (c / 2) + 264 * (g / 4)) / 132 = c / 2 + 2 * (g / 4) := by omega
  have h' : (p + 132 * (c / 2) + 264 * (g / 4)) % 132 = p := by omega
  rw [at2, H14 _ (by rw [e0, h']; exact hp), G14, e0, e1, h, h']
  obtain ⟨f0, f1⟩ := at2_val (n0 := 2048) (n1 := 128) ((c / 2 + 2 * (g / 4)) * 128 + (c % 2 * 64 + d)) p (by omega) hp
  rw [at2, H12, G12, f0, f1]
  have g1 : ((c / 2 + 2 * (g / 4)) * 128 + (c % 2 * 64 + d)) % 64 / 32 = d / 32 := by omega
  have g2 : ((c / 2 + 2 * (g / 4)) * 128 + (c % 2 * 64 + d)) / 256 = g / 4 := by omega
  have g3 : ((c / 2 + 2 * (g / 4)) * 128 + (c % 2 * 64 + d)) / 64 % 4 = c := by omega
  have g4 : ((c / 2 + 2 * (g / 4)) * 128 + (c % 2 * 64 + d)) % 32 / 4 = d / 4 % 8 := by omega
  have g5 : ((c / 2 + 2 * (g / 4)) * 128 + (c % 2 * 64 + d)) % 4 = d % 4 := by omega
  rw [g1, g2, g3, g4, g5]
  have hb := byte_gather (Fin.ofNat 4 (d % 4)) (Fin.ofNat 4 (g % 4))
    (fun j => at5 x1 0 (d / 32) ((g / 4 * 4 + j.val) * 4 + c) (d / 4 % 8) p)
  have j1 : (Fin.ofNat 4 (g % 4)).val = g % 4 := Nat.mod_eq_of_lt (Nat.mod_lt _ (by decide))
  have j2 : (Fin.ofNat 4 (d % 4)).val = d % 4 := Nat.mod_eq_of_lt (Nat.mod_lt _ (by decide))
  rw [j1, j2] at hb
  have j3 : (g / 4 * 4 + g % 4) * 4 + c = 4 * g + c := by omega
  rw [j3] at hb
  unfold f8 code f8
  exact congrArg (Ideal.ofBits .fp8e4m3) hb

theorem block_eq (H11 : ∀ y, (y 0).val % 12 < 8 → A11 y = G11 x0 y) (H12 : ∀ y, A12 y = G12 x1 y)
    (H13 : ∀ y, (y 0).val % 132 < 128 → A13 y = G13 A11 y) (H14 : ∀ y, (y 0).val % 132 < 128 → A14 y = G14 A12 y)
    (H15 : ∀ y, (y 0).val % 132 < 128 → A15 y = G15 x4 x5 x6 x7 y)
    (H16 : ∀ y, (y 0).val % 132 < 128 → A16 y = G16 A13 A14 A15 v136 v139 v143 y) (y : S1x8x128x8x128.Idx) :
    G10 A16 y = block x0 x1 x4 x5 x6 x7 v136 v139 v143 y := by
  have hy1 : (y 1).val < 8 := (y 1).isLt
  have hy2 : (y 2).val < 128 := (y 2).isLt
  have hy3 : (y 3).val < 8 := (y 3).isLt
  have hy4 : (y 4).val < 128 := (y 4).isLt
  rw [G10, block]
  generalize hd : 8 * (y 1).val + (y 3).val = d
  generalize hp : (y 4).val = p at *
  obtain ⟨t, ht⟩ : ∃ t : Fin 128, y 2 = t := ⟨_, rfl⟩
  rw [ht]
  obtain ⟨e0, e1, e2⟩ := at3_val (n0 := 4224) (n1 := 2) (n2 := 128) ((4 * (y 1).val + (y 3).val / 2) * 132 + p) ((y 3).val % 2) t.val (by omega) (by omega) t.isLt
  have h : ((4 * (y 1).val + (y 3).val / 2) * 132 + p) / 132 = d / 2 := by omega
  have h' : ((4 * (y 1).val + (y 3).val / 2) * 132 + p) % 132 = p := by omega
  have hdd : 2 * (d / 2) + (y 3).val % 2 = d := by omega
  rw [at3, H16 _ (by rw [e0, h']; exact hy4), G16, e0, e1, h, h', hdd]
  have et : (ix3 (Fin.ofNat 4224 ((4 * (y 1).val + (y 3).val / 2) * 132 + p)) (Fin.ofNat 2 ((y 3).val % 2)) (Fin.ofNat 128 t.val) : S4224x2x128.Idx) 2 = t :=
    Fin.ext e2
  rw [et, attn, blockAt]
  have hdl : d < 64 := by omega
  refine Finset.sum_congr rfl fun g _ => ?_
  have hg := g.isLt
  have htl := t.isLt
  congr 1
  · obtain ⟨f0, f1, f2⟩ := at3_val (n0 := 4224) (n1 := 2) (n2 := 128) (p + 132 * (d / 2)) (d % 2) (t % 4 * 32 + g) (by omega) (by omega) (by omega)
    have k0 : (p + 132 * (d / 2)) / 132 = d / 2 := by omega
    have k1 : (p + 132 * (d / 2)) % 132 = p := by omega
    rw [at3, H15 _ (by rw [f0, k1]; exact hy4), G15, f0, f1, f2, k0, k1]
    have k2 : (t.val % 4 * 32 + g.val) / 32 = t % 4 := by omega
    have k3 : (t.val % 4 * 32 + g.val) % 32 = g := by omega
    have k4 : d / 2 / 4 = d / 8 := by omega
    have k5 : 2 * (d / 2 % 4) + d % 2 = d % 8 := by omega
    rw [k2, k3, k4, k5]
  · refine congrArg (fun s => softm v136 v139 v143 t s g) (funext fun h => ?_)
    unfold score
    refine Finset.sum_congr rfl fun e _ => ?_
    have he := e.isLt
    rw [code14 x1 H12 H14 p (t % 4) h e hy4 (by omega) h.isLt he, word13 x0 H11 H13 p (e / 4) t hy4 (by omega) htl]
    unfold code
    have k1 : e.val / 4 / 8 = e / 32 := by omega
    rw [k1]
end

section
variable {sig' : RefSig} {κ : Kind} {sp : Space}

theorem read11 (v : View sig' κ sp S3072x128 .i32) (B : S1x2x128x8x128.Idx → Elt Ideal .i32) (X : v.ty.Contents (Elt Ideal)) (y : S3072x128.Idx)
    (hy : (y 0).val % 12 < 8) : v.read (Elt Ideal) (stored v (fun k => qaPieces k B) X k0_t1_loop.trips) y = G11 B y := by
  refine read_stored v _ X (G11 B) (fun k y => (y 0).val / 12 % 128 / 16 < k ∧ (y 0).val % 12 < 8) (fun y h => by omega)
    (fun k => qaPieces_agree k B) (fun k y h => ?_) _ le_rfl y ⟨by show _ < 8; omega, hy⟩
  by_cases e : (y 0).val / 12 % 128 / 16 = k
  · exact .inr (qaPieces_mem k B y e h.2)
  · exact .inl ⟨by omega, h.2⟩

theorem read12 (v : View sig' κ sp S2048x128 .i32) (B : S1x2x128x8x128.Idx → Elt Ideal .i32) (X : v.ty.Contents (Elt Ideal)) (y : S2048x128.Idx) :
    v.read (Elt Ideal) (stored v (fun k => kaPieces k B) X k0_t1_loop.trips) y = G12 B y := by
  refine read_stored v _ X (G12 B) (fun k y => (y 0).val / 256 < k) (fun y h => by omega)
    (fun k => kaPieces_agree k B) (fun k y h => ?_) _ le_rfl y (by have : (y 0).val < 2048 := (y 0).isLt; show _ < 8; omega)
  by_cases e : (y 0).val / 256 = k
  · exact .inr (kaPieces_mem k B y e)
  · exact .inl (by omega)

theorem read13 (v : View sig' κ sp S2112x128 .i32) (A : S3072x128.Idx → Elt Ideal .i32) (X : v.ty.Contents (Elt Ideal)) (y : S2112x128.Idx)
    (hy : (y 0).val % 132 < 128) : v.read (Elt Ideal) (stored v (fun k => qtPieces k A) X k0_t2_loop.trips) y = G13 A y := by
  refine read_stored v _ X (G13 A) (fun k y => (y 0).val / 1056 < k ∧ (y 0).val % 132 < 128) (fun y h => by omega)
    (fun k => qtPieces_agree k A) (fun k y h => ?_) _ le_rfl y ⟨by have : (y 0).val < 2112 := (y 0).isLt; show _ < 2; omega, hy⟩
  by_cases e : (y 0).val / 1056 = k
  · exact .inr (qtPieces_mem k A y e h.2)
  · exact .inl ⟨by omega, h.2⟩

theorem read14 (v : View sig' κ sp S2112x128 .i32) (A : S2048x128.Idx → Elt Ideal .i32) (X : v.ty.Contents (Elt Ideal)) (y : S2112x128.Idx)
    (hy : (y 0).val % 132 < 128) : v.read (Elt Ideal) (stored v (fun k => ktPieces k A) X k0_t2_loop.trips) y = G14 A y := by
  refine read_stored v _ X (G14 A) (fun k y => (y 0).val / 1056 < k ∧ (y 0).val % 132 < 128) (fun y h => by omega)
    (fun k => ktPieces_agree k A) (fun k y h => ?_) _ le_rfl y ⟨by have : (y 0).val < 2112 := (y 0).isLt; show _ < 2; omega, hy⟩
  by_cases e : (y 0).val / 1056 = k
  · exact .inr (ktPieces_mem k A y e h.2)
  · exact .inl ⟨by omega, h.2⟩

theorem read15 (v : View sig' κ sp S4224x2x128 .bf16) (B6 B7 B8 B9 : S1x8x32x1x8x128.Idx → Elt Ideal .bf16) (X : v.ty.Contents (Elt Ideal))
    (y : S4224x2x128.Idx) (hy : (y 0).val % 132 < 128) :
    v.read (Elt Ideal) (stored v (fun k => vtPieces k B6 B7 B8 B9) X k0_t2_loop.trips) y = G15 B6 B7 B8 B9 y := by
  refine read_stored v _ X (G15 B6 B7 B8 B9) (fun k y => (y 0).val / 2112 < k ∧ (y 0).val % 132 < 128) (fun y h => by omega)
    (fun k => vtPieces_agree k B6 B7 B8 B9) (fun k y h => ?_) _ le_rfl y ⟨by have : (y 0).val < 4224 := (y 0).isLt; show _ < 2; omega, hy⟩
  by_cases e : (y 0).val / 2112 = k
  · exact .inr (vtPieces_mem k B6 B7 B8 B9 y e h.2)
  · exact .inl ⟨by omega, h.2⟩

theorem read16 (v : View sig' κ sp S4224x2x128 .bf16) (A13 A14 : S2112x128.Idx → Elt Ideal .i32) (A15 : S4224x2x128.Idx → Elt Ideal .bf16)
    {v43 v61 v79 v97 : IVec S8x128 1} {v100 v103 v106 v109 : IVec S8x128 32} (M : Masks v43 v61 v79 v97 v100 v103 v106 v109)
    (v136 : IVec S1x128 1) (v139 : IVec S32x128 1) (v143 : FVec Ideal S1x128 .f32) (X : v.ty.Contents (Elt Ideal))
    (y : S4224x2x128.Idx) (hy : (y 0).val % 132 < 128) :
    v.read (Elt Ideal) (stored v (fun k => tripPieces k A13 A14 A15 v43 v61 v79 v97 v100 v103 v106 v109 v136 v139 v143) X k0_t3_loop.trips) y
      = G16 A13 A14 A15 v136 v139 v143 y := by
  refine read_stored v _ X (G16 A13 A14 A15 v136 v139 v143) (fun k y => (y 0).val % 132 / 16 < k) (fun y h => by omega)
    (fun k => tripPieces_agree k A13 A14 A15 M v136 v139 v143) (fun k y h => ?_) _ le_rfl y (by show _ < 8; omega)
  by_cases e : (y 0).val % 132 / 16 = k
  · exact .inr ((tripPieces_mem k A13 A14 A15 v136 v139 v143 y).2 e)
  · exact .inl (by omega)

theorem read10 (v : View sig' κ sp S1x8x128x8x128 .bf16) (A : S4224x2x128.Idx → Elt Ideal .bf16) (X : v.ty.Contents (Elt Ideal)) (y : S1x8x128x8x128.Idx) :
    v.read (Elt Ideal) (stored v (fun k => oPieces k A) X k0_t4_loop.trips) y = G10 A y := by
  refine read_stored v _ X (G10 A) (fun k y => (y 1).val / 2 < k) (fun y h => by omega)
    (fun k => oPieces_agree k A) (fun k y h => ?_) _ le_rfl y (by have : (y 1).val < 8 := (y 1).isLt; show _ < 4; omega)
  by_cases e : (y 1).val / 2 = k
  · exact .inr (oPieces_mem k A y e)
  · exact .inl (by omega)
end

end Cert.KernelIdeal.Val

end
-- ==== Proof.KernelIdealBody.lean ====
/- The body of `KernelIdeal`'s kernel over the reals: it runs, and its output block is the attention of the blocks it is handed. -/
module

public import proofs.«01_k».proof.Proof.KernelIdealLoops
public import proofs.«01_k».proof.Proof.BlockValue

@[expose] public section

set_option maxRecDepth 16384

noncomputable section

namespace Cert.KernelIdeal.Val

open Cert.KernelIdeal Cert.KernelIdeal.Gen Cert.KernelIdeal.Hand Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The frame count the body reads at point `i`. -/
def count (c : Dev nD) (i : grid0.Coords) (xt0 : TbBuf0 (F := Ideal) c tbM0_0) : BitVec 32 :=
  tbM0_0.view.read (Elt Ideal) xt0 ((Rect.unit (s := S3) (k0_off1 i) S1.size (k0_off1_inb i)).toLoadRect.idx (Shape.Idx.first (show 0 < S1.numel by decide)))

/-- The columns whose frame is kept. -/
def frameOk (n : BitVec 32) : IVec S1x128 1 := fun y => IntOp.cmpi .slt (BitVec.ofNat 32 ((y 1).val / 4)) n

/-- The key frames that are kept. -/
def rowOk (n : BitVec 32) : IVec S32x128 1 := fun y => IntOp.cmpi .slt (BitVec.ofNat 32 (y 0).val) n

/-- What the scores are multiplied by. -/
def coef (x2 x3 : S1x8x128.Idx → EReal) : FVec Ideal S1x128 .f32 := fun y =>
  x2 (ix3 0 0 (y 1)) * x3 (ix3 0 0 (y 1)) * Named.named (F := Ideal) (φ := .f32) κ "scale_log2e" 0x3E38AA3B#32

/-- The output block the body leaves. -/
def outBlock (n : BitVec 32) (x0 x1 : S1x2x128x8x128.Idx → Elt Ideal .i32) (x2 x3 : S1x8x128.Idx → EReal)
    (x4 x5 x6 x7 : S1x8x32x1x8x128.Idx → Elt Ideal .bf16) : S1x8x128x8x128.Idx → Elt Ideal .bf16 :=
  block x0 x1 x4 x5 x6 x7 (frameOk n) (rowOk n) (coef x2 x3)

theorem rowOk_eq (n : BitVec 32) : k0_pay2 (F := Ideal) n = rowOk n := by
  funext y
  obtain ⟨g, t, rfl⟩ : ∃ (g : Fin 32) (t : Fin 128), y = ix2 g t := ⟨y 0, y 1, eq_ix2 y⟩
  pointwise [k0_pay2, rowOk]

theorem coef_eq (x2 x3 : FVec Ideal S1x8x128 .f32) :
    k0_pay3 (F := Ideal) (shapeCast S8x128 x2 shapeCasts_S1x8x128_S8x128) (shapeCast S8x128 x3 shapeCasts_S1x8x128_S8x128) = coef x2 x3 := by
  funext y
  obtain ⟨a, t, rfl⟩ : ∃ (a : Fin 1) (t : Fin 128), y = ix2 a t := ⟨y 0, y 1, eq_ix2 y⟩
  pointwise [k0_pay3, coef]

-- (the run's proof term is large: checking it walks past the default budget)
set_option maxHeartbeats 4000000 in
/-- The body's triple: on whole staging memrefs, the inputs' at their contents and the output's at anything, the
    body runs to the continuation holding the inputs' as they were and the rest at some contents. -/
theorem body_run (c : Dev nD) (i : grid0.Coords) (arg2 : Memref sig .tc .vmem S1x2x128x8x128 .i32) (harg2 : arg2.IsWhole) (arg3 : Memref sig .tc .vmem S1x2x128x8x128 .i32) (harg3 : arg3.IsWhole) (arg4 : Memref sig .tc .vmem S1x8x128 .f32) (harg4 : arg4.IsWhole) (arg5 : Memref sig .tc .vmem S1x8x128 .f32) (harg5 : arg5.IsWhole) (arg6 : Memref sig .tc .vmem S1x8x32x1x8x128 .bf16) (harg6 : arg6.IsWhole) (arg7 : Memref sig .tc .vmem S1x8x32x1x8x128 .bf16) (harg7 : arg7.IsWhole) (arg8 : Memref sig .tc .vmem S1x8x32x1x8x128 .bf16) (harg8 : arg8.IsWhole) (arg9 : Memref sig .tc .vmem S1x8x32x1x8x128 .bf16) (harg9 : arg9.IsWhole) (arg10 : Memref sig .tc .vmem S1x8x128x8x128 .bf16) (harg10 : arg10.IsWhole) (arg11 : Memref sig .tc .vmem S3072x128 .i32) (harg11 : arg11.IsWhole) (arg12 : Memref sig .tc .vmem S2048x128 .i32) (harg12 : arg12.IsWhole) (arg13 : Memref sig .tc .vmem S2112x128 .i32) (harg13 : arg13.IsWhole) (arg14 : Memref sig .tc .vmem S2112x128 .i32) (harg14 : arg14.IsWhole) (arg15 : Memref sig .tc .vmem S4224x2x128 .bf16) (harg15 : arg15.IsWhole) (arg16 : Memref sig .tc .vmem S4224x2x128 .bf16) (harg16 : arg16.IsWhole)
    (x0 : Vec Ideal S1x2x128x8x128 .i32) (x1 : Vec Ideal S1x2x128x8x128 .i32) (x2 : Vec Ideal S1x8x128 .f32) (x3 : Vec Ideal S1x8x128 .f32) (x4 : Vec Ideal S1x8x32x1x8x128 .bf16) (x5 : Vec Ideal S1x8x32x1x8x128 .bf16) (x6 : Vec Ideal S1x8x32x1x8x128 .bf16) (x7 : Vec Ideal S1x8x32x1x8x128 .bf16) (xt0 : TbBuf0 (F := Ideal) c tbM0_0) :
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBlock (count c i xt0) x0 x1 x2 x3 x4 x5 x6 x7) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ tbPt0 c tbM0_0 xt0) -∗ K ⟨⟩))
          ⊢ wp frame (wpE (defs₀ (F := Ideal)) Variants.none c none) Set.univ (cc0_temporal_attn_fp8 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro K
    simp only [cc0_temporal_attn_fp8_eq_skeleton]; unfold cc0_temporal_attn_fp8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      have M : Masks (cmpi CmpIPredicate.eq body_run.sl.v41 body_run.sl.v30) (cmpi CmpIPredicate.eq body_run.sl.v41 body_run.sl.v60)
          (cmpi CmpIPredicate.eq body_run.sl.v41 body_run.sl.v78) (cmpi CmpIPredicate.eq body_run.sl.v95 body_run.sl.v96)
          body_run.sl.v100 body_run.sl.v103 body_run.sl.v106 body_run.sl.v109 :=
        ⟨by decide +kernel, by decide +kernel, by decide +kernel, by decide +kernel, by decide +kernel, by decide +kernel, by decide +kernel, by decide +kernel⟩
      have hn : body_run.sl.r c i xt0 = count c i xt0 := rfl
      have hF : k0_pay1 (F := Ideal) (body_run.sl.r c i xt0) body_run.sl.v110 4#32 (divsi body_run.sl.v110 body_run.sl.v111) body_run.sl.v115 body_run.sl.v113
          = frameOk (count c i xt0) := by
        have e : ∀ t : Fin 128, k0_pay1 (F := Ideal) (body_run.sl.r c i xt0) body_run.sl.v110 4#32 (divsi body_run.sl.v110 body_run.sl.v111) body_run.sl.v115 body_run.sl.v113 (ix2 0 t)
            = IntOp.cmpi .slt (BitVec.ofNat 32 (t.val / 4)) (body_run.sl.r c i xt0) := by
          intro t
          show IntOp.cmpi .slt _ (body_run.sl.r c i xt0) = _
          refine congrArg (fun w => IntOp.cmpi .slt w (body_run.sl.r c i xt0)) ?_
          revert t
          decide +kernel
        funext y
        obtain ⟨a, t, rfl⟩ : ∃ (a : Fin 1) (t : Fin 128), y = ix2 a t := ⟨y 0, y 1, eq_ix2 y⟩
        obtain rfl : a = 0 := Subsingleton.elim _ _
        exact (e t).trans (congrArg (IntOp.cmpi .slt (BitVec.ofNat 32 (t.val / 4))) hn)
      have hR : k0_pay2 (F := Ideal) (body_run.sl.r c i xt0) = rowOk (count c i xt0) := (rowOk_eq _).trans (congrArg rowOk hn)
      have hC : k0_pay3 (F := Ideal) (body_run.sl.v20 c arg4 harg4 x2) (body_run.sl.v22 c arg5 harg5 x3) = coef x2 x3 := by
        refine Eq.trans ?_ (coef_eq x2 x3)
        have r4 : View.readAt (Elt Ideal) arg4.view (Rect.unit (s := S1x8x128) ![0, 0, 0] S1x8x128.size (by decide)).toLoadRect (harg4.unread x2) = x2 := by
          funext y
          show arg4.view.read (Elt Ideal) (harg4.unread x2) _ = x2 y
          rw [harg4.read_unread]
          exact congrArg x2 (funext fun a => Fin.ext (by
            match a with
            | 0 => show 0 + 1 * (y 0).val = _; omega
            | 1 => show 0 + 1 * (y 1).val = _; omega
            | 2 => show 0 + 1 * (y 2).val = _; omega))
        have r5 : View.readAt (Elt Ideal) arg5.view (Rect.unit (s := S1x8x128) ![0, 0, 0] S1x8x128.size (by decide)).toLoadRect (harg5.unread x3) = x3 := by
          funext y
          show arg5.view.read (Elt Ideal) (harg5.unread x3) _ = x3 y
          rw [harg5.read_unread]
          exact congrArg x3 (funext fun a => Fin.ext (by
            match a with
            | 0 => show 0 + 1 * (y 0).val = _; omega
            | 1 => show 0 + 1 * (y 1).val = _; omega
            | 2 => show 0 + 1 * (y 2).val = _; omega))
        exact congrArg₂ (fun a b => k0_pay3 (F := Ideal) (shapeCast S8x128 a shapeCasts_S1x8x128_S8x128) (shapeCast S8x128 b shapeCasts_S1x8x128_S8x128)) r4 r5
      rw [hF, hR, hC, harg2.read_unread, harg3.read_unread, harg6.read_unread, harg7.read_unread, harg8.read_unread, harg9.read_unread]
      funext y
      refine (read10 arg10.view _ _ y).trans ?_
      exact block_eq x0 x1 x4 x5 x6 x7 _ _ _ (fun y hy => read11 _ _ _ y hy) (fun y => read12 _ _ _ y) (fun y hy => read13 _ _ _ y hy)
        (fun y hy => read14 _ _ _ y hy) (fun y hy => read15 _ _ _ _ _ _ y hy) (fun y hy => read16 _ _ _ _ M _ _ _ _ y hy) y
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexact HT0

end Cert.KernelIdeal.Val

end
-- ==== Proof.KernelIdealRunValue.lean ====
/- The run of `KernelIdeal` over the reals, its output array named: the body obligation at every grid point and the launch. -/
module

public import proofs.«01_k».proof.Proof.KernelIdealBody

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The block the body leaves in the output buffer at point `t`. -/
def outAt (hO : Ok m) (c : Dev nD) (t : Fin (cfgM m hO).N) : S1x8x128x8x128.Idx → Elt Ideal .bf16 :=
  outBlock (count c (grid0.coords t) (tbl m 0)) (iblk m hO c 0 t) (iblk m hO c 1 t) (iblk m hO c 2 t) (iblk m hO c 3 t) (iblk m hO c 4 t) (iblk m hO c 5 t) (iblk m hO c 6 t) (iblk m hO c 7 t)

/-- The proof data of the one pipeline on core `c`: the arrays as the region finds them (`V`); after the body at
    point `t` each input's buffer at its block and the output's at `outAt`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outAt m hO c t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats m hO 0 c) (defs₀ (F := Ideal)) Variants.none () Set.univ := fun t => by
  rw [bigSep_W0, bigSep_W0, defs₀_row m hO]
  exact triple_restated (sound_body m hO c t) rfl .rfl fun _ => .rfl

/-! ## The run and the frame -/

set_option backward.isDefEq.respectTransparency.types false in
set_option maxHeartbeats 800000 in
/-- The launch: every buffer after the run, the output array named by the proof data, and every semaphore counter at zero. -/
theorem run_main_quiescent (hO : Ok m) : θ_run defs (onTc (τ := τ) (main (F := Ideal))) (s₀ m ρ) (fun r =>
    (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- The launch without the counters. -/
theorem run_main (hO : Ok m) : θ_run defs (onTc (τ := τ) (main (F := Ideal))) (s₀ m ρ)
    (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

end Cert.KernelIdeal.Val

end
-- ==== Proof.KernelIdealFrame.lean ====
/- The frame of `KernelIdeal`: its run ends, its arguments unchanged and its semaphores at zero. -/
module

public import proofs.«01_k».proof.Proof.KernelIdealRunValue

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The arguments end unchanged. -/
theorem unchanged (hO : Ok m) : θ_run defs (onTc (τ := τ) (main (F := Ideal))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨((h c).2 main_arg0 (by decide : main_arg0 ∈ Pipeline.restRefs sig spec0)).trans (W_kept m hO (dats m hO) c main_arg0 (by decide) (by decide) (by decide)),
      ((h c).2 main_arg1 (by decide : main_arg1 ∈ Pipeline.restRefs sig spec0)).trans (W_kept m hO (dats m hO) c main_arg1 (by decide) (by decide) (by decide)),
      ((h c).2 main_arg2 (by decide : main_arg2 ∈ Pipeline.restRefs sig spec0)).trans (W_kept m hO (dats m hO) c main_arg2 (by decide) (by decide) (by decide)),
      ((h c).2 main_arg3 (by decide : main_arg3 ∈ Pipeline.restRefs sig spec0)).trans (W_kept m hO (dats m hO) c main_arg3 (by decide) (by decide) (by decide)),
      ((h c).2 main_arg4 (by decide : main_arg4 ∈ Pipeline.restRefs sig spec0)).trans (W_kept m hO (dats m hO) c main_arg4 (by decide) (by decide) (by decide)),
      ((h c).2 main_arg5 (by decide : main_arg5 ∈ Pipeline.restRefs sig spec0)).trans (W_kept m hO (dats m hO) c main_arg5 (by decide) (by decide) (by decide))⟩) (run_main m ρ hO)

/-- The frame: the run ends, the arguments unchanged and every semaphore counter at zero. -/
theorem frame (hO : Ok m) : θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  θ_run_and (unchanged m ρ hO) ((θ_run defs _ _).mono (fun _ h => h.2) (run_main_quiescent m ρ hO))

end Cert.KernelIdeal.Val

end
-- ==== Proof.Rewrites.lean ====
/- The `preserves` claim: each rewrite that the ideal program applies, as its rule states it. -/
module

public import proofs.«01_k».proof.Defs
public import Idealize.ShloMosaic.Lib.Bf16PairInverse

@[expose] public section

noncomputable section

open Idealize.ShloMosaic

namespace Cert.Proof

/-- The rewrites of the ideal program as their thirteen distinct statements, in order of first appearance: the two scratches of
    packed pairs re-declared as rows (they have one shape), each pair of shapes at which words are read as the two rows they pack,
    the pack of a word, the select against zero words, and the constant `1/(8 log 2)`. -/
theorem preserves : Cert.preserves_Kernel_KernelIdeal :=
  open Cert.KernelIdeal IdealRules.bf16_pair in
  ⟨bufferStatement S4224x2x128 S4224x1x128, statement S1x1x32x1x2x128 S1x1x32x1x1x128, statement S256x128 S128x128,
    packStatement S128x128, statement S128x2x128 S128x1x128,
    IdealRules.named_const.statement Cert.KernelIdeal.κ "scale_log2e" .f32 0x3E38AA3B#32 (((8 * (Real.log 2))⁻¹ : ℝ) : EReal) rfl,
    statement S32x128 S16x128, selectZeroStatement S8x128, statement S128x128 S64x128, statement S8x2x128 S8x1x128,
    statement S16x128 S8x128, statement S64x128 S32x128, statement S1x1x128x2x128 S1x1x128x1x128⟩

end Cert.Proof
-- ==== Proof.HostLines.lean ====
/- The kernel program's lines around its region: the arrays they hand the region, and the result they leave. -/
module

public import proofs.«01_k».proof.Proof.KernelIdealKit
public import proofs.«01_k».proof.Proof.Words
public import Idealize.ShloMosaic.Lib.Pipeline.ValueKit

@[expose] public section

set_option maxRecDepth 16384

noncomputable section

namespace Cert.Attn

open Idealize.ShloMosaic

/-- An array of rank 4 at natural-number coordinates. -/
def at4 {α : Type*} {n0 n1 n2 n3 : ℕ} [NeZero n0] [NeZero n1] [NeZero n2] [NeZero n3]
    (A : (⟨4, ![n0, n1, n2, n3]⟩ : Shape).Idx → α) (a b c d : ℕ) : α :=
  A (ix4 (Fin.ofNat n0 a) (Fin.ofNat n1 b) (Fin.ofNat n2 c) (Fin.ofNat n3 d))

theorem at4_ix4 {α : Type*} {n0 n1 n2 n3 : ℕ} [NeZero n0] [NeZero n1] [NeZero n2] [NeZero n3]
    (A : (⟨4, ![n0, n1, n2, n3]⟩ : Shape).Idx → α) (a : Fin n0) (b : Fin n1) (c : Fin n2) (d : Fin n3) :
    A (ix4 a b c d) = at4 A a b c d := by
  unfold at4; simp only [fin_ofNat]

theorem at4_of {α : Type*} {n0 n1 n2 n3 : ℕ} [NeZero n0] [NeZero n1] [NeZero n2] [NeZero n3]
    (A : (⟨4, ![n0, n1, n2, n3]⟩ : Shape).Idx → α) (y : (⟨4, ![n0, n1, n2, n3]⟩ : Shape).Idx) (a b c d : ℕ)
    (ha : (y 0).val = a) (hb : (y 1).val = b) (hc : (y 2).val = c) (hd : (y 3).val = d) : A y = at4 A a b c d := by
  subst ha hb hc hd
  rw [← at4_ix4 A (y 0) (y 1) (y 2) (y 3)]
  exact congrArg A (eq_ix4 y)

end Cert.Attn

namespace Cert.KernelIdeal.Val

open Cert.KernelIdeal Cert.KernelIdeal.Gen Cert.KernelIdeal.Hand Cert.Attn
open Idealize.ShloMosaic Idealize.ShloMosaic.TcCoe Idealize.SL.Sem

/-- Packed codes, by head, channel group and token tile. -/
def wordTiles (x : S3x16384x10x16.Idx → Elt Ideal .i32) : S30x2x128x8x128.Idx → Elt Ideal .i32 :=
  transpose S30x2x128x8x128 [0, 1, 3, 2, 4] (shapeCast S30x2x8x128x128 (transpose S3x10x16x16384 [0, 2, 3, 1] x transposes_S3x16384x10x16_S3x10x16x16384_0_2_3_1)
    shapeCasts_S3x10x16x16384_S30x2x8x128x128) transposes_S30x2x8x128x128_S30x2x128x8x128_0_1_3_2_4

/-- The values, by head, channel group, frame and chunk. -/
def valueTiles (x : S3x16384x10x64.Idx → Elt Ideal .bf16) : S30x8x32x4x8x128.Idx → Elt Ideal .bf16 :=
  shapeCast S30x8x32x4x8x128 (transpose S30x8x128x8x128 [0, 1, 3, 2, 4] (shapeCast S30x8x8x128x128 (transpose S3x10x64x16384 [0, 2, 3, 1] x transposes_S3x16384x10x64_S3x10x64x16384_0_2_3_1)
    shapeCasts_S3x10x64x16384_S30x8x8x128x128) transposes_S30x8x8x128x128_S30x8x128x8x128_0_1_3_2_4) shapeCasts_S30x8x128x8x128_S30x8x32x4x8x128

/-- A scale a head, over a whole tile. -/
def scaleTiles (x : S3x10.Idx → Elt Ideal .f32) : S30x8x128.Idx → Elt Ideal .f32 :=
  broadcastInDim S30x8x128 ![0, 1, 2] bcast_S30x1x1_S30x8x128_0_1_2 (shapeCast S30x1x1 x shapeCasts_S3x10_S30x1x1)

/-- The region's result, by token. -/
def byToken (y : S30x8x128x8x128.Idx → Elt Ideal .bf16) : S3x16384x10x64.Idx → Elt Ideal .bf16 :=
  transpose S3x16384x10x64 [0, 3, 1, 2] (shapeCast S3x10x64x16384 (transpose S30x8x8x128x128 [0, 1, 3, 2, 4] y transposes_S30x8x128x8x128_S30x8x8x128x128_0_1_3_2_4)
    shapeCasts_S30x8x8x128x128_S3x10x64x16384) transposes_S3x10x64x16384_S3x16384x10x64_0_3_1_2

theorem wordTiles_apply (x : S3x16384x10x16.Idx → Elt Ideal .i32) (g : Fin 30) (a : Fin 2) (t : Fin 128) (s : Fin 8) (p : Fin 128) :
    wordTiles x (ix5 g a t s p) = at4 x (g / 10) (128 * t + p) (g % 10) (8 * a + s) := by
  unfold wordTiles
  pointwise
  exact at4_of _ _ _ _ _ _ (by dsimp <;> omega) (by dsimp <;> omega) (by dsimp <;> omega) (by dsimp <;> omega)

theorem valueTiles_apply (x : S3x16384x10x64.Idx → Elt Ideal .bf16) (g : Fin 30) (a : Fin 8) (f : Fin 32) (c : Fin 4) (s : Fin 8) (p : Fin 128) :
    valueTiles x (ix6 g a f c s p) = at4 x (g / 10) (512 * f + 128 * c + p) (g % 10) (8 * a + s) := by
  unfold valueTiles
  pointwise
  exact at4_of _ _ _ _ _ _ (by dsimp <;> omega) (by dsimp <;> omega) (by dsimp <;> omega) (by dsimp <;> omega)

theorem scaleTiles_apply (x : S3x10.Idx → Elt Ideal .f32) (g : Fin 30) (a : Fin 8) (p : Fin 128) :
    scaleTiles x (ix3 g a p) = at2 x (g / 10) (g % 10) := by
  unfold scaleTiles
  pointwise
  exact at2_of _ _ _ _ (by dsimp <;> omega) (by dsimp <;> omega)

theorem byToken_apply (y : S30x8x128x8x128.Idx → Elt Ideal .bf16) (b : Fin 3) (k : Fin 16384) (h : Fin 10) (d : Fin 64) :
    byToken y (ix4 b k h d) = at5 y (10 * b + h) (d / 8) (k / 128) (d % 8) (k % 128) := by
  unfold byToken
  pointwise
  exact at5_of _ _ _ _ _ _ _ (by dsimp <;> omega) (by dsimp <;> omega) (by dsimp <;> omega) (by dsimp <;> omega) (by dsimp <;> omega)

variable (m : (ℓ : Loc nD τ sig) → Buf (Elt Ideal) ℓ)

set_option maxHeartbeats 1600000 in
theorem V_v6 (c : Dev nD) : V m c main_v6 = wordTiles (m ((c : Thread nD τ).loc main_arg0)) := by
  show StableHlo.after (List.flatten [hostOps0]) (fun b => m (c, b)) (Proc.devRef .tc main_v6) = _
  simp only [List.flatten_cons, List.flatten_nil, List.append_nil, hostOps0]
  after_results
  rfl

set_option maxHeartbeats 1600000 in
theorem V_v9 (c : Dev nD) : V m c main_v9 = wordTiles (m ((c : Thread nD τ).loc main_arg1)) := by
  show StableHlo.after (List.flatten [hostOps0]) (fun b => m (c, b)) (Proc.devRef .tc main_v9) = _
  simp only [List.flatten_cons, List.flatten_nil, List.append_nil, hostOps0]
  after_results
  rfl

set_option maxHeartbeats 1600000 in
theorem V_v11 (c : Dev nD) : V m c main_v11 = scaleTiles (m ((c : Thread nD τ).loc main_arg2)) := by
  show StableHlo.after (List.flatten [hostOps0]) (fun b => m (c, b)) (Proc.devRef .tc main_v11) = _
  simp only [List.flatten_cons, List.flatten_nil, List.append_nil, hostOps0]
  after_results
  rfl

set_option maxHeartbeats 1600000 in
theorem V_v13 (c : Dev nD) : V m c main_v13 = scaleTiles (m ((c : Thread nD τ).loc main_arg3)) := by
  show StableHlo.after (List.flatten [hostOps0]) (fun b => m (c, b)) (Proc.devRef .tc main_v13) = _
  simp only [List.flatten_cons, List.flatten_nil, List.append_nil, hostOps0]
  after_results
  rfl

set_option maxHeartbeats 1600000 in
theorem V_v3 (c : Dev nD) : V m c main_v3 = valueTiles (m ((c : Thread nD τ).loc main_arg4)) := by
  show StableHlo.after (List.flatten [hostOps0]) (fun b => m (c, b)) (Proc.devRef .tc main_v3) = _
  simp only [List.flatten_cons, List.flatten_nil, List.append_nil, hostOps0]
  after_results
  rfl

set_option maxHeartbeats 1600000 in
theorem tail (σ : Valuation τ sig (Elt Ideal)) :
    StableHlo.after (List.flatten [hostOps1]) σ (Proc.devRef .tc main_v17) = byToken (σ (Proc.devRef .tc main_v14)) := by
  simp only [List.flatten_cons, List.flatten_nil, List.append_nil, hostOps1]
  after_results
  rfl

end Cert.KernelIdeal.Val

end
-- ==== Proof.Blocks.lean ====
/- The blocks the kernel is handed at a grid point (a batch and a head), at their coordinates in the arguments. -/
module

public import proofs.«01_k».proof.Proof.HostLines

@[expose] public section

set_option maxRecDepth 16384

noncomputable section

namespace Cert.KernelIdeal.Val

open Cert.KernelIdeal Cert.KernelIdeal.Gen Cert.KernelIdeal.Hand Cert.Attn
open Idealize.ShloMosaic Idealize.ShloMosaic.TcCoe Idealize.SL.Sem
open Idealize.ShloMosaic.Pipeline (Dat)

/-- Where each window's block sits at grid point `t`. -/
theorem places : ∀ t : Fin grid0.N,
    cc0_transform_0 (grid0.coords t) = ![t.val, 0, 0, 0, 0] ∧ cc0_transform_1 (grid0.coords t) = ![t.val, 0, 0, 0, 0]
    ∧ cc0_transform_2 (grid0.coords t) = ![t.val, 0, 0] ∧ cc0_transform_3 (grid0.coords t) = ![t.val, 0, 0]
    ∧ cc0_transform_4 (grid0.coords t) = ![t.val, 0, 0, 0, 0, 0] ∧ cc0_transform_5 (grid0.coords t) = ![t.val, 0, 0, 1, 0, 0]
    ∧ cc0_transform_6 (grid0.coords t) = ![t.val, 0, 0, 2, 0, 0] ∧ cc0_transform_7 (grid0.coords t) = ![t.val, 0, 0, 3, 0, 0]
    ∧ cc0_transform_8 (grid0.coords t) = ![t.val, 0, 0, 0, 0] ∧ k0_off1 (grid0.coords t) 0 = t.val / 10 := by
  decide +kernel

variable (m : (ℓ : Loc nD τ sig) → Buf (Elt Ideal) ℓ)

theorem iblk_0 (hO : Ok m) (c : Dev nD) (t : Fin (cfgM m hO).N) (a : Fin 2) (u : Fin 128) (s : Fin 8) (p : Fin 128) :
    iblk m hO c 0 t (ix5 0 a u s p) = V m c main_v6 (ix5 ⟨t.val, t.isLt⟩ a u s p) := by
  have h := congrFun ((places t).1)
  refine congrArg (V m c main_v6) (?_ : (_ : S30x2x128x8x128.Idx) = _)
  funext (j : Fin 5)
  apply Fin.ext
  match j with
  | 0 => exact (congrArg (fun o => o * 1 + 1 * 0) (h 0)).trans (by show t.val * 1 + 1 * 0 = t.val; omega)
  | 1 => exact (congrArg (fun o => o * 2 + 1 * a.val) (h 1)).trans (by show 0 * 2 + 1 * a.val = a.val; omega)
  | 2 => exact (congrArg (fun o => o * 128 + 1 * u.val) (h 2)).trans (by show 0 * 128 + 1 * u.val = u.val; omega)
  | 3 => exact (congrArg (fun o => o * 8 + 1 * s.val) (h 3)).trans (by show 0 * 8 + 1 * s.val = s.val; omega)
  | 4 => exact (congrArg (fun o => o * 128 + 1 * p.val) (h 4)).trans (by show 0 * 128 + 1 * p.val = p.val; omega)

theorem iblk_1 (hO : Ok m) (c : Dev nD) (t : Fin (cfgM m hO).N) (a : Fin 2) (u : Fin 128) (s : Fin 8) (p : Fin 128) :
    iblk m hO c 1 t (ix5 0 a u s p) = V m c main_v9 (ix5 ⟨t.val, t.isLt⟩ a u s p) := by
  have h := congrFun ((places t).2.1)
  refine congrArg (V m c main_v9) (?_ : (_ : S30x2x128x8x128.Idx) = _)
  funext (j : Fin 5)
  apply Fin.ext
  match j with
  | 0 => exact (congrArg (fun o => o * 1 + 1 * 0) (h 0)).trans (by show t.val * 1 + 1 * 0 = t.val; omega)
  | 1 => exact (congrArg (fun o => o * 2 + 1 * a.val) (h 1)).trans (by show 0 * 2 + 1 * a.val = a.val; omega)
  | 2 => exact (congrArg (fun o => o * 128 + 1 * u.val) (h 2)).trans (by show 0 * 128 + 1 * u.val = u.val; omega)
  | 3 => exact (congrArg (fun o => o * 8 + 1 * s.val) (h 3)).trans (by show 0 * 8 + 1 * s.val = s.val; omega)
  | 4 => exact (congrArg (fun o => o * 128 + 1 * p.val) (h 4)).trans (by show 0 * 128 + 1 * p.val = p.val; omega)

theorem iblk_2 (hO : Ok m) (c : Dev nD) (t : Fin (cfgM m hO).N) (a : Fin 8) (p : Fin 128) :
    iblk m hO c 2 t (ix3 0 a p) = V m c main_v11 (ix3 ⟨t.val, t.isLt⟩ a p) := by
  have h := congrFun ((places t).2.2.1)
  refine congrArg (V m c main_v11) (?_ : (_ : S30x8x128.Idx) = _)
  funext (j : Fin 3)
  apply Fin.ext
  match j with
  | 0 => exact (congrArg (fun o => o * 1 + 1 * 0) (h 0)).trans (by show t.val * 1 + 1 * 0 = t.val; omega)
  | 1 => exact (congrArg (fun o => o * 8 + 1 * a.val) (h 1)).trans (by show 0 * 8 + 1 * a.val = a.val; omega)
  | 2 => exact (congrArg (fun o => o * 128 + 1 * p.val) (h 2)).trans (by show 0 * 128 + 1 * p.val = p.val; omega)

theorem iblk_3 (hO : Ok m) (c : Dev nD) (t : Fin (cfgM m hO).N) (a : Fin 8) (p : Fin 128) :
    iblk m hO c 3 t (ix3 0 a p) = V m c main_v13 (ix3 ⟨t.val, t.isLt⟩ a p) := by
  have h := congrFun ((places t).2.2.2.1)
  refine congrArg (V m c main_v13) (?_ : (_ : S30x8x128.Idx) = _)
  funext (j : Fin 3)
  apply Fin.ext
  match j with
  | 0 => exact (congrArg (fun o => o * 1 + 1 * 0) (h 0)).trans (by show t.val * 1 + 1 * 0 = t.val; omega)
  | 1 => exact (congrArg (fun o => o * 8 + 1 * a.val) (h 1)).trans (by show 0 * 8 + 1 * a.val = a.val; omega)
  | 2 => exact (congrArg (fun o => o * 128 + 1 * p.val) (h 2)).trans (by show 0 * 128 + 1 * p.val = p.val; omega)

theorem iblk_4 (hO : Ok m) (c : Dev nD) (t : Fin (cfgM m hO).N) (a : Fin 8) (f : Fin 32) (s : Fin 8) (p : Fin 128) :
    iblk m hO c 4 t (ix6 0 a f 0 s p) = V m c main_v3 (ix6 ⟨t.val, t.isLt⟩ a f 0 s p) := by
  have h := congrFun ((places t).2.2.2.2.1)
  refine congrArg (V m c main_v3) (?_ : (_ : S30x8x32x4x8x128.Idx) = _)
  funext (j : Fin 6)
  apply Fin.ext
  match j with
  | 0 => exact (congrArg (fun o => o * 1 + 1 * 0) (h 0)).trans (by show t.val * 1 + 1 * 0 = t.val; omega)
  | 1 => exact (congrArg (fun o => o * 8 + 1 * a.val) (h 1)).trans (by show 0 * 8 + 1 * a.val = a.val; omega)
  | 2 => exact (congrArg (fun o => o * 32 + 1 * f.val) (h 2)).trans (by show 0 * 32 + 1 * f.val = f.val; omega)
  | 3 => exact (congrArg (fun o => o * 1 + 1 * 0) (h 3)).trans (by show 0 * 1 + 1 * 0 = 0; omega)
  | 4 => exact (congrArg (fun o => o * 8 + 1 * s.val) (h 4)).trans (by show 0 * 8 + 1 * s.val = s.val; omega)
  | 5 => exact (congrArg (fun o => o * 128 + 1 * p.val) (h 5)).trans (by show 0 * 128 + 1 * p.val = p.val; omega)

theorem iblk_5 (hO : Ok m) (c : Dev nD) (t : Fin (cfgM m hO).N) (a : Fin 8) (f : Fin 32) (s : Fin 8) (p : Fin 128) :
    iblk m hO c 5 t (ix6 0 a f 0 s p) = V m c main_v3 (ix6 ⟨t.val, t.isLt⟩ a f 1 s p) := by
  have h := congrFun ((places t).2.2.2.2.2.1)
  refine congrArg (V m c main_v3) (?_ : (_ : S30x8x32x4x8x128.Idx) = _)
  funext (j : Fin 6)
  apply Fin.ext
  match j with
  | 0 => exact (congrArg (fun o => o * 1 + 1 * 0) (h 0)).trans (by show t.val * 1 + 1 * 0 = t.val; omega)
  | 1 => exact (congrArg (fun o => o * 8 + 1 * a.val) (h 1)).trans (by show 0 * 8 + 1 * a.val = a.val; omega)
  | 2 => exact (congrArg (fun o => o * 32 + 1 * f.val) (h 2)).trans (by show 0 * 32 + 1 * f.val = f.val; omega)
  | 3 => exact (congrArg (fun o => o * 1 + 1 * 0) (h 3)).trans (by show 1 * 1 + 1 * 0 = 1; omega)
  | 4 => exact (congrArg (fun o => o * 8 + 1 * s.val) (h 4)).trans (by show 0 * 8 + 1 * s.val = s.val; omega)
  | 5 => exact (congrArg (fun o => o * 128 + 1 * p.val) (h 5)).trans (by show 0 * 128 + 1 * p.val = p.val; omega)

theorem iblk_6 (hO : Ok m) (c : Dev nD) (t : Fin (cfgM m hO).N) (a : Fin 8) (f : Fin 32) (s : Fin 8) (p : Fin 128) :
    iblk m hO c 6 t (ix6 0 a f 0 s p) = V m c main_v3 (ix6 ⟨t.val, t.isLt⟩ a f 2 s p) := by
  have h := congrFun ((places t).2.2.2.2.2.2.1)
  refine congrArg (V m c main_v3) (?_ : (_ : S30x8x32x4x8x128.Idx) = _)
  funext (j : Fin 6)
  apply Fin.ext
  match j with
  | 0 => exact (congrArg (fun o => o * 1 + 1 * 0) (h 0)).trans (by show t.val * 1 + 1 * 0 = t.val; omega)
  | 1 => exact (congrArg (fun o => o * 8 + 1 * a.val) (h 1)).trans (by show 0 * 8 + 1 * a.val = a.val; omega)
  | 2 => exact (congrArg (fun o => o * 32 + 1 * f.val) (h 2)).trans (by show 0 * 32 + 1 * f.val = f.val; omega)
  | 3 => exact (congrArg (fun o => o * 1 + 1 * 0) (h 3)).trans (by show 2 * 1 + 1 * 0 = 2; omega)
  | 4 => exact (congrArg (fun o => o * 8 + 1 * s.val) (h 4)).trans (by show 0 * 8 + 1 * s.val = s.val; omega)
  | 5 => exact (congrArg (fun o => o * 128 + 1 * p.val) (h 5)).trans (by show 0 * 128 + 1 * p.val = p.val; omega)

theorem iblk_7 (hO : Ok m) (c : Dev nD) (t : Fin (cfgM m hO).N) (a : Fin 8) (f : Fin 32) (s : Fin 8) (p : Fin 128) :
    iblk m hO c 7 t (ix6 0 a f 0 s p) = V m c main_v3 (ix6 ⟨t.val, t.isLt⟩ a f 3 s p) := by
  have h := congrFun ((places t).2.2.2.2.2.2.2.1)
  refine congrArg (V m c main_v3) (?_ : (_ : S30x8x32x4x8x128.Idx) = _)
  funext (j : Fin 6)
  apply Fin.ext
  match j with
  | 0 => exact (congrArg (fun o => o * 1 + 1 * 0) (h 0)).trans (by show t.val * 1 + 1 * 0 = t.val; omega)
  | 1 => exact (congrArg (fun o => o * 8 + 1 * a.val) (h 1)).trans (by show 0 * 8 + 1 * a.val = a.val; omega)
  | 2 => exact (congrArg (fun o => o * 32 + 1 * f.val) (h 2)).trans (by show 0 * 32 + 1 * f.val = f.val; omega)
  | 3 => exact (congrArg (fun o => o * 1 + 1 * 0) (h 3)).trans (by show 3 * 1 + 1 * 0 = 3; omega)
  | 4 => exact (congrArg (fun o => o * 8 + 1 * s.val) (h 4)).trans (by show 0 * 8 + 1 * s.val = s.val; omega)
  | 5 => exact (congrArg (fun o => o * 128 + 1 * p.val) (h 5)).trans (by show 0 * 128 + 1 * p.val = p.val; omega)

end Cert.KernelIdeal.Val

end
-- ==== Proof.OutputValue.lean ====
/- What the kernel leaves at a token, a head and a channel, of the arguments alone. -/
module

public import proofs.«01_k».proof.Proof.KernelIdealRunValue
public import proofs.«01_k».proof.Proof.Blocks

@[expose] public section

set_option maxRecDepth 16384

noncomputable section

namespace Cert.Attn

open Idealize.ShloMosaic

/-- The softmax of the scores `s`, the key frames kept by `ok`, multiplied by `co`: zero where the query's own frame is not kept. -/
def soft (own : BitVec 1) (ok : Fin 32 → BitVec 1) (co : EReal) (s : Fin 32 → EReal) (g : Fin 32) : EReal :=
  have m : EReal := Finset.fold max (Ideal.ofBits FTy.f32 0xFF800000#32)
    (fun x => Scalar.select (ok x) (s x) (Ideal.ofBits FTy.f32 0xFF800000#32)) Finset.univ
  have e : Fin 32 → EReal := fun x =>
    FloatOps.exp2 (F := Ideal) (φ := .f32) ((Scalar.select (ok x) (s x) (Ideal.ofBits FTy.f32 0xFF800000#32) - m) * co)
  Scalar.select own (e g * Ideal.div 1 (∑ x, e x)) 0

/-- Whether frame `f` is kept. -/
def kept (nf : (⟨1, ![3]⟩ : Shape).Idx → BitVec 32) (b f : ℕ) : BitVec 1 := IntOp.cmpi .slt (BitVec.ofNat 32 f) (nf (ix1 (Fin.ofNat 3 b)))

/-- Channel `e` of token `k`, out of packed codes. -/
def codeOf (x : (⟨4, ![3, 16384, 10, 16]⟩ : Shape).Idx → BitVec 32) (b k h e : ℕ) : EReal := f8 (at4 x b k h (e / 4)) (e % 4)

/-- The score of token `k` with the token of the same pixel of frame `f`. -/
def scoreOf (qx kx : (⟨4, ![3, 16384, 10, 16]⟩ : Shape).Idx → BitVec 32) (b k h f : ℕ) : EReal :=
  ∑ e : Fin 64, codeOf kx b (512 * f + k % 512) h e * codeOf qx b k h e

/-- The attention of token `k` at head `h` and channel `d`, the scores multiplied by `co`. -/
def attend (qx kx : (⟨4, ![3, 16384, 10, 16]⟩ : Shape).Idx → BitVec 32) (co : EReal) (v : (⟨4, ![3, 16384, 10, 64]⟩ : Shape).Idx → EReal)
    (nf : (⟨1, ![3]⟩ : Shape).Idx → BitVec 32) (b k h d : ℕ) : EReal :=
  ∑ g : Fin 32, at4 v b (512 * g + k % 512) h d
    * soft (kept nf b (k / 512)) (fun x => kept nf b x) co (fun f => scoreOf qx kx b k h f) g

end Cert.Attn

namespace Cert.KernelIdeal.Val

open Cert.KernelIdeal Cert.KernelIdeal.Gen Cert.KernelIdeal.Hand Cert.Attn
open Idealize.ShloMosaic Idealize.ShloMosaic.TcCoe Idealize.SL.Sem
open Idealize.ShloMosaic.Pipeline (Dat)

/-- What the scores of head `h` are multiplied by. -/
def scale (qs ks : S3x10.Idx → EReal) (b h : ℕ) : EReal :=
  at2 qs b h * at2 ks b h * Named.named (F := Ideal) (φ := .f32) κ "scale_log2e" 0x3E38AA3B#32

variable (m : (ℓ : Loc nD τ sig) → Buf (Elt Ideal) ℓ)

theorem count_eq (hO : Ok m) (c : Dev nD) (t : Fin (cfgM m hO).N) :
    count c (grid0.coords t) (tbl m 0) = (m ((c : Thread nD τ).loc main_arg5) : S3.Idx → BitVec 32) (ix1 (Fin.ofNat 3 (t.val / 10))) := by
  obtain rfl : c = 0 := Subsingleton.elim _ _
  have e : tbl m 0 = m (((0 : Dev nD) : Thread nD τ).loc main_arg5) := V_kept m 0 main_arg5 (by decide)
  rw [e]
  have ht : t.val < 30 := lt_of_lt_of_eq t.isLt N_0
  refine congrArg (m (((0 : Dev nD) : Thread nD τ).loc main_arg5)) (?_ : (_ : S3.Idx) = _)
  funext (j : Fin 1)
  apply Fin.ext
  match j with
  | 0 => exact (congrArg (fun o => o + 1 * 0) ((places t).2.2.2.2.2.2.2.2.2)).trans (by show t.val / 10 + 1 * 0 = t.val / 10 % 3; omega)

theorem code_0 (hO : Ok m) (c : Dev nD) (t : Fin (cfgM m hO).N) (u d p : ℕ) (hu : u < 128) (hd : d < 64) (hp : p < 128) :
    code (iblk m hO c 0 t) u d p = codeOf (m ((c : Thread nD τ).loc main_arg0)) (t.val / 10) (128 * u + p) (t.val % 10) d := by
  have ht : t.val < 30 := lt_of_lt_of_eq t.isLt N_0
  have e : at5 (iblk m hO c 0 t) 0 (d / 32) u (d / 4 % 8) p
      = at4 (m ((c : Thread nD τ).loc main_arg0) : S3x16384x10x16.Idx → BitVec 32) (t.val / 10) (128 * u + p) (t.val % 10) (d / 4) := by
    refine (at5_ix5 (iblk m hO c 0 t : S1x2x128x8x128.Idx → BitVec 32) 0 ⟨d / 32, by omega⟩ ⟨u, hu⟩ ⟨d / 4 % 8, by omega⟩ ⟨p, hp⟩).symm.trans ?_
    rw [iblk_0, V_v6, wordTiles_apply]
    congr 1
    show 8 * (d / 32) + d / 4 % 8 = d / 4
    omega
  exact congrArg (fun w => f8 w (d % 4)) e

theorem code_1 (hO : Ok m) (c : Dev nD) (t : Fin (cfgM m hO).N) (u d p : ℕ) (hu : u < 128) (hd : d < 64) (hp : p < 128) :
    code (iblk m hO c 1 t) u d p = codeOf (m ((c : Thread nD τ).loc main_arg1)) (t.val / 10) (128 * u + p) (t.val % 10) d := by
  have ht : t.val < 30 := lt_of_lt_of_eq t.isLt N_0
  have e : at5 (iblk m hO c 1 t) 0 (d / 32) u (d / 4 % 8) p
      = at4 (m ((c : Thread nD τ).loc main_arg1) : S3x16384x10x16.Idx → BitVec 32) (t.val / 10) (128 * u + p) (t.val % 10) (d / 4) := by
    refine (at5_ix5 (iblk m hO c 1 t : S1x2x128x8x128.Idx → BitVec 32) 0 ⟨d / 32, by omega⟩ ⟨u, hu⟩ ⟨d / 4 % 8, by omega⟩ ⟨p, hp⟩).symm.trans ?_
    rw [iblk_1, V_v9, wordTiles_apply]
    congr 1
    show 8 * (d / 32) + d / 4 % 8 = d / 4
    omega
  exact congrArg (fun w => f8 w (d % 4)) e

theorem value_at (hO : Ok m) (c : Dev nD) (t : Fin (cfgM m hO).N) (q : ℕ) (d : ℕ) (g : Fin 32) (p : ℕ) (hq : q < 4) (hd : d < 64) (hp : p < 128) :
    at6 (pick4 (α := S1x8x32x1x8x128.Idx → EReal) (iblk m hO c 4 t) (iblk m hO c 5 t) (iblk m hO c 6 t) (iblk m hO c 7 t) q) 0 (d / 8) g 0 (d % 8) p
      = at4 (α := EReal) (m ((c : Thread nD τ).loc main_arg4) : S3x16384x10x64.Idx → EReal) (t.val / 10) (512 * g + 128 * q + p) (t.val % 10) d := by
  have ht : t.val < 30 := lt_of_lt_of_eq t.isLt N_0
  have hd' : 8 * (d / 8) + d % 8 = d := by omega
  have e : ∀ x : S1x8x32x1x8x128.Idx → EReal,
      at6 x 0 (d / 8) g 0 (d % 8) p = x (ix6 0 ⟨d / 8, by omega⟩ g 0 ⟨d % 8, by omega⟩ ⟨p, hp⟩) :=
    fun x => (at6_ix6 x 0 ⟨d / 8, by omega⟩ g 0 ⟨d % 8, by omega⟩ ⟨p, hp⟩).symm
  have f : ∀ r : Fin 4, r.val = q → V m c main_v3 (ix6 ⟨t.val, t.isLt⟩ ⟨d / 8, by omega⟩ g r ⟨d % 8, by omega⟩ ⟨p, hp⟩)
      = at4 (α := EReal) (m ((c : Thread nD τ).loc main_arg4) : S3x16384x10x64.Idx → EReal) (t.val / 10) (512 * g + 128 * q + p) (t.val % 10) d := by
    rintro r rfl
    rw [V_v3, valueTiles_apply]
    exact congrArg (at4 (m ((c : Thread nD τ).loc main_arg4) : S3x16384x10x64.Idx → EReal) (t.val / 10) (512 * g + 128 * r + p) (t.val % 10)) hd'
  refine (e _).trans ?_
  obtain rfl | rfl | rfl | rfl : q = 0 ∨ q = 1 ∨ q = 2 ∨ q = 3 := by omega
  · exact (iblk_4 m hO c t _ _ _ _).trans (f 0 rfl)
  · exact (iblk_5 m hO c t _ _ _ _).trans (f 1 rfl)
  · exact (iblk_6 m hO c t _ _ _ _).trans (f 2 rfl)
  · exact (iblk_7 m hO c t _ _ _ _).trans (f 3 rfl)

theorem coef_at (hO : Ok m) (c : Dev nD) (t : Fin (cfgM m hO).N) (u : Fin 128) :
    coef (iblk m hO c 2 t) (iblk m hO c 3 t) (ix2 0 u)
      = scale (m ((c : Thread nD τ).loc main_arg2)) (m ((c : Thread nD τ).loc main_arg3)) (t.val / 10) (t.val % 10) := by
  have e2 : iblk m hO c 2 t (ix3 0 0 u) = at2 (m ((c : Thread nD τ).loc main_arg2) : S3x10.Idx → EReal) (t.val / 10) (t.val % 10) := by
    rw [iblk_2, V_v11, scaleTiles_apply]
  have e3 : iblk m hO c 3 t (ix3 0 0 u) = at2 (m ((c : Thread nD τ).loc main_arg3) : S3x10.Idx → EReal) (t.val / 10) (t.val % 10) := by
    rw [iblk_3, V_v13, scaleTiles_apply]
  exact congrArg₂ (fun a b : EReal => a * b * Named.named (F := Ideal) (φ := .f32) κ "scale_log2e" 0x3E38AA3B#32) e2 e3

/-- The result of the region, of the arguments. -/
def OUT (c : Dev nD) : S30x8x128x8x128.Idx → Elt Ideal .bf16 := fun y =>
  attend (m ((c : Thread nD τ).loc main_arg0)) (m ((c : Thread nD τ).loc main_arg1))
    (scale (m ((c : Thread nD τ).loc main_arg2)) (m ((c : Thread nD τ).loc main_arg3)) ((y 0).val / 10) ((y 0).val % 10))
    (m ((c : Thread nD τ).loc main_arg4)) (m ((c : Thread nD τ).loc main_arg5))
    ((y 0).val / 10) (128 * (y 2).val + (y 4).val) ((y 0).val % 10) (8 * (y 1).val + (y 3).val)

theorem outBlock_ix5 (n : BitVec 32) (x0 x1 : S1x2x128x8x128.Idx → Elt Ideal .i32) (x2 x3 : S1x8x128.Idx → EReal)
    (x4 x5 x6 x7 : S1x8x32x1x8x128.Idx → Elt Ideal .bf16) (z : Fin 1) (a : Fin 8) (u : Fin 128) (s : Fin 8) (p : Fin 128) :
    outBlock n x0 x1 x2 x3 x4 x5 x6 x7 (ix5 z a u s p)
      = ∑ g : Fin 32, at6 (pick4 x4 x5 x6 x7 (u.val % 4)) 0 ((8 * a.val + s.val) / 8) g 0 ((8 * a.val + s.val) % 8) p.val
          * soft (IntOp.cmpi .slt (BitVec.ofNat 32 (u.val / 4)) n) (fun x => IntOp.cmpi .slt (BitVec.ofNat 32 x.val) n) (coef x2 x3 (ix2 0 u))
              (fun h => ∑ e : Fin 64, code x1 (4 * h.val + u.val % 4) e.val p.val * code x0 u.val e.val p.val) g := rfl

/-- What the body leaves at point `t` is the point's part of the result. -/
theorem outAt_eq (hO : Ok m) (c : Dev nD) (t : Fin (cfgM m hO).N) (z : Fin 1) (a : Fin 8) (u : Fin 128) (s : Fin 8) (p : Fin 128) :
    outAt m hO c t (ix5 z a u s p) = OUT m c (ix5 ⟨t.val, t.isLt⟩ a u s p) := by
  have hk : (128 * u.val + p.val) / 512 = u.val / 4 := by omega
  have hm : ∀ f : ℕ, 512 * f + (128 * u.val + p.val) % 512 = 128 * (4 * f + u.val % 4) + p.val := fun f => by omega
  have key : ∀ g : Fin 32, at6 (pick4 (α := S1x8x32x1x8x128.Idx → EReal) (iblk m hO c 4 t) (iblk m hO c 5 t) (iblk m hO c 6 t) (iblk m hO c 7 t) (u.val % 4)) 0 ((8 * a.val + s.val) / 8) g 0 ((8 * a.val + s.val) % 8) p.val
        * soft (IntOp.cmpi .slt (BitVec.ofNat 32 (u.val / 4)) (count c (grid0.coords t) (tbl m 0)))
          (fun x => IntOp.cmpi .slt (BitVec.ofNat 32 x.val) (count c (grid0.coords t) (tbl m 0)))
          (coef (iblk m hO c 2 t) (iblk m hO c 3 t) (ix2 0 u))
          (fun h => ∑ e : Fin 64, code (iblk m hO c 1 t) (4 * h.val + u.val % 4) e.val p.val * code (iblk m hO c 0 t) u.val e.val p.val) g
      = at4 (α := EReal) (m ((c : Thread nD τ).loc main_arg4) : S3x16384x10x64.Idx → EReal) (t.val / 10) (512 * g + (128 * u.val + p.val) % 512) (t.val % 10) (8 * a.val + s.val)
        * soft (kept (m ((c : Thread nD τ).loc main_arg5)) (t.val / 10) ((128 * u.val + p.val) / 512)) (fun x => kept (m ((c : Thread nD τ).loc main_arg5)) (t.val / 10) x.val)
          (scale (m ((c : Thread nD τ).loc main_arg2)) (m ((c : Thread nD τ).loc main_arg3)) (t.val / 10) (t.val % 10))
          (fun f => scoreOf (m ((c : Thread nD τ).loc main_arg0)) (m ((c : Thread nD τ).loc main_arg1)) (t.val / 10) (128 * u.val + p.val) (t.val % 10) f) g := by
    intro g
    rw [value_at m hO c t (u.val % 4) (8 * a.val + s.val) g p.val (by omega) (by omega) p.isLt,
      show 512 * g.val + 128 * (u.val % 4) + p.val = 512 * g.val + (128 * u.val + p.val) % 512 by omega, hk, coef_at, count_eq]
    refine congrArg (fun w => _ * soft _ _ _ w g) (funext fun h => Finset.sum_congr rfl fun e _ => ?_)
    rw [code_1 m hO c t _ _ _ (by omega) e.isLt p.isLt, code_0 m hO c t _ _ _ u.isLt e.isLt p.isLt, hm]
  exact (outBlock_ix5 _ _ _ _ _ _ _ _ _ z a u s p).trans (Finset.sum_congr rfl fun g _ => key g)

theorem flush8 : ∀ t : Fin grid0.N, Pipeline.Window.flushOf grid0 true (fun i => cc0_transform_8 i) t = true := by decide +kernel

theorem blocks {x y n s : ℕ} (hx : x = n) (hy : y = s) : (x + y - 1) / y = (n + s - 1) / s := by rw [hx, hy]

theorem covers8 (hO : Ok m) : ((cfgM m hO).win (8 : Fin 9)).Covers := by
  refine ⟨fun (a : Fin 5) => ?_, fun β => ?_⟩
  · match a with
    | 0 | 1 | 2 | 3 | 4 => exact Nat.succ_pos _
  have b0 : (β (0 : Fin 5)).val < 30 := lt_of_lt_of_eq (β (0 : Fin 5)).isLt (blocks (n := 30) (s := 1) rfl rfl)
  have b1 : (β (1 : Fin 5)).val < 1 := lt_of_lt_of_eq (β (1 : Fin 5)).isLt (blocks (n := 8) (s := 8) rfl rfl)
  have b2 : (β (2 : Fin 5)).val < 1 := lt_of_lt_of_eq (β (2 : Fin 5)).isLt (blocks (n := 128) (s := 128) rfl rfl)
  have b3 : (β (3 : Fin 5)).val < 1 := lt_of_lt_of_eq (β (3 : Fin 5)).isLt (blocks (n := 8) (s := 8) rfl rfl)
  have b4 : (β (4 : Fin 5)).val < 1 := lt_of_lt_of_eq (β (4 : Fin 5)).isLt (blocks (n := 128) (s := 128) rfl rfl)
  refine ⟨(⟨(β (0 : Fin 5)).val, b0⟩ : Fin 30), flush8 _, fun (a : Fin 5) => ⟨?_, Or.inl rfl⟩⟩
  have h := congrFun ((places (⟨(β (0 : Fin 5)).val, b0⟩ : Fin 30)).2.2.2.2.2.2.2.2.1)
  match a with
  | 0 => exact h 0
  | 1 => exact (h 1).trans (Nat.lt_one_iff.mp b1).symm
  | 2 => exact (h 2).trans (Nat.lt_one_iff.mp b2).symm
  | 3 => exact (h 3).trans (Nat.lt_one_iff.mp b3).symm
  | 4 => exact (h 4).trans (Nat.lt_one_iff.mp b4).symm

/-- What the region leaves in the output array. -/
theorem arr8 (hO : Ok m) (c : Dev nD) : (dats m hO 0 c).arrAt (8 : Fin 9) (cfgM m hO).N = OUT m c := by
  refine (dats m hO 0 c).arrAt_eq_of_covers (8 : Fin 9) (OUT m c) (covers8 m hO) fun t hf y => ?_
  blk_simp
  rw [after0_8]
  obtain ⟨z, a, u, s, p, e⟩ : ∃ (z : Fin 1) (a : Fin 8) (u : Fin 128) (s : Fin 8) (p : Fin 128), (y : S1x8x128x8x128.Idx) = ix5 z a u s p :=
    ⟨_, _, _, _, _, eq_ix5 (y : S1x8x128x8x128.Idx)⟩
  refine (congrArg (outAt m hO c t) e).trans ((outAt_eq m hO c t z a u s p).trans ?_)
  refine congrArg (OUT m c) (?_ : (_ : S30x8x128x8x128.Idx) = _)
  subst e
  funext (j : Fin 5)
  apply Fin.ext
  have h := congrFun ((places t).2.2.2.2.2.2.2.2.1)
  match j with
  | 0 => exact ((congrArg (fun o => o * 1 + 1 * z.val) (h 0)).trans (by show t.val * 1 + 1 * z.val = t.val; omega)).symm
  | 1 => exact ((congrArg (fun o => o * 8 + 1 * a.val) (h 1)).trans (by show 0 * 8 + 1 * a.val = a.val; omega)).symm
  | 2 => exact ((congrArg (fun o => o * 128 + 1 * u.val) (h 2)).trans (by show 0 * 128 + 1 * u.val = u.val; omega)).symm
  | 3 => exact ((congrArg (fun o => o * 8 + 1 * s.val) (h 3)).trans (by show 0 * 8 + 1 * s.val = s.val; omega)).symm
  | 4 => exact ((congrArg (fun o => o * 128 + 1 * p.val) (h 4)).trans (by show 0 * 128 + 1 * p.val = p.val; omega)).symm

/-- The kernel's result, of its arguments. -/
def KER (c : Dev nD) : S3x16384x10x64.Idx → Elt Ideal .bf16 := fun y =>
  attend (m ((c : Thread nD τ).loc main_arg0)) (m ((c : Thread nD τ).loc main_arg1))
    (scale (m ((c : Thread nD τ).loc main_arg2)) (m ((c : Thread nD τ).loc main_arg3)) (y 0).val (y 2).val)
    (m ((c : Thread nD τ).loc main_arg4)) (m ((c : Thread nD τ).loc main_arg5)) (y 0).val (y 1).val (y 2).val (y 3).val

theorem byToken_OUT (c : Dev nD) : byToken (OUT m c) = KER m c := by
  funext y
  obtain ⟨b, k, h, d, rfl⟩ : ∃ (b : Fin 3) (k : Fin 16384) (h : Fin 10) (d : Fin 64), y = ix4 b k h d := ⟨_, _, _, _, eq_ix4 y⟩
  rw [byToken_apply]
  refine (at5_ix5 (OUT m c) ⟨10 * b + h, by omega⟩ ⟨d / 8, by omega⟩ ⟨k / 128, by omega⟩ ⟨d % 8, by omega⟩ ⟨k % 128, by omega⟩).symm.trans ?_
  have e0 : (10 * b.val + h.val) / 10 = b.val := by omega
  have e1 : (10 * b.val + h.val) % 10 = h.val := by omega
  have e2 : 128 * (k.val / 128) + k.val % 128 = k.val := by omega
  have e3 : 8 * (d.val / 8) + d.val % 8 = d.val := by omega
  show attend _ _ (scale _ _ ((10 * b.val + h.val) / 10) ((10 * b.val + h.val) % 10)) _ _ ((10 * b.val + h.val) / 10) (128 * (k.val / 128) + k.val % 128) ((10 * b.val + h.val) % 10) (8 * (d.val / 8) + d.val % 8) = _
  rw [e0, e1, e2, e3]
  rfl

theorem result (hO : Ok m) (c : Dev nD) :
    Pipeline.afterTail pcfgs (fun _ => adm m hO) (dats m hO) 0 (V0 m) [hostOps1] c main_v17 = KER m c := by
  rw [← byToken_OUT, ← arr8 m hO c]
  refine (tail _).trans (congrArg byToken ?_)
  exact (dats m hO 0 c).withArrays_arrAt (launch₀0 (F := Ideal)).sharedIn (V0 m c) (fun w => A_eq m hO c w) (8 : Fin 9)

/-- The run leaves the result of the arguments. -/
theorem value (ρ : Dev nD → PrngReg) (hO : Ok m) : θ_run defs (onTc (τ := τ) (main (F := Ideal))) ⟨m, fun _ => 0, ρ⟩
    (fun r => ∀ c : Dev nD, r.2.mem ((c.tc : Thread nD τ).loc main_v17) = KER m c) :=
  (θ_run defs _ _).mono (fun _ h c => ((h c).2 main_v17 (by decide : main_v17 ∈ Pipeline.restRefs sig spec0)).trans (result m hO c)) (run_main m ρ hO)

end Cert.KernelIdeal.Val

end
-- ==== Proof.RefTerm.lean ====
/- The reference's result as one term of the decoded codes, the scales, the values and the frame counts. -/
module

public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Val

open Cert.ReferenceIdeal Cert.ReferenceIdeal.Gen
open Idealize.ShloMosaic Idealize.ShloMosaic.TcCoe Idealize.SL.Sem
open Idealize.ShloMosaic.Pipeline (Dat)

/-- Which frames are kept. -/
def frames (nf : IVec S3 32) : IVec S3x32 1 :=
  cmpi .slt (broadcastInDim S3x32 ![0, 1] bcast_S1x32_S3x32_0_1 (broadcastInDim S1x32 ![1] bcast_S32_S1x32_1 (iotaInDim S32 32 0)))
    (broadcastInDim S3x32 ![0, 1] bcast_S3x1_S3x32_0_1 (broadcastInDim S3x1 ![0] bcast_S3_S3x1_0 nf))

/-- Decoded codes, by frame and pixel. -/
def tokens (y : FVec Ideal S1920x16384 .f32) : FVec Ideal S3x32x512x10x64 .f32 :=
  transpose S3x32x512x10x64 [0, 3, 4, 1, 2] (shapeCast S3x10x64x32x512 y shapeCasts_S1920x16384_S3x10x64x32x512) transposes_S3x10x64x32x512_S3x32x512x10x64_0_3_4_1_2

/-- The scaled scores, minus infinity at the key frames that are not kept. -/
def scores (q k : FVec Ideal S3x32x512x10x64 .f32) (qs ks : FVec Ideal S3x10 .f32) (ok : IVec S3x32 1) : FVec Ideal S3x512x10x32x32 .f32 :=
  select (broadcastInDim S3x512x10x32x32 ![0, 1, 2, 3, 4] bcast_S3x1x1x1x32_S3x512x10x32x32_0_1_2_3_4 (broadcastInDim S3x1x1x1x32 ![0, 4] bcast_S3x32_S3x1x1x1x32_0_4 ok))
    (mulf (Host.dotGeneral dot_S3x32x512x10x64_S3x32x512x10x64_S3x512x10x32x32_4_4_1_1_023_023 none q k)
      (broadcastInDim S3x512x10x32x32 ![0, 1, 2, 3, 4] bcast_S3x1x10x1x1_S3x512x10x32x32_0_1_2_3_4 (broadcastInDim S3x1x10x1x1 ![0, 2] bcast_S3x10_S3x1x10x1x1_0_2
        (mulf (mulf qs ks) (broadcastInDim S3x10 ![] bcast_S_S3x10 (constant S_ .f32 0x3E000000#32))))))
    (broadcastInDim S3x512x10x32x32 ![] bcast_S_S3x512x10x32x32 (constant S_ .f32 0xFF800000#32))

/-- The exponentials of the scores less their maximum. -/
def exps (s : FVec Ideal S3x512x10x32x32 .f32) : FVec Ideal S3x512x10x32x32 .f32 :=
  Host.exp (subf s (broadcastInDim S3x512x10x32x32 ![0, 1, 2, 3, 4] bcast_S3x512x10x32x1_S3x512x10x32x32_0_1_2_3_4 (broadcastInDim S3x512x10x32x1 ![0, 1, 2, 3] bcast_S3x512x10x32_S3x512x10x32x1_0_1_2_3
    (maximumf (broadcastInDim S3x512x10x32 ![] bcast_S_S3x512x10x32 (constant S_ .f32 0xFF800000#32))
      (Host.reduce FloatOps.maximumf s (constant S_ .f32 0xFF800000#32) reducesTo_S3x512x10x32x32_S3x512x10x32_d4 h_S_)))))

/-- The softmax, off the exponentials. -/
def probs (e : FVec Ideal S3x512x10x32x32 .f32) : FVec Ideal S3x512x10x32x32 .bf16 :=
  truncf .bf16 (Host.divf e (broadcastInDim S3x512x10x32x32 ![0, 1, 2, 3, 4] bcast_S3x512x10x32x1_S3x512x10x32x32_0_1_2_3_4 (broadcastInDim S3x512x10x32x1 ![0, 1, 2, 3] bcast_S3x512x10x32_S3x512x10x32x1_0_1_2_3
    (Host.reduceAdd e (constant S_ .f32 0x00000000#32) reducesTo_S3x512x10x32x32_S3x512x10x32_d4 h_S_)))) bitsLt_bf16_f32

/-- The values averaged by the softmax, zero at the query frames that are not kept. -/
def outs (p : FVec Ideal S3x512x10x32x32 .bf16) (v : FVec Ideal S3x16384x10x64 .bf16) (ok : IVec S3x32 1) : FVec Ideal S3x16384x10x64 .bf16 :=
  truncf .bf16 (shapeCast S3x16384x10x64 (select (broadcastInDim S3x32x512x10x64 ![0, 1, 2, 3, 4] bcast_S3x32x1x1x1_S3x32x512x10x64_0_1_2_3_4 (broadcastInDim S3x32x1x1x1 ![0, 1] bcast_S3x32_S3x32x1x1x1_0_1 ok))
    (transpose S3x32x512x10x64 [0, 4, 1, 2, 3] (Host.dotGeneral (φ₁ := .bf16) (φ₂ := .bf16) dot_S3x32x512x10x64_S3x512x10x32x32_S3x512x10x64x32_1_4_4_3_023_012 none
      (shapeCast S3x32x512x10x64 v shapeCasts_S3x16384x10x64_S3x32x512x10x64) p) transposes_S3x512x10x64x32_S3x32x512x10x64_0_4_1_2_3)
    (broadcastInDim S3x32x512x10x64 ![] bcast_S_S3x32x512x10x64 (constant S_ .f32 0x00000000#32))) shapeCasts_S3x32x512x10x64_S3x16384x10x64) bitsLt_bf16_f32

/-- The result. -/
def REF (yq yk : FVec Ideal S1920x16384 .f32) (qs ks : FVec Ideal S3x10 .f32) (v : FVec Ideal S3x16384x10x64 .bf16) (nf : IVec S3 32) : FVec Ideal S3x16384x10x64 .bf16 :=
  outs (probs (exps (scores (tokens yq) (tokens yk) qs ks (frames nf)))) v (frames nf)

set_option maxHeartbeats 1600000 in
/-- The lines after the region leave the result as that term of what they find. -/
theorem tail (σ : Valuation τ sig (Elt Ideal)) :
    StableHlo.after (List.flatten [hostOps1, hostOps1_1, hostOps1_2, hostOps1_3, hostOps1_4]) σ (Proc.devRef .tc main_v42)
      = REF (σ (Proc.devRef .tc main_v4_0)) (σ (Proc.devRef .tc main_v4_1)) (σ (Proc.devRef .tc main_arg2)) (σ (Proc.devRef .tc main_arg3))
          (σ (Proc.devRef .tc main_arg4)) (σ (Proc.devRef .tc main_arg5)) := by
  simp only [List.flatten_cons, List.flatten_nil, List.append_nil, List.cons_append, List.nil_append, hostOps1, hostOps1_1, hostOps1_2, hostOps1_3, hostOps1_4]
  after_results
  rfl

end Cert.ReferenceIdeal.Val

end
-- ==== Proof.DecodeValue.lean ====
/- What the reference's decoding region leaves: the number every code stands for. -/
module

public import proofs.«01_k».proof.Proof.HostLines
public import proofs.«01_k».proof.Proof.RefTerm

@[expose] public section

set_option maxRecDepth 16384

noncomputable section

namespace Cert.ReferenceIdeal.Val

open Cert.ReferenceIdeal Cert.ReferenceIdeal.Gen Cert.Attn
open Idealize.ShloMosaic Idealize.ShloMosaic.TcCoe Idealize.SL.Sem
open Idealize.ShloMosaic.Pipeline (Dat)

/-- Packed codes with the tokens in the columns. -/
def columns (x : S3x16384x10x16.Idx → BitVec 32) : S480x16384.Idx → BitVec 32 :=
  shapeCast S480x16384 (transpose S3x10x16x16384 [0, 2, 3, 1] x transposes_S3x16384x10x16_S3x10x16x16384_0_2_3_1) shapeCasts_S3x10x16x16384_S480x16384

theorem columns_apply (x : S3x16384x10x16.Idx → BitVec 32) (r : Fin 480) (k : Fin 16384) :
    columns x (ix2 r k) = at4 x (r / 160) k (r / 16 % 10) (r % 16) := by
  unfold columns
  pointwise
  refine at4_of _ _ _ _ _ _ ?_ ?_ ?_ ?_ <;> dsimp <;> omega

/-- The decoded codes: row `64 * (10 * b + h) + d` holds channel `d` of head `h`. -/
def decoded (x : S3x16384x10x16.Idx → BitVec 32) : FVec Ideal S1920x16384 .f32 := fun y =>
  f8 (at4 x ((y 0).val / 640) (y 1).val ((y 0).val / 64 % 10) ((y 0).val % 64 / 4)) ((y 0).val % 4)

theorem pay1_eq (x : S3x16384x10x16.Idx → BitVec 32) : k0_pay1 (F := Ideal) (columns x) = decoded x := by
  funext y
  obtain ⟨r, k, rfl⟩ : ∃ (r : Fin 1920) (k : Fin 16384), y = ix2 r k := ⟨y 0, y 1, eq_ix2 y⟩
  unfold k0_pay1
  have hs : shapeCast S480x16384 (columns x) shapeCasts_S480x16384_S480x16384 = columns x := by
    funext z
    obtain ⟨a, b, rfl⟩ : ∃ (a : Fin 480) (b : Fin 16384), z = ix2 a b := ⟨z 0, z 1, eq_ix2 z⟩
    pointwise
  rw [hs]
  refine (congrArg (Ideal.ofBits .fp8e4m3) (bitcast_bytes (columns x) bitcasts_S480x16384_w32_S1920x16384_w8 r k ⟨r / 4, by omega⟩ rfl)).trans ?_
  rw [columns_apply]
  show f8 (at4 x (r.val / 4 / 160) k (r.val / 4 / 16 % 10) (r.val / 4 % 16)) (r.val % 4) = f8 (at4 x (r.val / 640) k (r.val / 64 % 10) (r.val % 64 / 4)) (r.val % 4)
  rw [show r.val / 4 / 160 = r.val / 640 by omega, show r.val / 4 / 16 % 10 = r.val / 64 % 10 by omega, show r.val / 4 % 16 = r.val % 64 / 4 by omega]

theorem pay2_eq (x : S3x16384x10x16.Idx → BitVec 32) : k0_pay2 (F := Ideal) (columns x) = decoded x := pay1_eq x

variable (m : (ℓ : Loc nD τ sig) → Buf (Elt Ideal) ℓ)

theorem V_v1 (c : Dev nD) : V m c main_v1 = columns (m ((c : Thread nD τ).loc main_arg0)) := by
  unfold V V0
  simp only [List.flatten_cons, List.flatten_nil, List.append_nil, List.cons_append, List.nil_append, hostOps0]
  after_results
  rfl

theorem V_v3 (c : Dev nD) : V m c main_v3 = columns (m ((c : Thread nD τ).loc main_arg1)) := by
  unfold V V0
  simp only [List.flatten_cons, List.flatten_nil, List.append_nil, List.cons_append, List.nil_append, hostOps0]
  after_results
  rfl

theorem arr2 (c : Dev nD) : (dats m 0 c).arrAt (2 : Fin 4) (cfgs 0).N = decoded (m ((c : Thread nD τ).loc main_arg0)) := by
  rw [← pay1_eq, ← V_v1]
  refine (dats m 0 c).arrAt_eq_of_after_last (2 : Fin 4) t0_0 (by decide +kernel) _ fun j => ?_
  blk_simp
  rw [after0_2]
  frame_out
  refine congrArg (fun x => k0_pay1 (F := Ideal) x j) (?_ : (_ : S480x16384.Idx → BitVec 32) = _)
  funext y
  refine congrArg (V m c main_v1) (?_ : (_ : S480x16384.Idx) = _)
  funext (a : Fin 2)
  apply Fin.ext
  match a with
  | 0 => show 0 * 480 + 1 * (y 0).val = (y 0).val; omega
  | 1 => show 0 * 16384 + 1 * (y 1).val = (y 1).val; omega

theorem arr3 (c : Dev nD) : (dats m 0 c).arrAt (3 : Fin 4) (cfgs 0).N = decoded (m ((c : Thread nD τ).loc main_arg1)) := by
  rw [← pay2_eq, ← V_v3]
  refine (dats m 0 c).arrAt_eq_of_after_last (3 : Fin 4) t0_0 (by decide +kernel) _ fun j => ?_
  blk_simp
  rw [after0_3]
  frame_out
  refine congrArg (fun x => k0_pay2 (F := Ideal) x j) (?_ : (_ : S480x16384.Idx → BitVec 32) = _)
  funext y
  refine congrArg (V m c main_v3) (?_ : (_ : S480x16384.Idx) = _)
  funext (a : Fin 2)
  apply Fin.ext
  match a with
  | 0 => show 0 * 480 + 1 * (y 0).val = (y 0).val; omega
  | 1 => show 0 * 16384 + 1 * (y 1).val = (y 1).val; omega

theorem REF_congr {yq yq' yk yk' : FVec Ideal S1920x16384 .f32} {qs qs' ks ks' : FVec Ideal S3x10 .f32} {v v' : FVec Ideal S3x16384x10x64 .bf16} {nf nf' : IVec S3 32}
    (h0 : yq = yq') (h1 : yk = yk') (h2 : qs = qs') (h3 : ks = ks') (h4 : v = v') (h5 : nf = nf') : REF yq yk qs ks v nf = REF yq' yk' qs' ks' v' nf' := by
  rw [h0, h1, h2, h3, h4, h5]

/-- The reference's result, as that term of its arguments. -/
theorem result (c : Dev nD) : Pipeline.afterTail₀ cfgs (dats m) 0 (V0 m) [hostOps1, hostOps1_1, hostOps1_2, hostOps1_3, hostOps1_4] c main_v42
    = REF (decoded (m ((c : Thread nD τ).loc main_arg0))) (decoded (m ((c : Thread nD τ).loc main_arg1)))
        (m ((c : Thread nD τ).loc main_arg2)) (m ((c : Thread nD τ).loc main_arg3)) (m ((c : Thread nD τ).loc main_arg4)) (m ((c : Thread nD τ).loc main_arg5)) := by
  rw [← arr2 m c, ← arr3 m c, ← V_main_arg2 m c, ← V_main_arg3 m c, ← V_main_arg4 m c, ← V_main_arg5 m c]
  refine (tail _).trans ?_
  have k : ∀ b : Ref sig .tc, (∀ w, Pipeline.arrRef spec0 w ≠ b) →
      Pipeline.withArrays spec0 c (V0 m c) (fun w => (dats m 0 c).arrAt w (cfgs (0 : Fin 1)).N) (Proc.devRef .tc b) = V m c b :=
    fun b hb => Pipeline.withArrays_of_ne spec0 c (V0 m c) _ b hb
  have a : ∀ w, Pipeline.withArrays spec0 c (V0 m c) (fun w => (dats m 0 c).arrAt w (cfgs (0 : Fin 1)).N) (Proc.devRef .tc (Pipeline.arrRef spec0 w)) = (dats m 0 c).arrAt w (cfgs (0 : Fin 1)).N :=
    fun w => Pipeline.withArrays_arr spec0 launch0.win.arr_inj c (V0 m c) _ w
  refine REF_congr ?_ ?_ ?_ ?_ ?_ ?_
  · exact a (2 : Fin 4)
  · exact a (3 : Fin 4)
  · exact k main_arg2 (by decide)
  · exact k main_arg3 (by decide)
  · exact k main_arg4 (by decide)
  · exact k main_arg5 (by decide)

end Cert.ReferenceIdeal.Val

end
-- ==== Proof.RefValue.lean ====
/- The reference's term at a token, a head and a channel. -/
module

public import proofs.«01_k».proof.Proof.HostLines
public import proofs.«01_k».proof.Proof.RefTerm

@[expose] public section

set_option maxRecDepth 16384

noncomputable section

namespace Cert.ReferenceIdeal.Val

open Cert.ReferenceIdeal Cert.ReferenceIdeal.Gen Cert.Attn
open Idealize.ShloMosaic Idealize.ShloMosaic.TcCoe

theorem frames_apply (nf : IVec S3 32) (b : Fin 3) (f : Fin 32) :
    frames nf (ix2 b f) = IntOp.cmpi .slt (BitVec.ofNat 32 f.val) (nf (ix1 b)) := by
  pointwise [frames]

theorem tokens_apply (y : FVec Ideal S1920x16384 .f32) (b : Fin 3) (f : Fin 32) (p : Fin 512) (h : Fin 10) (d : Fin 64) :
    tokens y (ix5 b f p h d) = at2 y (64 * (10 * b + h) + d) (512 * f + p) := by
  pointwise [tokens]
  refine at2_of _ _ _ _ ?_ ?_ <;> dsimp <;> omega

theorem scores_apply (q k : FVec Ideal S3x32x512x10x64 .f32) (qs ks : FVec Ideal S3x10 .f32) (ok : IVec S3x32 1)
    (b : Fin 3) (p : Fin 512) (h : Fin 10) (f g : Fin 32) :
    scores q k qs ks ok (ix5 b p h f g) = Scalar.select (ok (ix2 b g))
      ((∑ e : Fin 64, q (ix5 b f p h e) * k (ix5 b g p h e)) * (qs (ix2 b h) * ks (ix2 b h) * Ideal.ofBits .f32 0x3E000000#32)) (Ideal.ofBits .f32 0xFF800000#32) := by
  pointwise [scores]

theorem max_apply (s : FVec Ideal S3x512x10x32x32 .f32) (b : Fin 3) (p : Fin 512) (h : Fin 10) (f : Fin 32) :
    Host.reduce FloatOps.maximumf s (constant S_ .f32 0xFF800000#32) reducesTo_S3x512x10x32x32_S3x512x10x32_d4 h_S_ (ix4 b p h f)
      = Finset.fold max (Ideal.ofBits .f32 0xFF800000#32) (fun x : Fin 32 => s (ix5 b p h f x)) Finset.univ := by
  pointwise

theorem expsub_apply (s : FVec Ideal S3x512x10x32x32 .f32) (B X : FVec Ideal S3x512x10x32 .f32) (b : Fin 3) (p : Fin 512) (h : Fin 10) (f g : Fin 32) :
    Host.exp (subf s (broadcastInDim S3x512x10x32x32 ![0, 1, 2, 3, 4] bcast_S3x512x10x32x1_S3x512x10x32x32_0_1_2_3_4
      (broadcastInDim S3x512x10x32x1 ![0, 1, 2, 3] bcast_S3x512x10x32_S3x512x10x32x1_0_1_2_3 (maximumf B X)))) (ix5 b p h f g)
      = Ideal.exp (s (ix5 b p h f g) - max (B (ix4 b p h f)) (X (ix4 b p h f))) := by
  pointwise

theorem bot_apply (b : Fin 3) (p : Fin 512) (h : Fin 10) (f : Fin 32) :
    broadcastInDim S3x512x10x32 ![] bcast_S_S3x512x10x32 (constant (F := Ideal) S_ .f32 0xFF800000#32) (ix4 b p h f) = Ideal.ofBits .f32 0xFF800000#32 := by
  pointwise

theorem exps_apply (s : FVec Ideal S3x512x10x32x32 .f32) (b : Fin 3) (p : Fin 512) (h : Fin 10) (f g : Fin 32) :
    exps s (ix5 b p h f g) = Ideal.exp (s (ix5 b p h f g) - max (Ideal.ofBits .f32 0xFF800000#32)
      (Finset.fold max (Ideal.ofBits .f32 0xFF800000#32) (fun x : Fin 32 => s (ix5 b p h f x)) Finset.univ)) := by
  unfold exps
  rw [expsub_apply, bot_apply, max_apply]

theorem probs_apply (e : FVec Ideal S3x512x10x32x32 .f32) (b : Fin 3) (p : Fin 512) (h : Fin 10) (f g : Fin 32) :
    probs e (ix5 b p h f g) = Ideal.div (e (ix5 b p h f g)) (∑ x : Fin 32, e (ix5 b p h f x)) := by
  pointwise [probs]

theorem outs_apply (p : FVec Ideal S3x512x10x32x32 .bf16) (v : FVec Ideal S3x16384x10x64 .bf16) (ok : IVec S3x32 1)
    (b : Fin 3) (k : Fin 16384) (h : Fin 10) (d : Fin 64) :
    outs p v ok (ix4 b k h d) = Scalar.select (ok (ix2 b ⟨k / 512, by omega⟩))
      (∑ g : Fin 32, at4 v b (512 * g + k % 512) h d * p (ix5 b ⟨k % 512, by omega⟩ h ⟨k / 512, by omega⟩ g)) 0 := by
  pointwise [outs]
  refine congrArg (fun w => Scalar.select (ok (ix2 b ⟨k / 512, by omega⟩)) w (0 : EReal)) (Finset.sum_congr rfl fun g _ => ?_)
  refine congrArg (fun w : EReal => w * p (ix5 b ⟨k % 512, by omega⟩ h ⟨k / 512, by omega⟩ g)) ?_
  refine at4_of (α := EReal) _ _ _ _ _ _ rfl ?_ rfl rfl
  dsimp
  omega

end Cert.ReferenceIdeal.Val

end
-- ==== Proof.Softmax.lean ====
/- The two softmaxes are one: the scores multiplied by `a / log 2` in base 2 and normalised by a reciprocal, and the scores multiplied by `a` and divided. -/
module

public import proofs.«01_k».proof.Proof.Words

@[expose] public section

noncomputable section

namespace Cert.Attn

open Idealize.ShloMosaic

theorem neg_inf : Ideal.ofBits .f32 0xFF800000#32 = ⊥ := by simp [Ideal.ofBits, Ideal.ieee]

theorem eighth : Ideal.ofBits .f32 0x3E000000#32 = (((1 : ℝ) / 8 : ℝ) : EReal) := by
  simp [Ideal.ofBits, Ideal.ieee, -EReal.coe_mul]
  norm_num

/-- One exponential: in base 2 of the difference by `a / log 2`, and of the difference of the products by `a`. -/
theorem exp2_scaled {a : ℝ} (ha : 0 < a) (M : ℝ) (T : EReal) (hT : T = ⊥ ∨ ∃ r : ℝ, T = r) :
    Ideal.exp2 ((T - (M : EReal)) * ((a / Real.log 2 : ℝ) : EReal)) = Ideal.exp (T * (a : EReal) - (M : EReal) * (a : EReal)) := by
  have hl : 0 < Real.log 2 := Real.log_pos (by norm_num)
  rcases hT with rfl | ⟨r, rfl⟩
  · rw [EReal.bot_sub, EReal.bot_mul_coe_of_pos (div_pos ha hl), EReal.bot_mul_coe_of_pos ha, EReal.bot_sub]
    rfl
  · rw [← EReal.coe_sub, ← EReal.coe_mul, ← EReal.coe_mul, ← EReal.coe_mul, ← EReal.coe_sub]
    show ((Real.rpow 2 _ : ℝ) : EReal) = ((Real.exp _ : ℝ) : EReal)
    congr 1
    show (2 : ℝ) ^ ((r - M) * (a / Real.log 2)) = Real.exp (r * a - M * a)
    rw [Real.rpow_def_of_pos (by norm_num)]
    congr 1
    field_simp

theorem exp_nonneg (x : EReal) : 0 ≤ Ideal.exp x := by
  induction x with
  | bot => exact le_refl (0 : EReal)
  | top => exact le_top
  | coe r => exact EReal.coe_nonneg.mpr (Real.exp_pos r).le

/-- The maximum of the products by `a` is the product of the maximum. -/
theorem max_scaled {a : ℝ} (ha : 0 < a) (T : Fin 32 → EReal) :
    Finset.fold max (⊥ : EReal) (fun x => T x * (a : EReal)) Finset.univ = Finset.fold max (⊥ : EReal) T Finset.univ * (a : EReal) := by
  have mono : Monotone fun y : EReal => y * (a : EReal) := fun x y h => mul_le_mul_of_nonneg_right h (EReal.coe_nonneg.mpr ha.le)
  have h := Finset.fold_hom (op := max) (op' := max) (m := fun y : EReal => y * (a : EReal)) (s := (Finset.univ : Finset (Fin 32))) (b := (⊥ : EReal)) (f := T)
    fun x y => mono.map_max
  rw [← h]
  show _ = Finset.fold max ((⊥ : EReal) * (a : EReal)) _ _
  rw [EReal.bot_mul_coe_of_pos ha]

/-- The averages of `V` by the two softmaxes agree, the scores finite and `a` positive: where the query's own frame is kept some key
    frame is kept, so that the maximum is finite and the sum positive. -/
theorem softmax_eq {a : ℝ} (ha : 0 < a) (own : BitVec 1) (ok : Fin 32 → BitVec 1) (hown : own = 1#1 → ∃ g, ok g = 1#1)
    (s : Fin 32 → EReal) (hs : ∀ x, ∃ r : ℝ, s x = r) (V : Fin 32 → EReal) :
    (∑ g : Fin 32, V g * Scalar.select own
        (Ideal.exp2 ((Scalar.select (ok g) (s g) ⊥ - Finset.fold max (⊥ : EReal) (fun x => Scalar.select (ok x) (s x) ⊥) Finset.univ) * ((a / Real.log 2 : ℝ) : EReal))
          * Ideal.div 1 (∑ x : Fin 32, Ideal.exp2 ((Scalar.select (ok x) (s x) ⊥ - Finset.fold max (⊥ : EReal) (fun x => Scalar.select (ok x) (s x) ⊥) Finset.univ) * ((a / Real.log 2 : ℝ) : EReal)))) 0)
      = Scalar.select own (∑ g : Fin 32, V g *
          Ideal.div (Ideal.exp (Scalar.select (ok g) (s g * (a : EReal)) ⊥ - max ⊥ (Finset.fold max (⊥ : EReal) (fun x => Scalar.select (ok x) (s x * (a : EReal)) ⊥) Finset.univ)))
            (∑ x : Fin 32, Ideal.exp (Scalar.select (ok x) (s x * (a : EReal)) ⊥ - max ⊥ (Finset.fold max (⊥ : EReal) (fun x => Scalar.select (ok x) (s x * (a : EReal)) ⊥) Finset.univ)))) 0 := by
  by_cases ho : own = 1#1
  swap
  · have h0 : ∀ x y : EReal, Scalar.select own x y = y := fun x y => if_neg ho
    simp only [h0, mul_zero, Finset.sum_const_zero]
  have h1 : ∀ x y : EReal, Scalar.select own x y = x := fun x y => if_pos ho
  simp only [h1]
  have hsel : ∀ x, Scalar.select (ok x) (s x * (a : EReal)) ⊥ = Scalar.select (ok x) (s x) ⊥ * (a : EReal) := by
    intro x
    by_cases hx : ok x = 1#1
    · exact (if_pos hx : Scalar.select (ok x) (s x * (a : EReal)) ⊥ = _).trans (congrArg (· * (a : EReal)) (if_pos hx : Scalar.select (ok x) (s x) ⊥ = _).symm)
    · refine (if_neg hx : Scalar.select (ok x) (s x * (a : EReal)) ⊥ = _).trans (Eq.trans ?_ (congrArg (· * (a : EReal)) (if_neg hx : Scalar.select (ok x) (s x) ⊥ = _).symm))
      exact (EReal.bot_mul_coe_of_pos ha).symm
  simp only [hsel]
  have hT : ∀ x, Scalar.select (ok x) (s x) ⊥ = ⊥ ∨ ∃ r : ℝ, Scalar.select (ok x) (s x) ⊥ = r := by
    intro x
    by_cases hx : ok x = 1#1
    · obtain ⟨r, hr⟩ := hs x
      exact Or.inr ⟨r, (if_pos hx : Scalar.select (ok x) (s x) ⊥ = _).trans hr⟩
    · exact Or.inl (if_neg hx)
  obtain ⟨g0, hg0⟩ := hown ho
  obtain ⟨r0, hr0⟩ : ∃ r : ℝ, Scalar.select (ok g0) (s g0) ⊥ = r := by
    obtain ⟨r, hr⟩ := hs g0
    exact ⟨r, (if_pos hg0 : Scalar.select (ok g0) (s g0) ⊥ = _).trans hr⟩
  generalize hTT : (fun x => Scalar.select (ok x) (s x) (⊥ : EReal)) = T at *
  have hTx : ∀ x, Scalar.select (ok x) (s x) (⊥ : EReal) = T x := fun x => congrFun hTT x
  simp only [hTx] at hT hr0 ⊢
  rw [max_scaled ha T, max_eq_right bot_le]
  obtain ⟨M, hM⟩ : ∃ M : ℝ, Finset.fold max (⊥ : EReal) T Finset.univ = M := by
    have h1 : Finset.fold max (⊥ : EReal) T Finset.univ ≠ ⊥ := by
      intro h
      have : (r0 : EReal) ≤ Finset.fold max (⊥ : EReal) T Finset.univ := (Finset.le_fold_max _).mpr (Or.inr ⟨g0, Finset.mem_univ _, hr0.ge⟩)
      rw [h] at this
      exact absurd (le_bot_iff.mp this) (EReal.coe_ne_bot r0)
    have h2 : Finset.fold max (⊥ : EReal) T Finset.univ < ⊤ := by
      refine (Finset.fold_max_lt _).mpr ⟨bot_lt_top, fun x _ => ?_⟩
      rcases hT x with h | ⟨r, h⟩
      · rw [h]; exact bot_lt_top
      · rw [h]; exact EReal.coe_lt_top r
    exact ⟨_, (EReal.coe_toReal h2.ne h1).symm⟩
  rw [hM]
  have he : ∀ x, Ideal.exp2 ((T x - (M : EReal)) * ((a / Real.log 2 : ℝ) : EReal)) = Ideal.exp (T x * (a : EReal) - (M : EReal) * (a : EReal)) :=
    fun x => exp2_scaled ha M (T x) (hT x)
  simp only [he]
  have hD : (∑ x : Fin 32, Ideal.exp (T x * (a : EReal) - (M : EReal) * (a : EReal))) ≠ 0 := by
    have hp : 0 < Ideal.exp (T g0 * (a : EReal) - (M : EReal) * (a : EReal)) := by
      rw [hr0, ← EReal.coe_mul, ← EReal.coe_mul, ← EReal.coe_sub]
      exact EReal.coe_pos.mpr (Real.exp_pos _)
    exact (lt_of_lt_of_le hp (Finset.single_le_sum (f := fun x => Ideal.exp (T x * (a : EReal) - (M : EReal) * (a : EReal)))
      (fun x _ => exp_nonneg _) (Finset.mem_univ g0))).ne'
  refine Finset.sum_congr rfl fun g _ => ?_
  rw [Ideal.div, Ideal.div, if_neg hD, if_neg hD, one_mul]

end Cert.Attn

end
-- ==== Proof.Tame.lean ====
/- What the precondition says: the scales are positive and finite, and no code is a NaN. -/
module

public import proofs.«01_k».proof.Proof.Words
public import proofs.«01_k».proof.Pre_tame
public import Idealize.ShloMosaic.Lib.ReduceAll

@[expose] public section

set_option maxRecDepth 16384

noncomputable section

namespace Cert.Attn

open Idealize.ShloMosaic

/-- A code other than NaN stands for a real number. -/
theorem finite_code : ∀ b : BitVec 8, b &&& 127#8 ≠ 127#8 → ∃ r : ℝ, Ideal.ofBits .fp8e4m3 b = r := by
  intro b hb
  show ∃ r : ℝ, Ideal.e4m3fn b = r
  have h : ¬ ((b.extractLsb' 3 4).toNat = 15 ∧ (b.extractLsb' 0 3).toNat = 7) := by
    revert hb
    exact (by decide : ∀ b : BitVec 8, b &&& 127#8 ≠ 127#8 → ¬ ((b.extractLsb' 3 4).toNat = 15 ∧ (b.extractLsb' 0 3).toNat = 7)) b
  unfold Ideal.e4m3fn
  dsimp only
  rw [if_neg h]
  split_ifs <;> exact ⟨_, rfl⟩

/-- A byte of a word shifted down and masked. -/
theorem byte_mask (w : BitVec 32) (j : ℕ) (hj : j < 4) (h : (w.sshiftRight (8 * j)) &&& 127#32 ≠ 127#32) : byte w j &&& 127#8 ≠ 127#8 := by
  intro e
  apply h
  apply BitVec.eq_of_getLsbD_eq
  intro i hi
  have e' := congrArg (fun v : BitVec 8 => v.getLsbD i) e
  simp only [byte, BitVec.getLsbD_and, BitVec.getLsbD_extractLsb', BitVec.getLsbD_sshiftRight] at e' ⊢
  by_cases h7 : i < 7
  · have h1 : (127#8).getLsbD i = true := by interval_cases i <;> rfl
    have h2 : (127#32).getLsbD i = true := by interval_cases i <;> rfl
    have h3 : 8 * j + i < 32 := by omega
    simp only [h1, h2, Bool.and_true, h3, if_true, hi, show i < 8 by omega, decide_true, Bool.true_and, show ¬ 32 ≤ i by omega, decide_false, Bool.not_false] at e' ⊢
    exact e'
  · have h2 : (127#32).getLsbD i = false := by
      have : 7 ≤ i := by omega
      interval_cases i <;> rfl
    rw [h2, Bool.and_false]

end Cert.Attn

namespace Cert.Pre_tame

open Idealize.ShloMosaic Cert.Attn Facts

variable [Facts]

/-- A left fold by `or` over `i1` words that came out 0 met only 0s. -/
theorem foldl_ori_eq_zero {ι : Type} (f : ι → BitVec 1) :
    ∀ (l : List ι) (init : BitVec 1), l.foldl (fun r n => IntOp.ori r (f n)) init = 0#1 → init = 0#1 ∧ ∀ n ∈ l, f n = 0#1
  | [], init, h => ⟨h, fun _ hn => nomatch hn⟩
  | a :: l, init, h => by
    obtain ⟨h1, h2⟩ := foldl_ori_eq_zero f l _ h
    have h3 : init = 0#1 ∧ f a = 0#1 := (by decide : ∀ x y : BitVec 1, IntOp.ori x y = 0#1 → x = 0#1 ∧ y = 0#1) _ _ h1
    exact ⟨h3.1, fun n hn => by rcases List.mem_cons.1 hn with rfl | hn; exacts [h3.2, h2 n hn]⟩

/-- A reduction by `or` over all axes that is 0 had a 0 at every index. -/
theorem reduce_ori_all {s t u : Shape} {axes : List (Fin s.rank)} [Subsingleton t.Idx] (x : s.Idx → BitVec 1) (init : u.Idx → BitVec 1) (h : s.ReducesTo axes t)
    (hu : 0 < u.numel) (j : t.Idx) (e : Host.reduce IntOp.ori x init h hu j = 0#1) (i : s.Idx) : x i = 0#1 := by
  rw [Host.reduce_eq_foldl] at e
  refine (foldl_ori_eq_zero x _ _ e).2 i ?_
  rw [List.mem_filter]
  exact ⟨List.mem_map.2 ⟨s.rowMajor i, List.mem_finRange _, Equiv.symm_apply_apply _ _⟩, by simp [Subsingleton.elim (h.drop i) j]⟩

/-- Four arrays of flags stacked: the first index picks the array. -/
theorem cat_apply (X0 X1 X2 X3 : IVec S1x3x16384x10x16 1) (j : Fin 4) (b : Fin 3) (k : Fin 16384) (h : Fin 10) (w : Fin 16) :
    concatenate S4x3x16384x10x16 0 [⟨S1x3x16384x10x16, X0⟩, ⟨S1x3x16384x10x16, X1⟩, ⟨S1x3x16384x10x16, X2⟩, ⟨S1x3x16384x10x16, X3⟩]
      concatenates_S1x3x16384x10x16_S1x3x16384x10x16_S1x3x16384x10x16_S1x3x16384x10x16_S4x3x16384x10x16_d0 (ix5 j b k h w)
      = (![X0, X1, X2, X3] j) (ix5 0 b k h w) := by
  fin_cases j <;> pointwise

/-- The flags of one byte position: is the byte, sign apart, all ones? -/
def flag (x : IVec S3x16384x10x16 32) (n : BitVec 32) : IVec S3x16384x10x16 1 :=
  cmpi .eq (andi (Host.shrsi x (broadcastInDim S3x16384x10x16 ![] bcast_S_S3x16384x10x16 (constantI S_ 32 n))) (broadcastInDim S3x16384x10x16 ![] bcast_S_S3x16384x10x16 (constantI S_ 32 127#32)))
    (broadcastInDim S3x16384x10x16 ![] bcast_S_S3x16384x10x16 (constantI S_ 32 127#32))

/-- The same flags with a leading axis of one. -/
def flagRow (x : IVec S3x16384x10x16 32) (n : BitVec 32) : IVec S1x3x16384x10x16 1 :=
  broadcastInDim S1x3x16384x10x16 ![1, 2, 3, 4] bcast_S3x16384x10x16_S1x3x16384x10x16_1_2_3_4 (flag x n)

/-- Does any word hold a NaN code? -/
def anyNaN (x : IVec S3x16384x10x16 32) : IVec S_ 1 :=
  Host.reduce IntOp.ori (concatenate S4x3x16384x10x16 0 [⟨S1x3x16384x10x16, flagRow x 0#32⟩, ⟨S1x3x16384x10x16, flagRow x 8#32⟩, ⟨S1x3x16384x10x16, flagRow x 16#32⟩, ⟨S1x3x16384x10x16, flagRow x 24#32⟩]
    concatenates_S1x3x16384x10x16_S1x3x16384x10x16_S1x3x16384x10x16_S1x3x16384x10x16_S4x3x16384x10x16_d0) (constantI S_ 1 0#1)
    reducesTo_S4x3x16384x10x16_S_d0_1_2_3_4 h_S_

/-- Are all scales positive and finite? -/
def allPos (x : FVec Ideal S3x10 .f32) : IVec S_ 1 :=
  Host.reduce IntOp.andi (andi (cmpf .ogt x (broadcastInDim S3x10 ![] bcast_S_S3x10 (constant (F := Ideal) S_ .f32 0x00000000#32)))
    (cmpf .olt x (broadcastInDim S3x10 ![] bcast_S_S3x10 (constant (F := Ideal) S_ .f32 0x7F800000#32)))) (constantI S_ 1 1#1) reducesTo_S3x10_S_d0_1 h_S_

/-- The precondition, put together from its four questions. -/
theorem fn_eq (qx kx : IVec S3x16384x10x16 32) (qs ks : FVec Ideal S3x10 .f32) (v : FVec Ideal S3x16384x10x64 .bf16) (nf : IVec S3 32) :
    fn (F := Ideal) qx kx qs ks v nf = andi (andi (andi (allPos qs) (allPos ks)) (noti (anyNaN qx))) (noti (anyNaN kx)) := rfl

instance : Subsingleton S_.Idx := ⟨fun _ _ => funext fun i => i.elim0⟩

/-- A word without a NaN code stands for four real numbers. -/
theorem words_of {x : IVec S3x16384x10x16 32} (hx : ∀ j : S_.Idx, anyNaN x j = 0#1) (b : Fin 3) (k : Fin 16384) (h : Fin 10) (w : Fin 16) (j : ℕ) (hj : j < 4) :
    ∃ r : ℝ, f8 (x (ix4 b k h w)) j = r := by
  have all := fun i => reduce_ori_all _ _ _ _ _ (hx (fun i => i.elim0)) i
  have row : ∀ n : BitVec 32, flagRow x n (ix5 0 b k h w) = IntOp.cmpi .eq (IntOp.andi (IntOp.shrsi .host (x (ix4 b k h w)) n) 127#32) 127#32 := by
    intro n
    rw [flagRow]
    pointwise [flag]
  have ne : ∀ v : BitVec 32, IntOp.cmpi .eq v 127#32 = 0#1 → v ≠ 127#32 := by
    rintro v e rfl
    exact absurd e (by decide)
  have key : (x (ix4 b k h w)).sshiftRight (8 * j) &&& 127#32 ≠ 127#32 := by
    interval_cases j
    · exact ne _ ((row 0#32).symm.trans ((cat_apply _ _ _ _ 0 b k h w).symm.trans (all (ix5 0 b k h w))))
    · exact ne _ ((row 8#32).symm.trans ((cat_apply _ _ _ _ 1 b k h w).symm.trans (all (ix5 1 b k h w))))
    · exact ne _ ((row 16#32).symm.trans ((cat_apply _ _ _ _ 2 b k h w).symm.trans (all (ix5 2 b k h w))))
    · exact ne _ ((row 24#32).symm.trans ((cat_apply _ _ _ _ 3 b k h w).symm.trans (all (ix5 3 b k h w))))
  exact finite_code _ (byte_mask _ j hj key)

/-- A positive finite scale is a positive real number. -/
theorem scales_of {x : FVec Ideal S3x10 .f32} (hx : ∀ j : S_.Idx, allPos x j = 1#1) (i : S3x10.Idx) : ∃ r : ℝ, 0 < r ∧ x i = r := by
  have all := Host.reduce_andi_all (t := S_) _ _ reducesTo_S3x10_S_d0_1 h_S_ _ (hx (fun i => i.elim0)) i
  obtain ⟨h0, h1⟩ := IntOp.andi_eq_one.1 all
  have hz : Ideal.ofBits .f32 0x00000000#32 = 0 := Ideal.ofBits_zero_f32
  have ht : Ideal.ofBits .f32 0x7F800000#32 = ⊤ := by simp [Ideal.ofBits, Ideal.ieee]
  have one : ∀ p : Bool, BitVec.ofBool p = 1#1 → p = true := by decide
  have p0 : (0 : EReal) < x i := by
    have e : BitVec.ofBool (decide (Ideal.ofBits .f32 0x00000000#32 < x i)) = 1#1 := h0
    rw [hz] at e
    exact of_decide_eq_true (one _ e)
  have p1 : (x i : EReal) < ⊤ := by
    have e : BitVec.ofBool (decide ((x i : EReal) < Ideal.ofBits .f32 0x7F800000#32)) = 1#1 := h1
    rw [ht] at e
    exact of_decide_eq_true (one _ e)
  have r : (((x i : EReal).toReal : ℝ) : EReal) = x i := EReal.coe_toReal p1.ne (ne_of_gt (lt_of_le_of_lt bot_le p0))
  exact ⟨(x i : EReal).toReal, EReal.coe_pos.1 (by rw [r]; exact p0), r.symm⟩

/-- The precondition's four facts. -/
theorem facts_of {qx kx : IVec S3x16384x10x16 32} {qs ks : FVec Ideal S3x10 .f32} {v : FVec Ideal S3x16384x10x64 .bf16} {nf : IVec S3 32}
    (hp : fn (F := Ideal) qx kx qs ks v nf = fun _ => 1#1) :
    (∀ i, ∃ r : ℝ, 0 < r ∧ qs i = r) ∧ (∀ i, ∃ r : ℝ, 0 < r ∧ ks i = r)
      ∧ (∀ b k h w (j : ℕ), j < 4 → ∃ r : ℝ, f8 (qx (ix4 b k h w)) j = r) ∧ (∀ b k h w (j : ℕ), j < 4 → ∃ r : ℝ, f8 (kx (ix4 b k h w)) j = r) := by
  rw [fn_eq] at hp
  have zero : ∀ c : BitVec 1, ~~~c = 1#1 → c = 0#1 := by decide
  have all : ∀ j : S_.Idx, ((allPos qs j = 1#1 ∧ allPos ks j = 1#1) ∧ anyNaN qx j = 0#1) ∧ anyNaN kx j = 0#1 := by
    intro j
    obtain ⟨h1, h2⟩ := IntOp.andi_eq_one.1 (congrFun hp j)
    obtain ⟨h3, h4⟩ := IntOp.andi_eq_one.1 h1
    exact ⟨⟨IntOp.andi_eq_one.1 h3, zero _ h4⟩, zero _ h2⟩
  exact ⟨scales_of fun j => (all j).1.1.1, scales_of fun j => (all j).1.1.2, words_of fun j => (all j).1.2, words_of fun j => (all j).2⟩

end Cert.Pre_tame

end
-- ==== Proof.Equation.lean ====
/- The kernel's result and the reference's are one function of tame arguments. -/
module

public import proofs.«01_k».proof.Proof.OutputValue
public import proofs.«01_k».proof.Proof.DecodeValue
public import proofs.«01_k».proof.Proof.RefValue
public import proofs.«01_k».proof.Proof.Softmax
public import proofs.«01_k».proof.Proof.Tame

@[expose] public section

set_option maxRecDepth 16384

noncomputable section

namespace Cert.Attn

open Idealize.ShloMosaic

/-- The kernel's softmax in the words of the algebra. -/
theorem attend_eq (qx kx : (⟨4, ![3, 16384, 10, 16]⟩ : Shape).Idx → BitVec 32) (a : ℝ) (ha : 0 < a) (v : (⟨4, ![3, 16384, 10, 64]⟩ : Shape).Idx → EReal)
    (nf : (⟨1, ![3]⟩ : Shape).Idx → BitVec 32) (b k h d : ℕ) (hk : k < 16384) (hs : ∀ x : Fin 32, ∃ r : ℝ, scoreOf qx kx b k h x = r) :
    attend qx kx ((a / Real.log 2 : ℝ) : EReal) v nf b k h d
      = Scalar.select (kept nf b (k / 512)) (∑ g : Fin 32, at4 (α := EReal) v b (512 * g + k % 512) h d *
          Ideal.div (Ideal.exp (Scalar.select (kept nf b g) (scoreOf qx kx b k h g * (a : EReal)) ⊥ - max ⊥ (Finset.fold max (⊥ : EReal) (fun x : Fin 32 => Scalar.select (kept nf b x) (scoreOf qx kx b k h x * (a : EReal)) ⊥) Finset.univ)))
            (∑ x : Fin 32, Ideal.exp (Scalar.select (kept nf b x) (scoreOf qx kx b k h x * (a : EReal)) ⊥ - max ⊥ (Finset.fold max (⊥ : EReal) (fun x : Fin 32 => Scalar.select (kept nf b x) (scoreOf qx kx b k h x * (a : EReal)) ⊥) Finset.univ)))) 0 := by
  refine Eq.trans ?_ (softmax_eq ha (kept nf b (k / 512)) (fun g : Fin 32 => kept nf b g) (fun e => ⟨⟨k / 512, by omega⟩, e⟩) (fun x : Fin 32 => scoreOf qx kx b k h x) hs (fun g : Fin 32 => at4 (α := EReal) v b (512 * g + k % 512) h d))
  unfold attend soft
  rw [neg_inf]
  rfl

/-- A score of real codes is real. -/
theorem score_real {qx kx : (⟨4, ![3, 16384, 10, 16]⟩ : Shape).Idx → BitVec 32}
    (hq : ∀ b k h w (j : ℕ), j < 4 → ∃ r : ℝ, f8 (qx (ix4 b k h w)) j = r) (hk : ∀ b k h w (j : ℕ), j < 4 → ∃ r : ℝ, f8 (kx (ix4 b k h w)) j = r) (b k h f : ℕ) :
    ∃ r : ℝ, scoreOf qx kx b k h f = r := by
  have key : ∀ e : Fin 64, ∃ r : ℝ, codeOf kx b (512 * f + k % 512) h e * codeOf qx b k h e = r := by
    intro e
    obtain ⟨x, hx⟩ := hk (Fin.ofNat 3 b) (Fin.ofNat 16384 (512 * f + k % 512)) (Fin.ofNat 10 h) (Fin.ofNat 16 (e.val / 4)) (e.val % 4) (Nat.mod_lt _ (by decide))
    obtain ⟨y, hy⟩ := hq (Fin.ofNat 3 b) (Fin.ofNat 16384 k) (Fin.ofNat 10 h) (Fin.ofNat 16 (e.val / 4)) (e.val % 4) (Nat.mod_lt _ (by decide))
    exact ⟨x * y, (congrArg₂ (· * ·) hx hy).trans (EReal.coe_mul x y).symm⟩
  choose r hr using key
  refine ⟨∑ e, r e, ?_⟩
  rw [scoreOf, Finset.sum_congr rfl fun e _ => hr e]
  exact (map_sum (⟨⟨fun x : ℝ => (x : EReal), EReal.coe_zero⟩, EReal.coe_add⟩ : ℝ →+ EReal) r Finset.univ).symm

end Cert.Attn

namespace Cert.ReferenceIdeal.Val

open Cert.ReferenceIdeal Cert.ReferenceIdeal.Gen Cert.Attn
open Idealize.ShloMosaic Idealize.ShloMosaic.TcCoe Idealize.SL.Sem

/-- A decoded token's channel is the code's number. -/
theorem code_apply (x : S3x16384x10x16.Idx → BitVec 32) (b : Fin 3) (f : Fin 32) (p : Fin 512) (h : Fin 10) (e : Fin 64) :
    tokens (decoded x) (ix5 b f p h e) = codeOf x b (512 * f + p) h e := by
  rw [tokens_apply]
  have hb := b.isLt; have hf := f.isLt; have hp := p.isLt; have hh := h.isLt; have he := e.isLt
  have r : (64 * (10 * b.val + h.val) + e.val) % 1920 = 64 * (10 * b.val + h.val) + e.val := Nat.mod_eq_of_lt (by omega)
  have c : (512 * f.val + p.val) % 16384 = 512 * f.val + p.val := Nat.mod_eq_of_lt (by omega)
  show f8 (at4 x ((64 * (10 * b.val + h.val) + e.val) % 1920 / 640) ((512 * f.val + p.val) % 16384) ((64 * (10 * b.val + h.val) + e.val) % 1920 / 64 % 10)
    ((64 * (10 * b.val + h.val) + e.val) % 1920 % 64 / 4)) ((64 * (10 * b.val + h.val) + e.val) % 1920 % 4) = f8 (at4 x b (512 * f + p) h (e / 4)) (e % 4)
  rw [r, c, show (64 * (10 * b.val + h.val) + e.val) / 640 = b.val by omega, show (64 * (10 * b.val + h.val) + e.val) / 64 % 10 = h.val by omega,
    show (64 * (10 * b.val + h.val) + e.val) % 64 / 4 = e.val / 4 by omega, show (64 * (10 * b.val + h.val) + e.val) % 4 = e.val % 4 by omega]

/-- The reference's score is the kernel's, scaled. -/
theorem score_apply (qx kx : S3x16384x10x16.Idx → BitVec 32) (qs ks : S3x10.Idx → EReal) (nf : S3.Idx → BitVec 32) (a : ℝ) (b : Fin 3) (k : Fin 16384) (h : Fin 10) (g : Fin 32)
    (ha : qs (ix2 b h) * ks (ix2 b h) * Ideal.ofBits .f32 0x3E000000#32 = (a : EReal)) :
    scores (tokens (decoded qx)) (tokens (decoded kx)) qs ks (frames nf) (ix5 b ⟨k.val % 512, by omega⟩ h ⟨k.val / 512, by omega⟩ g)
      = Scalar.select (kept nf b g) (scoreOf qx kx b k h g * (a : EReal)) ⊥ := by
  have e1 : ∀ e : Fin 64, tokens (decoded qx) (ix5 b ⟨k.val / 512, by omega⟩ ⟨k.val % 512, by omega⟩ h e) * tokens (decoded kx) (ix5 b g ⟨k.val % 512, by omega⟩ h e)
      = codeOf kx b (512 * g + k % 512) h e * codeOf qx b k h e := by
    intro e
    rw [code_apply, code_apply, mul_comm]
    show codeOf kx b (512 * g + k % 512) h e * codeOf qx b (512 * (k / 512) + k % 512) h e = codeOf kx b (512 * g + k % 512) h e * codeOf qx b k h e
    rw [Nat.div_add_mod]
  have e2 : frames nf (ix2 b g) = kept nf b g := by
    rw [frames_apply, kept, fin_ofNat]
  rw [scores_apply, ha, neg_inf, e2, scoreOf, Finset.sum_congr rfl fun e _ => e1 e]

/-- The reference's result at a token, a head and a channel of tame arguments. -/
theorem REF_apply (qx kx : S3x16384x10x16.Idx → BitVec 32) (qs ks : S3x10.Idx → EReal) (v : S3x16384x10x64.Idx → EReal) (nf : S3.Idx → BitVec 32) (a : ℝ) (hpos : 0 < a)
    (hq : ∀ b k h w (j : ℕ), j < 4 → ∃ r : ℝ, f8 (qx (ix4 b k h w)) j = r) (hk : ∀ b k h w (j : ℕ), j < 4 → ∃ r : ℝ, f8 (kx (ix4 b k h w)) j = r)
    (b : Fin 3) (k : Fin 16384) (h : Fin 10) (d : Fin 64)
    (ha : qs (ix2 b h) * ks (ix2 b h) * Ideal.ofBits .f32 0x3E000000#32 = (a : EReal)) :
    REF (decoded qx) (decoded kx) qs ks v nf (ix4 b k h d) = attend qx kx ((a / Real.log 2 : ℝ) : EReal) v nf b k h d := by
  have hs := fun g => score_apply qx kx qs ks nf a b k h g ha
  have ex : ∀ g : Fin 32, exps (scores (tokens (decoded qx)) (tokens (decoded kx)) qs ks (frames nf)) (ix5 b ⟨k.val % 512, by omega⟩ h ⟨k.val / 512, by omega⟩ g)
      = Ideal.exp (Scalar.select (kept nf b g) (scoreOf qx kx b k h g * (a : EReal)) ⊥ - max ⊥ (Finset.fold max (⊥ : EReal) (fun x : Fin 32 => Scalar.select (kept nf b x) (scoreOf qx kx b k h x * (a : EReal)) ⊥) Finset.univ)) := by
    intro g
    rw [exps_apply, neg_inf, hs, funext hs]
  have pr : ∀ g : Fin 32, at4 (α := EReal) v b (512 * g + k % 512) h d * probs (exps (scores (tokens (decoded qx)) (tokens (decoded kx)) qs ks (frames nf))) (ix5 b ⟨k.val % 512, by omega⟩ h ⟨k.val / 512, by omega⟩ g)
      = at4 (α := EReal) v b (512 * g + k % 512) h d * Ideal.div (Ideal.exp (Scalar.select (kept nf b g) (scoreOf qx kx b k h g * (a : EReal)) ⊥ - max ⊥ (Finset.fold max (⊥ : EReal) (fun x : Fin 32 => Scalar.select (kept nf b x) (scoreOf qx kx b k h x * (a : EReal)) ⊥) Finset.univ)))
            (∑ x : Fin 32, Ideal.exp (Scalar.select (kept nf b x) (scoreOf qx kx b k h x * (a : EReal)) ⊥ - max ⊥ (Finset.fold max (⊥ : EReal) (fun x : Fin 32 => Scalar.select (kept nf b x) (scoreOf qx kx b k h x * (a : EReal)) ⊥) Finset.univ))) := by
    intro g
    rw [probs_apply, ex, Finset.sum_congr rfl fun x _ => ex x]
  have own : frames nf (ix2 b ⟨k.val / 512, by omega⟩) = kept nf b (k / 512) := by
    rw [frames_apply, kept, fin_ofNat]
  rw [attend_eq qx kx a hpos v nf b k h d k.isLt fun x => score_real hq hk b k h x, REF]
  refine (outs_apply _ v (frames nf) b k h d).trans ?_
  rw [own, Finset.sum_congr rfl fun g _ => pr g]

/-- The reference's run leaves the result of the arguments. -/
theorem value (m : (ℓ : Loc nD τ sig) → Buf (Elt Ideal) ℓ) (ρ : Dev nD → PrngReg) :
    θ_run defs (onTc (τ := τ) (main (F := Ideal))) ⟨m, fun _ => 0, ρ⟩ (fun r => ∀ c : Dev nD, r.2.mem ((c.tc : Thread nD τ).loc main_v42)
      = REF (decoded (m ((c : Thread nD τ).loc main_arg0))) (decoded (m ((c : Thread nD τ).loc main_arg1))) (m ((c : Thread nD τ).loc main_arg2)) (m ((c : Thread nD τ).loc main_arg3))
          (m ((c : Thread nD τ).loc main_arg4)) (m ((c : Thread nD τ).loc main_arg5))) :=
  (θ_run defs _ _).mono (fun _ h c => ((h c).2 main_v42 (by decide : main_v42 ∈ Pipeline.restRefs sig spec0)).trans (result m c)) (Gen.run_main m ρ)

end Cert.ReferenceIdeal.Val

namespace Cert.KernelIdeal.Val

open Cert.KernelIdeal Cert.Attn
open Idealize.ShloMosaic Idealize.ShloMosaic.TcCoe Idealize.SL.Sem

/-- On tame arguments the kernel's result is the reference's. -/
theorem KER_eq (m : (ℓ : Loc nD τ sig) → Buf (Elt Ideal) ℓ) (c : Dev nD) [Cert.Pre_tame.Facts]
    (hp : Cert.Pre_tame.fn (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) = fun _ => 1#1) :
    KER m c = Cert.ReferenceIdeal.Val.REF (Cert.ReferenceIdeal.Val.decoded (m ((c : Thread nD τ).loc main_arg0))) (Cert.ReferenceIdeal.Val.decoded (m ((c : Thread nD τ).loc main_arg1)))
      (m ((c : Thread nD τ).loc main_arg2)) (m ((c : Thread nD τ).loc main_arg3)) (m ((c : Thread nD τ).loc main_arg4)) (m ((c : Thread nD τ).loc main_arg5)) := by
  obtain ⟨hqs, hks, hq, hk⟩ := Cert.Pre_tame.facts_of hp
  funext y
  obtain ⟨b, k, h, d, rfl⟩ : ∃ (b : Fin 3) (k : Fin 16384) (h : Fin 10) (d : Fin 64), y = ix4 b k h d := ⟨y 0, y 1, y 2, y 3, eq_ix4 y⟩
  obtain ⟨q, q0, eq⟩ := hqs (ix2 b h)
  obtain ⟨s, s0, es⟩ := hks (ix2 b h)
  have hm : ∀ qs ks : S3x10.Idx → EReal, qs (ix2 b h) = q → ks (ix2 b h) = s →
      qs (ix2 b h) * ks (ix2 b h) * Ideal.ofBits .f32 0x3E000000#32 = ((q * s * (1 / 8) : ℝ) : EReal) := by
    intro qs ks e1 e2
    rw [e1, e2, eighth, ← EReal.coe_mul, ← EReal.coe_mul]
  have hc : scale (m ((c : Thread nD τ).loc main_arg2)) (m ((c : Thread nD τ).loc main_arg3)) b h = ((q * s * (1 / 8) / Real.log 2 : ℝ) : EReal) := by
    have e1 : at2 (α := EReal) (m ((c : Thread nD τ).loc main_arg2) : S3x10.Idx → EReal) b h = q := by
      unfold at2; rw [fin_ofNat, fin_ofNat]; exact eq
    have e2 : at2 (α := EReal) (m ((c : Thread nD τ).loc main_arg3) : S3x10.Idx → EReal) b h = s := by
      unfold at2; rw [fin_ofNat, fin_ofNat]; exact es
    refine (congrArg₂ (· * ·) (congrArg₂ (· * ·) e1 e2) (rfl : _ = (((8 * Real.log 2)⁻¹ : ℝ) : EReal))).trans ?_
    rw [← EReal.coe_mul, ← EReal.coe_mul]
    refine congrArg _ ?_
    rw [mul_inv]
    ring
  refine Eq.trans ?_ (Cert.ReferenceIdeal.Val.REF_apply _ _ _ _ _ _ (q * s * (1 / 8)) (by positivity) hq hk b k h d (hm _ _ eq es)).symm
  rw [← hc]
  rfl

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Frame
public import proofs.«01_k».proof.Proof.KernelFrame
public import proofs.«01_k».proof.Proof.KernelIdealFrame
public import proofs.«01_k».proof.Proof.Gen.Pre_tame
public import proofs.«01_k».proof.Proof.Rewrites
public import proofs.«01_k».proof.Proof.Equation

@[expose] public section

noncomputable section

open Idealize.ShloMosaic

namespace Cert.Proof

theorem frame_p : Cert.quiescent_Kernel := fun m ρ _ => Cert.Kernel.Hand.frame m ρ trivial
theorem frame_pi : Cert.quiescent_KernelIdeal := fun m ρ _ => Cert.KernelIdeal.Val.frame m ρ trivial
theorem frame_ri : Cert.quiescent_ReferenceIdeal := fun m ρ _ => Cert.ReferenceIdeal.Gen.frame m ρ

theorem frame_pi_tame : Cert.quiescent_KernelIdeal_pre_tame := fun m ρ _ => Cert.KernelIdeal.Val.frame m ρ trivial
theorem frame_ri_tame : Cert.quiescent_ReferenceIdeal_pre_tame := fun m ρ _ => Cert.ReferenceIdeal.Gen.frame m ρ

/-- On tame arguments the kernel and the reference leave one result. -/
theorem algebraic : Cert.algebraic_KernelIdeal_ReferenceIdeal_pre_tame := by
  intro m g m' g' hp hargs
  refine ⟨fun c => Cert.KernelIdeal.Val.KER m c, ?_, ?_⟩
  · refine (θ_run Cert.KernelIdeal.defs _ _).mono ?_ (θ_run_and (Cert.KernelIdeal.Val.unchanged m g trivial) (Cert.KernelIdeal.Val.value m g trivial))
    exact fun r h c => ⟨h.2 c, h.1 c⟩
  · refine (θ_run Cert.ReferenceIdeal.defs _ _).mono ?_ (θ_run_and (Cert.ReferenceIdeal.Gen.unchanged m' g') (Cert.ReferenceIdeal.Val.value m' g'))
    refine fun r h c => ⟨(h.2 c).trans ?_, h.1 c⟩
    obtain ⟨h0, h1, h2, h3, h4, h5⟩ := hargs c
    exact (Cert.ReferenceIdeal.Val.REF_congr (congrArg _ h0) (congrArg _ h1) h2 h3 h4 h5).trans (Cert.KernelIdeal.Val.KER_eq m c (hp c)).symm

theorem claim : Cert.Claim :=
  ⟨Cert.Kernel.Gen.facts, Cert.KernelIdeal.Gen.facts, Cert.ReferenceIdeal.Gen.facts, Cert.Pre_tame.Gen.facts,
    frame_p, frame_pi, frame_pi_tame, frame_ri, frame_ri_tame, preserves, algebraic⟩

end Cert.Proof

end
